-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![32768, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![2048, 1]⟩ ⟨2, ![32768, 1]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 512, 1024]⟩ ⟨3, ![64, 512, 1024]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 1024]⟩ ⟨2, ![32768, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S512x64 : Shape := ⟨2, ![512, 64]⟩
abbrev S2048x1 : Shape := ⟨2, ![2048, 1]⟩
abbrev S4x512x1024 : Shape := ⟨3, ![4, 512, 1024]⟩
abbrev S2048x1024 : Shape := ⟨2, ![2048, 1024]⟩
abbrev S16x64 : Shape := ⟨2, ![16, 64]⟩
abbrev S2x4x512x1024 : Shape := ⟨4, ![2, 4, 512, 1024]⟩
abbrev S_ : Shape := ⟨0, ![]⟩
abbrev S2 : Shape := ⟨1, ![2]⟩
abbrev S1x4x512x1024 : Shape := ⟨4, ![1, 4, 512, 1024]⟩
abbrev S2048x64 : Shape := ⟨2, ![2048, 64]⟩
abbrev S64 : Shape := ⟨1, ![64]⟩
abbrev S1x64 : Shape := ⟨2, ![1, 64]⟩
abbrev S2047x64 : Shape := ⟨2, ![2047, 64]⟩
abbrev S2x64 : Shape := ⟨2, ![2, 64]⟩
abbrev S2046x64 : Shape := ⟨2, ![2046, 64]⟩
abbrev S4x64 : Shape := ⟨2, ![4, 64]⟩
abbrev S2044x64 : Shape := ⟨2, ![2044, 64]⟩
abbrev S8x64 : Shape := ⟨2, ![8, 64]⟩
abbrev S2040x64 : Shape := ⟨2, ![2040, 64]⟩
abbrev S2032x64 : Shape := ⟨2, ![2032, 64]⟩
abbrev S32x64 : Shape := ⟨2, ![32, 64]⟩
abbrev S2016x64 : Shape := ⟨2, ![2016, 64]⟩
abbrev S64x64 : Shape := ⟨2, ![64, 64]⟩
abbrev S1984x64 : Shape := ⟨2, ![1984, 64]⟩
abbrev S128x64 : Shape := ⟨2, ![128, 64]⟩
abbrev S1920x64 : Shape := ⟨2, ![1920, 64]⟩
abbrev S256x64 : Shape := ⟨2, ![256, 64]⟩
abbrev S1792x64 : Shape := ⟨2, ![1792, 64]⟩
abbrev S1536x64 : Shape := ⟨2, ![1536, 64]⟩
abbrev S1024x64 : Shape := ⟨2, ![1024, 64]⟩
abbrev S2048 : Shape := ⟨1, ![2048]⟩
abbrev S1 : Shape := ⟨1, ![1]⟩
abbrev S1x1x512x1024 : Shape := ⟨4, ![1, 1, 512, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x512, .f32⟩
  | .hbm, ⟨1, _⟩ => ⟨S512x64, .f32⟩
  | .hbm, ⟨2, _⟩ => ⟨S2048x1, .i32⟩
  | .hbm, ⟨3, _⟩ => ⟨S4x512x1024, .f32⟩
  | .hbm, ⟨4, _⟩ => ⟨S2048x1024, .f32⟩
  | .local _ .vmem, ⟨0, _⟩ => ⟨S2048x512, .f32⟩
  | .local _ .vmem, ⟨1, _⟩ => ⟨S2048x1, .i32⟩
  | .local _ .vmem, ⟨2, _⟩ => ⟨S4x512x1024, .f32⟩
  | .local _ .vmem, ⟨3, _⟩ => ⟨S2048x1024, .f32⟩
  | .local _ .vmem, ⟨4, _⟩ => ⟨S16x64, .i32⟩
  | .local _ .vmem, ⟨5, _⟩ => ⟨S2x4x512x1024, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 3 → Bool
  | ⟨0, _⟩ => true
  | ⟨1, _⟩ => true
  | ⟨2, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 3 11 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 2

abbrev nD : Nat := 16
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v42 : Index := Scalar.indexCast v2
  let c0_28 : Index := 0#32
  ![v42.toNat, 0]
@[reducible] def k0_t1_loop : Scf.Loop 32 :=
  let c0_i32_29 : BitVec 32 := 0#32
  let c15_i32 : BitVec 32 := 15#32
  let v46 : BitVec 32 := Scalar.addi c0_i32_29 c15_i32
  let c1_i32_30 : BitVec 32 := 1#32
  ⟨c0_i32_29, v46, c1_i32_30⟩
def k0_off2 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_29 : BitVec 32 := 0#32
  let c1_i32_30 : BitVec 32 := 1#32
  let arg13 : BitVec 32 := Scf.iv c0_i32_29 c1_i32_30 k0_t1
  let v115 : BitVec 32 := Scalar.subi v2 arg13
  let c16_i32_59 : BitVec 32 := 16#32
  let c0_i32_60 : BitVec 32 := 0#32
  let v116 : BitVec 1 := Scalar.cmpi .eq c16_i32_59 c0_i32_60
  let c1_i32_61 : BitVec 32 := 1#32
  let v117 : BitVec 32 := Scalar.select v116 c1_i32_61 c16_i32_59
  let v118 : BitVec 32 := Scalar.remsi v115 v117
  let c0_i32_63 : BitVec 32 := 0#32
  let v120 : BitVec 1 := Scalar.cmpi .slt v118 c0_i32_63
  let c0_i32_64 : BitVec 32 := 0#32
  let v121 : BitVec 1 := Scalar.cmpi .slt v117 c0_i32_64
  let v122 : BitVec 1 := Scalar.xori v120 v121
  let c0_i32_62 : BitVec 32 := 0#32
  let v119 : BitVec 1 := Scalar.cmpi .ne v118 c0_i32_62
  let v123 : BitVec 1 := Scalar.andi v122 v119
  let v124 : BitVec 32 := Scalar.addi v118 v117
  let v125 : BitVec 32 := Scalar.select v123 v124 v118
  let c0_i32_67 : BitVec 32 := 0#32
  ![v125.toNat, 0]
def k0_dev3 (d0 : Dev nD) : Nat :=
  let c0_i32_66 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_65 : BitVec 32 := 1#32
  let v126 : BitVec 32 := Scalar.muli v24 c1_i32_65
  let v127 : BitVec 32 := Scalar.addi c0_i32_66 v126
  v127.toNat
def k0_cond2 (k0_t1 : Fin k0_t1_loop.trips) : BitVec 1 :=
  let c0_i32_29 : BitVec 32 := 0#32
  let c1_i32_30 : BitVec 32 := 1#32
  let arg13 : BitVec 32 := Scf.iv c0_i32_29 c1_i32_30 k0_t1
  let c13_i32 : BitVec 32 := 13#32
  let v136 : BitVec 1 := Scalar.cmpi .sle arg13 c13_i32
  let v137 : BitVec 32 := Scalar.extui v136
  let c0_i32_76 : BitVec 32 := 0#32
  let v138 : BitVec 1 := Scalar.cmpi .ne v137 c0_i32_76
  v138

def k0_dev4 (d0 : Dev nD) : Nat :=
  let c0_i32_79 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_78 : BitVec 32 := 1#32
  let v139 : BitVec 32 := Scalar.muli v13 c1_i32_78
  let v140 : BitVec 32 := Scalar.addi c0_i32_79 v139
  v140.toNat
@[reducible] def k0_t2_loop : Scf.Loop 32 :=
  let c0_i32_53 : BitVec 32 := 0#32
  let c16_i32_54 : BitVec 32 := 16#32
  let v111 : BitVec 32 := Scalar.addi c0_i32_53 c16_i32_54
  let c1_i32_55 : BitVec 32 := 1#32
  ⟨c0_i32_53, v111, c1_i32_55⟩
def k0_cond3 (k0_t2 : Fin k0_t2_loop.trips) : BitVec 1 :=
  let c0_i32_53 : BitVec 32 := 0#32
  let c1_i32_55 : BitVec 32 := 1#32
  let arg13 : BitVec 32 := Scf.iv c0_i32_53 c1_i32_55 k0_t2
  let c2_i32_63 : BitVec 32 := 2#32
  let c0_i32_64 : BitVec 32 := 0#32
  let v123 : BitVec 1 := Scalar.cmpi .eq c2_i32_63 c0_i32_64
  let c1_i32_65 : BitVec 32 := 1#32
  let v124 : BitVec 32 := Scalar.select v123 c1_i32_65 c2_i32_63
  let v125 : BitVec 32 := Scalar.remsi arg13 v124
  let c0_i32_67 : BitVec 32 := 0#32
  let v127 : BitVec 1 := Scalar.cmpi .slt v125 c0_i32_67
  let c0_i32_68 : BitVec 32 := 0#32
  let v128 : BitVec 1 := Scalar.cmpi .slt v124 c0_i32_68
  let v129 : BitVec 1 := Scalar.xori v127 v128
  let c0_i32_66 : BitVec 32 := 0#32
  let v126 : BitVec 1 := Scalar.cmpi .ne v125 c0_i32_66
  let v130 : BitVec 1 := Scalar.andi v129 v126
  let v131 : BitVec 32 := Scalar.addi v125 v124
  let v132 : BitVec 32 := Scalar.select v130 v131 v125
  let c0_i32_69 : BitVec 32 := 0#32
  let v133 : BitVec 1 := Scalar.cmpi .eq v132 c0_i32_69
  let v134 : BitVec 32 := Scalar.extui v133
  let c0_i32_70 : BitVec 32 := 0#32
  let v135 : BitVec 1 := Scalar.cmpi .ne v134 c0_i32_70
  v135

def k0_cond5 (k0_t2 : Fin k0_t2_loop.trips) : BitVec 1 :=
  let c0_i32_53 : BitVec 32 := 0#32
  let c1_i32_55 : BitVec 32 := 1#32
  let arg13 : BitVec 32 := Scf.iv c0_i32_53 c1_i32_55 k0_t2
  let c15_i32_82 : BitVec 32 := 15#32
  let v155 : BitVec 1 := Scalar.cmpi .slt arg13 c15_i32_82
  let v156 : BitVec 32 := Scalar.extui v155
  let c0_i32_83 : BitVec 32 := 0#32
  let v157 : BitVec 1 := Scalar.cmpi .ne v156 c0_i32_83
  v157

def k0_dev5 (d0 : Dev nD) : Nat :=
  let c0_i32_138 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_137 : BitVec 32 := 1#32
  let v229 : BitVec 32 := Scalar.muli v24 c1_i32_137
  let v230 : BitVec 32 := Scalar.addi c0_i32_138 v229
  v230.toNat
def k0_cond7 (k0_t2 : Fin k0_t2_loop.trips) : BitVec 1 :=
  let c0_i32_53 : BitVec 32 := 0#32
  let c1_i32_55 : BitVec 32 := 1#32
  let arg13 : BitVec 32 := Scf.iv c0_i32_53 c1_i32_55 k0_t2
  let c2_i32_71 : BitVec 32 := 2#32
  let c0_i32_72 : BitVec 32 := 0#32
  let v136 : BitVec 1 := Scalar.cmpi .eq c2_i32_71 c0_i32_72
  let c1_i32_73 : BitVec 32 := 1#32
  let v137 : BitVec 32 := Scalar.select v136 c1_i32_73 c2_i32_71
  let v138 : BitVec 32 := Scalar.remsi arg13 v137
  let c0_i32_75 : BitVec 32 := 0#32
  let v140 : BitVec 1 := Scalar.cmpi .slt v138 c0_i32_75
  let c0_i32_76 : BitVec 32 := 0#32
  let v141 : BitVec 1 := Scalar.cmpi .slt v137 c0_i32_76
  let v142 : BitVec 1 := Scalar.xori v140 v141
  let c0_i32_74 : BitVec 32 := 0#32
  let v139 : BitVec 1 := Scalar.cmpi .ne v138 c0_i32_74
  let v143 : BitVec 1 := Scalar.andi v142 v139
  let v144 : BitVec 32 := Scalar.addi v138 v137
  let v145 : BitVec 32 := Scalar.select v143 v144 v138
  let c1_i32_77 : BitVec 32 := 1#32
  let v146 : BitVec 1 := Scalar.cmpi .eq v145 c1_i32_77
  let v147 : BitVec 32 := Scalar.extui v146
  let c0_i32_78 : BitVec 32 := 0#32
  let v148 : BitVec 1 := Scalar.cmpi .ne v147 c0_i32_78
  v148

def k0_cond9 (k0_t2 : Fin k0_t2_loop.trips) : BitVec 1 :=
  let c0_i32_53 : BitVec 32 := 0#32
  let c1_i32_55 : BitVec 32 := 1#32
  let arg13 : BitVec 32 := Scf.iv c0_i32_53 c1_i32_55 k0_t2
  let c15_i32_82 : BitVec 32 := 15#32
  let v155 : BitVec 1 := Scalar.cmpi .slt arg13 c15_i32_82
  let v156 : BitVec 32 := Scalar.extui v155
  let c0_i32_83 : BitVec 32 := 0#32
  let v157 : BitVec 1 := Scalar.cmpi .ne v156 c0_i32_83
  v157

def k0_dev6 (d0 : Dev nD) : Nat :=
  let c0_i32_138 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_137 : BitVec 32 := 1#32
  let v229 : BitVec 32 := Scalar.muli v24 c1_i32_137
  let v230 : BitVec 32 := Scalar.addi c0_i32_138 v229
  v230.toNat
def k0_cond11 (k0_t2 : Fin k0_t2_loop.trips) : BitVec 1 :=
  let c0_i32_53 : BitVec 32 := 0#32
  let c1_i32_55 : BitVec 32 := 1#32
  let arg13 : BitVec 32 := Scf.iv c0_i32_53 c1_i32_55 k0_t2
  let c13_i32 : BitVec 32 := 13#32
  let v149 : BitVec 1 := Scalar.cmpi .sle arg13 c13_i32
  let v150 : BitVec 32 := Scalar.extui v149
  let c0_i32_79 : BitVec 32 := 0#32
  let v151 : BitVec 1 := Scalar.cmpi .ne v150 c0_i32_79
  v151

def k0_dev7 (d0 : Dev nD) : Nat :=
  let c0_i32_82 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_81 : BitVec 32 := 1#32
  let v152 : BitVec 32 := Scalar.muli v13 c1_i32_81
  let v153 : BitVec 32 := Scalar.addi c0_i32_82 v152
  v153.toNat
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S32768x512 : Shape := ⟨2, ![32768, 512]⟩
abbrev S512x64 : Shape := ⟨2, ![512, 64]⟩
abbrev S32768x1 : Shape := ⟨2, ![32768, 1]⟩
abbrev S64x512x1024 : Shape := ⟨3, ![64, 512, 1024]⟩
abbrev S1x32768 : Shape := ⟨2, ![1, 32768]⟩
abbrev S32768x32768 : Shape := ⟨2, ![32768, 32768]⟩
abbrev S32768 : Shape := ⟨1, ![32768]⟩
abbrev S_ : Shape := ⟨0, ![]⟩
abbrev S32768x512x1024 : Shape := ⟨3, ![32768, 512, 1024]⟩
abbrev S32768x1024 : Shape := ⟨2, ![32768, 1024]⟩

abbrev nBuf : Space → Nat
  | .hbm => 44
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S512x64, .f32⟩
  | .hbm, ⟨2, _⟩ => ⟨S32768x1, .i32⟩
  | .hbm, ⟨3, _⟩ => ⟨S64x512x1024, .f32⟩
  | .hbm, ⟨4, _⟩ => ⟨S1x32768, .i32⟩
  | .hbm, ⟨5, _⟩ => ⟨S32768x32768, .i32⟩
  | .hbm, ⟨6, _⟩ => ⟨S32768x32768, .i32⟩
  | .hbm, ⟨7, _⟩ => ⟨S32768x32768, .i1⟩
  | .hbm, ⟨8, _⟩ => ⟨S32768, .i32⟩
  | .hbm, ⟨9, _⟩ => ⟨S1x32768, .i32⟩
  | .hbm, ⟨10, _⟩ => ⟨S32768x1, .i32⟩
  | .hbm, ⟨11, _⟩ => ⟨S32768x32768, .i32⟩
  | .hbm, ⟨12, _⟩ => ⟨S32768x32768, .i32⟩
  | .hbm, ⟨13, _⟩ => ⟨S32768x32768, .i1⟩
  | .hbm, ⟨14, _⟩ => ⟨S32768x32768, .i1⟩
  | .hbm, ⟨15, _⟩ => ⟨S_, .i32⟩
  | .hbm, ⟨16, _⟩ => ⟨S_, .i32⟩
  | .hbm, ⟨17, _⟩ => ⟨S32768x32768, .i32⟩
  | .hbm, ⟨18, _⟩ => ⟨S32768x32768, .i32⟩
  | .hbm, ⟨19, _⟩ => ⟨S32768x32768, .i32⟩
  | .hbm, ⟨20, _⟩ => ⟨S32768x32768, .i32⟩
  | .hbm, ⟨21, _⟩ => ⟨S_, .i32⟩
  | .hbm, ⟨22, _⟩ => ⟨S32768, .i32⟩
  | .hbm, ⟨23, _⟩ => ⟨S32768, .i32⟩
  | .hbm, ⟨24, _⟩ => ⟨S32768x1, .i32⟩
  | .hbm, ⟨25, _⟩ => ⟨S32768x512x1024, .f32⟩
  | .hbm, ⟨26, _⟩ => ⟨S32768x1024, .f32⟩
  | .hbm, ⟨27, _⟩ => ⟨S_, .i32⟩
  | .hbm, ⟨28, _⟩ => ⟨S32768, .i32⟩
  | .hbm, ⟨29, _⟩ => ⟨S32768, .i1⟩
  | .hbm, ⟨30, _⟩ => ⟨S_, .i32⟩
  | .hbm, ⟨31, _⟩ => ⟨S32768, .i32⟩
  | .hbm, ⟨32, _⟩ => ⟨S32768, .i1⟩
  | .hbm, ⟨33, _⟩ => ⟨S32768, .i1⟩
  | .hbm, ⟨34, _⟩ => ⟨S_, .i32⟩
  | .hbm, ⟨35, _⟩ => ⟨S32768, .i32⟩
  | .hbm, ⟨36, _⟩ => ⟨S32768, .i1⟩
  | .hbm, ⟨37, _⟩ => ⟨S32768, .i1⟩
  | .hbm, ⟨38, _⟩ => ⟨S32768x1, .i1⟩
  | .hbm, ⟨39, _⟩ => ⟨S_, .f32⟩
  | .hbm, ⟨40, _⟩ => ⟨S_, .f32⟩
  | .hbm, ⟨41, _⟩ => ⟨S32768x1024, .i1⟩
  | .hbm, ⟨42, _⟩ => ⟨S32768x1024, .f32⟩
  | .hbm, ⟨43, _⟩ => ⟨S32768x1024, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_c_0 : Ref sig .tc := ⟨.hbm, 16, rfl⟩
abbrev main_call0_v0 : Ref sig .tc := ⟨.hbm, 17, rfl⟩
abbrev main_call0_v1 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_call1_v0 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_v26 : Ref sig .tc := ⟨.hbm, 43, rfl⟩

abbrev nD : Nat := 1
abbrev τ : Topo := Topo.v7x

variable {F : FTy → Type} [FloatOps F]
-- ==== Proof.RefRun.lean ====
/-
  The run of the reference: it ends with its result at the function `refOut` of its arguments, and the arguments as they were.
  The line of operations is cut where its four intermediate arrays stand — how many earlier tokens chose the same expert, the
  expert of each token, the product of each token with its expert's weights, the tokens taken —, and each piece is read over
  arrays that are variables, so that nothing of size 32768 × 32768 is ever looked into.
-/
module

public import proofs.«01_k».proof.Proof.Gen.ReferenceIdeal
public import Idealize.ShloMosaic.Lib.StableHlo.Run

@[expose] public section

set_option maxRecDepth 8192

noncomputable section

namespace Cert.Moe.Ref

open Cert.ReferenceIdeal Cert.ReferenceIdeal.Gen
open Idealize.ShloMosaic Idealize.ShloMosaic.TcCoe Idealize.ShloMosaic.StableHlo Idealize.SL.Sem

variable {F : FTy → Type} [FloatOps F]

/-- Entry `(a, b)`: token `b` comes before token `a` and chose the same expert. -/
def before (r : IVec S32768x1 32) : IVec S32768x32768 1 :=
  andi (cmpi .eq (broadcastInDim S32768x32768 ![0, 1] bcast_S32768x1_S32768x32768_0_1 r)
      (broadcastInDim S32768x32768 ![0, 1] bcast_S1x32768_S32768x32768_0_1 (shapeCast S1x32768 r shapeCasts_S32768x1_S1x32768)))
    (cmpi .slt (broadcastInDim S32768x32768 ![0, 1] bcast_S1x32768_S32768x32768_0_1 (shapeCast S1x32768 (iotaInDim S32768 32 0) shapeCasts_S32768_S1x32768))
      (broadcastInDim S32768x32768 ![0, 1] bcast_S32768x1_S32768x32768_0_1 (shapeCast S32768x1 (iotaInDim S32768 32 0) shapeCasts_S32768_S32768x1)))

/-- The number of true entries of each row. -/
def count (b : IVec S32768x32768 1) : IVec S32768 32 :=
  Host.reduce IntOp.addi (select b (broadcastInDim S32768x32768 ![] bcast_S_S32768x32768 (constantI S_ 32 1#32))
    (broadcastInDim S32768x32768 ![] bcast_S_S32768x32768 (constantI S_ 32 0#32))) (constantI S_ 32 0#32) reducesTo_S32768x32768_S32768_d1 h_S_

/-- The tokens' experts as a vector. -/
def expert (r : IVec S32768x1 32) : IVec S32768 32 := shapeCast S32768 r shapeCasts_S32768x1_S32768

/-- Each token's row times its expert's weights. -/
def prod (x : FVec F S32768x512 .f32) (w : FVec F S64x512x1024 .f32) (e : IVec S32768 32) : FVec F S32768x1024 .f32 :=
  Host.dotGeneral dot_S32768x512_S32768x512x1024_S32768x1024_1_1_n_2_0_0 none x
    (Host.gather gather_S64x512x1024_S32768x1_S32768x512x1024_12_0_n_n_0_1_15121024 w (broadcastInDim S32768x1 ![0] bcast_S32768_S32768x1_0 e))

/-- The tokens taken: fewer than 409 earlier ones on a genuine expert. -/
def taken (n e : IVec S32768 32) : IVec S32768 1 :=
  andi (andi (cmpi .slt n (broadcastInDim S32768 ![] bcast_S_S32768 (constantI S_ 32 409#32)))
      (cmpi .sge e (broadcastInDim S32768 ![] bcast_S_S32768 (constantI S_ 32 0#32))))
    (cmpi .slt e (broadcastInDim S32768 ![] bcast_S_S32768 (constantI S_ 32 64#32)))

/-- The product where the token is taken, zero elsewhere. -/
def masked (t : IVec S32768 1) (y : FVec F S32768x1024 .f32) : FVec F S32768x1024 .f32 :=
  select (broadcastInDim S32768x1024 ![0, 1] bcast_S32768x1_S32768x1024_0_1 (broadcastInDim S32768x1 ![0] bcast_S32768_S32768x1_0 t)) y
    (broadcastInDim S32768x1024 ![] bcast_S_S32768x1024 (constant S_ .f32 0x00000000#32))

/-- The reference's result from its arguments. -/
def refOut (x : FVec F S32768x512 .f32) (r : IVec S32768x1 32) (w : FVec F S64x512x1024 .f32) : FVec F S32768x1024 .f32 :=
  masked (taken (count (before r)) (expert r)) (prod x w (expert r))

/-- The operations up to `before`, -/
abbrev opsA : List (HloOp τ sig (Elt F)) :=
  [ reshape main_arg2 main_v0 (rfl : (.i32 : EltTy) = .i32) shapeCasts_S32768x1_S1x32768,
    unary main_arg2 main_v1 (broadcastInDim S32768x32768 ![0, 1] bcast_S32768x1_S32768x32768_0_1 : (⟨S32768x1, .i32⟩ : BufTy).Contents (Elt F) → (⟨S32768x32768, .i32⟩ : BufTy).Contents (Elt F)),
    unary main_v0 main_v2 (broadcastInDim S32768x32768 ![0, 1] bcast_S1x32768_S32768x32768_0_1 : (⟨S1x32768, .i32⟩ : BufTy).Contents (Elt F) → (⟨S32768x32768, .i32⟩ : BufTy).Contents (Elt F)),
    binary main_v1 main_v2 main_v3 (cmpi .eq : (⟨S32768x32768, .i32⟩ : BufTy).Contents (Elt F) → (⟨S32768x32768, .i32⟩ : BufTy).Contents (Elt F) → (⟨S32768x32768, .i1⟩ : BufTy).Contents (Elt F)),
    nullary main_v4 (iotaInDim S32768 32 0),
    reshape main_v4 main_v5 (rfl : (.i32 : EltTy) = .i32) shapeCasts_S32768_S1x32768,
    reshape main_v4 main_v6 (rfl : (.i32 : EltTy) = .i32) shapeCasts_S32768_S32768x1,
    unary main_v5 main_v7 (broadcastInDim S32768x32768 ![0, 1] bcast_S1x32768_S32768x32768_0_1 : (⟨S1x32768, .i32⟩ : BufTy).Contents (Elt F) → (⟨S32768x32768, .i32⟩ : BufTy).Contents (Elt F)),
    unary main_v6 main_v8 (broadcastInDim S32768x32768 ![0, 1] bcast_S32768x1_S32768x32768_0_1 : (⟨S32768x1, .i32⟩ : BufTy).Contents (Elt F) → (⟨S32768x32768, .i32⟩ : BufTy).Contents (Elt F)),
    binary main_v7 main_v8 main_v9 (cmpi .slt : (⟨S32768x32768, .i32⟩ : BufTy).Contents (Elt F) → (⟨S32768x32768, .i32⟩ : BufTy).Contents (Elt F) → (⟨S32768x32768, .i1⟩ : BufTy).Contents (Elt F)),
    binary main_v3 main_v9 main_v10 (andi : (⟨S32768x32768, .i1⟩ : BufTy).Contents (Elt F) → (⟨S32768x32768, .i1⟩ : BufTy).Contents (Elt F) → (⟨S32768x32768, .i1⟩ : BufTy).Contents (Elt F)) ]

/-- up to `count`, -/
abbrev opsB : List (HloOp τ sig (Elt F)) :=
  [ nullary main_c (constantI S_ 32 1#32),
    nullary main_c_0 (constantI S_ 32 0#32),
    unary main_c main_call0_v0 (broadcastInDim S32768x32768 ![] bcast_S_S32768x32768 : (⟨S_, .i32⟩ : BufTy).Contents (Elt F) → (⟨S32768x32768, .i32⟩ : BufTy).Contents (Elt F)),
    unary main_c_0 main_call0_v1 (broadcastInDim S32768x32768 ![] bcast_S_S32768x32768 : (⟨S_, .i32⟩ : BufTy).Contents (Elt F) → (⟨S32768x32768, .i32⟩ : BufTy).Contents (Elt F)),
    ternary main_v10 main_call0_v0 main_call0_v1 main_v11 (select : (⟨S32768x32768, .i1⟩ : BufTy).Contents (Elt F) → (⟨S32768x32768, .i32⟩ : BufTy).Contents (Elt F) → (⟨S32768x32768, .i32⟩ : BufTy).Contents (Elt F) → (⟨S32768x32768, .i32⟩ : BufTy).Contents (Elt F)),
    unary main_v11 main_v12 (id : (⟨S32768x32768, .i32⟩ : BufTy).Contents (Elt F) → (⟨S32768x32768, .i32⟩ : BufTy).Contents (Elt F)),
    nullary main_c_1 (constantI S_ 32 0#32),
    binary main_v12 main_c_1 main_v13 ((fun x v => Host.reduce IntOp.addi x v reducesTo_S32768x32768_S32768_d1 h_S_) : (⟨S32768x32768, .i32⟩ : BufTy).Contents (Elt F) → (⟨S_, .i32⟩ : BufTy).Contents (Elt F) → (⟨S32768, .i32⟩ : BufTy).Contents (Elt F)) ]

/-- up to `prod`, -/
abbrev opsC : List (HloOp τ sig (Elt F)) :=
  [ reshape main_arg2 main_v14 (rfl : (.i32 : EltTy) = .i32) shapeCasts_S32768x1_S32768,
    unary main_v14 main_call1_v0 (broadcastInDim S32768x1 ![0] bcast_S32768_S32768x1_0 : (⟨S32768, .i32⟩ : BufTy).Contents (Elt F) → (⟨S32768x1, .i32⟩ : BufTy).Contents (Elt F)),
    binary main_arg3 main_call1_v0 main_v15 ((fun x i => Host.gather gather_S64x512x1024_S32768x1_S32768x512x1024_12_0_n_n_0_1_15121024 x i) : (⟨S64x512x1024, .f32⟩ : BufTy).Contents (Elt F) → (⟨S32768x1, .i32⟩ : BufTy).Contents (Elt F) → (⟨S32768x512x1024, .f32⟩ : BufTy).Contents (Elt F)),
    binary main_arg0 main_v15 main_v16 ((fun l r => Host.dotGeneral dot_S32768x512_S32768x512x1024_S32768x1024_1_1_n_2_0_0 none l r) : (⟨S32768x512, .f32⟩ : BufTy).Contents (Elt F) → (⟨S32768x512x1024, .f32⟩ : BufTy).Contents (Elt F) → (⟨S32768x1024, .f32⟩ : BufTy).Contents (Elt F)) ]

/-- up to `taken`, -/
abbrev opsD : List (HloOp τ sig (Elt F)) :=
  [ nullary main_c_2 (constantI S_ 32 409#32),
    unary main_c_2 main_v17 (broadcastInDim S32768 ![] bcast_S_S32768 : (⟨S_, .i32⟩ : BufTy).Contents (Elt F) → (⟨S32768, .i32⟩ : BufTy).Contents (Elt F)),
    binary main_v13 main_v17 main_v18 (cmpi .slt : (⟨S32768, .i32⟩ : BufTy).Contents (Elt F) → (⟨S32768, .i32⟩ : BufTy).Contents (Elt F) → (⟨S32768, .i1⟩ : BufTy).Contents (Elt F)),
    nullary main_c_3 (constantI S_ 32 0#32),
    unary main_c_3 main_v19 (broadcastInDim S32768 ![] bcast_S_S32768 : (⟨S_, .i32⟩ : BufTy).Contents (Elt F) → (⟨S32768, .i32⟩ : BufTy).Contents (Elt F)),
    binary main_v14 main_v19 main_v20 (cmpi .sge : (⟨S32768, .i32⟩ : BufTy).Contents (Elt F) → (⟨S32768, .i32⟩ : BufTy).Contents (Elt F) → (⟨S32768, .i1⟩ : BufTy).Contents (Elt F)),
    binary main_v18 main_v20 main_v21 (andi : (⟨S32768, .i1⟩ : BufTy).Contents (Elt F) → (⟨S32768, .i1⟩ : BufTy).Contents (Elt F) → (⟨S32768, .i1⟩ : BufTy).Contents (Elt F)),
    nullary main_c_4 (constantI S_ 32 64#32),
    unary main_c_4 main_v22 (broadcastInDim S32768 ![] bcast_S_S32768 : (⟨S_, .i32⟩ : BufTy).Contents (Elt F) → (⟨S32768, .i32⟩ : BufTy).Contents (Elt F)),
    binary main_v14 main_v22 main_v23 (cmpi .slt : (⟨S32768, .i32⟩ : BufTy).Contents (Elt F) → (⟨S32768, .i32⟩ : BufTy).Contents (Elt F) → (⟨S32768, .i1⟩ : BufTy).Contents (Elt F)),
    binary main_v21 main_v23 main_v24 (andi : (⟨S32768, .i1⟩ : BufTy).Contents (Elt F) → (⟨S32768, .i1⟩ : BufTy).Contents (Elt F) → (⟨S32768, .i1⟩ : BufTy).Contents (Elt F)) ]

/-- and up to `masked`, the result. -/
abbrev opsE : List (HloOp τ sig (Elt F)) :=
  [ unary main_v24 main_v25 (broadcastInDim S32768x1 ![0] bcast_S32768_S32768x1_0 : (⟨S32768, .i1⟩ : BufTy).Contents (Elt F) → (⟨S32768x1, .i1⟩ : BufTy).Contents (Elt F)),
    nullary main_cst (constant S_ .f32 0x00000000#32),
    unary main_cst main_call2_v0 (id : (⟨S_, .f32⟩ : BufTy).Contents (Elt F) → (⟨S_, .f32⟩ : BufTy).Contents (Elt F)),
    unary main_v25 main_call2_v1 (broadcastInDim S32768x1024 ![0, 1] bcast_S32768x1_S32768x1024_0_1 : (⟨S32768x1, .i1⟩ : BufTy).Contents (Elt F) → (⟨S32768x1024, .i1⟩ : BufTy).Contents (Elt F)),
    unary main_call2_v0 main_call2_v2 (broadcastInDim S32768x1024 ![] bcast_S_S32768x1024 : (⟨S_, .f32⟩ : BufTy).Contents (Elt F) → (⟨S32768x1024, .f32⟩ : BufTy).Contents (Elt F)),
    ternary main_call2_v1 main_v16 main_call2_v2 main_v26 (select : (⟨S32768x1024, .i1⟩ : BufTy).Contents (Elt F) → (⟨S32768x1024, .f32⟩ : BufTy).Contents (Elt F) → (⟨S32768x1024, .f32⟩ : BufTy).Contents (Elt F) → (⟨S32768x1024, .f32⟩ : BufTy).Contents (Elt F)) ]

/-- The whole line. -/
abbrev ops : List (HloOp τ sig (Elt F)) := opsA ++ (opsB ++ (opsC ++ (opsD ++ opsE)))

set_option maxHeartbeats 2000000 in
/-- The reference is that line. -/
theorem main_eq (c : Dev nD) : main (F := F) c = seq ops := by
  unfold main fn_where.body fn_take.body fn_where_0.body
  simp only [ops, opsA, opsB, opsC, opsD, opsE, List.cons_append, List.nil_append, seq, bind_assoc, pure_bind]
  rfl

theorem after_app (a b : List (HloOp τ sig (Elt F))) (V : Valuation τ sig (Elt F)) : after (a ++ b) V = after b (after a V) := by
  induction a generalizing V with
  | nil => rfl
  | cons o a ih => exact ih _

theorem afterA (V : Valuation τ sig (Elt F)) : after opsA V (main_v10 : DevRef τ sig) = before (V (main_arg2 : DevRef τ sig)) := by
  after_results
  rfl

theorem afterB (V : Valuation τ sig (Elt F)) : after opsB V (main_v13 : DevRef τ sig) = count (V (main_v10 : DevRef τ sig)) := by
  after_results
  rfl

theorem afterC (V : Valuation τ sig (Elt F)) : after opsC V (main_v16 : DevRef τ sig)
    = prod (V (main_arg0 : DevRef τ sig)) (V (main_arg3 : DevRef τ sig)) (expert (V (main_arg2 : DevRef τ sig))) := by
  after_results
  rfl

theorem afterC' (V : Valuation τ sig (Elt F)) : after opsC V (main_v14 : DevRef τ sig) = expert (V (main_arg2 : DevRef τ sig)) := by
  after_results
  rfl

theorem afterD (V : Valuation τ sig (Elt F)) : after opsD V (main_v24 : DevRef τ sig)
    = taken (V (main_v13 : DevRef τ sig)) (V (main_v14 : DevRef τ sig)) := by
  after_results
  rfl

theorem afterE (V : Valuation τ sig (Elt F)) : after opsE V (main_v26 : DevRef τ sig)
    = masked (V (main_v24 : DevRef τ sig)) (V (main_v16 : DevRef τ sig)) := by
  after_results
  rfl

/-- The result after the whole line. -/
theorem out_eq (V : Valuation τ sig (Elt F)) : after ops V (main_v26 : DevRef τ sig)
    = refOut (V (main_arg0 : DevRef τ sig)) (V (main_arg2 : DevRef τ sig)) (V (main_arg3 : DevRef τ sig)) := by
  have a0 : after opsA V (main_arg0 : DevRef τ sig) = V (main_arg0 : DevRef τ sig) := by after_results
  have a2 : after opsA V (main_arg2 : DevRef τ sig) = V (main_arg2 : DevRef τ sig) := by after_results
  have a3 : after opsA V (main_arg3 : DevRef τ sig) = V (main_arg3 : DevRef τ sig) := by after_results
  have b0 : ∀ V : Valuation τ sig (Elt F), after opsB V (main_arg0 : DevRef τ sig) = V (main_arg0 : DevRef τ sig) := fun V => by after_results
  have b2 : ∀ V : Valuation τ sig (Elt F), after opsB V (main_arg2 : DevRef τ sig) = V (main_arg2 : DevRef τ sig) := fun V => by after_results
  have b3 : ∀ V : Valuation τ sig (Elt F), after opsB V (main_arg3 : DevRef τ sig) = V (main_arg3 : DevRef τ sig) := fun V => by after_results
  have c13 : ∀ V : Valuation τ sig (Elt F), after opsC V (main_v13 : DevRef τ sig) = V (main_v13 : DevRef τ sig) := fun V => by after_results
  have d16 : ∀ V : Valuation τ sig (Elt F), after opsD V (main_v16 : DevRef τ sig) = V (main_v16 : DevRef τ sig) := fun V => by after_results
  rw [after_app, after_app, after_app, after_app, afterE, afterD, d16, afterC, afterC', c13, afterB, afterA, b0, b2, b3, a0, a2, a3]
  rfl

/-- The arguments after the whole line: as they were. -/
theorem arg0_eq (V : Valuation τ sig (Elt F)) : after ops V (main_arg0 : DevRef τ sig) = V (main_arg0 : DevRef τ sig) := by
  simp only [ops, after_app]
  after_results
theorem arg1_eq (V : Valuation τ sig (Elt F)) : after ops V (main_arg1 : DevRef τ sig) = V (main_arg1 : DevRef τ sig) := by
  simp only [ops, after_app]
  after_results
theorem arg2_eq (V : Valuation τ sig (Elt F)) : after ops V (main_arg2 : DevRef τ sig) = V (main_arg2 : DevRef τ sig) := by
  simp only [ops, after_app]
  after_results
theorem arg3_eq (V : Valuation τ sig (Elt F)) : after ops V (main_arg3 : DevRef τ sig) = V (main_arg3 : DevRef τ sig) := by
  simp only [ops, after_app]
  after_results

/-- Nothing of the reference is scoped, -/
theorem noRefs : (Finset.univ.filter fun b : Ref sig .tc => b.isScoped) = ∅ := by decide
theorem noSems : (Finset.univ.filter fun sm : SemLoc sig => sm.isScoped .tc) = ∅ := by decide

/-- and its operations touch buffers of the TensorCore alone. -/
theorem ops_sub : (ops : List (HloOp τ sig (Elt F))).Forall fun op => op.bufs ⊆ tcRefs τ sig :=
  ⟨reshape_bufs_sub .., unary_bufs_sub .., unary_bufs_sub .., binary_bufs_sub .., nullary_bufs_sub .., reshape_bufs_sub ..,
    reshape_bufs_sub .., unary_bufs_sub .., unary_bufs_sub .., binary_bufs_sub .., binary_bufs_sub .., nullary_bufs_sub ..,
    nullary_bufs_sub .., unary_bufs_sub .., unary_bufs_sub .., ternary_bufs_sub .., unary_bufs_sub .., nullary_bufs_sub ..,
    binary_bufs_sub .., reshape_bufs_sub .., unary_bufs_sub .., binary_bufs_sub .., binary_bufs_sub .., nullary_bufs_sub ..,
    unary_bufs_sub .., binary_bufs_sub .., nullary_bufs_sub .., unary_bufs_sub .., binary_bufs_sub .., binary_bufs_sub ..,
    nullary_bufs_sub .., unary_bufs_sub .., binary_bufs_sub .., binary_bufs_sub .., unary_bufs_sub .., nullary_bufs_sub ..,
    unary_bufs_sub .., unary_bufs_sub .., unary_bufs_sub .., ternary_bufs_sub ..⟩

/-- The reference's run: its result is `refOut` of its arguments, which stay as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v26)
          = refOut (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v26).trans (out_eq _), (h c main_arg0).trans (arg0_eq _),
      (h c main_arg1).trans (arg1_eq _), (h c main_arg2).trans (arg2_eq _), (h c main_arg3).trans (arg3_eq _)⟩)
    (run_seq noRefs noSems defs main (fun _ => ops) main_eq (fun _ => ops_sub) m ρ)

end Cert.Moe.Ref

end
-- ==== Proof.Common.lean ====
/-
  The two rings of the mixture-of-experts kernel: devices, cells, contents, the schedule of the cells' rounds, and the
  order in which the cells are waited on. Device `c` sends to the right (`nxt c`), receives from the left (`prv c`) and
  frees buffers to the left. `bk c h` is the device `h` places to the left of `c`: what lies in `c`'s buffers at trip
  `h` of either ring started at `bk c h`.
-/
module

public import proofs.«01_k».proof.Defs
public import proofs.«01_k».proof.Proof.Gen.KernelIdeal.Frame
public import proofs.«01_k».proof.Proof.Gen.KernelIdeal.Skeleton
public import Idealize.ShloMosaic.Lib.Rounds
public import Idealize.ShloMosaic.Lib.Release
public import Idealize.ShloMosaic.Lib.Ring
public import Idealize.ShloMosaic.Lib.Tactic

@[expose] public section

set_option maxRecDepth 16384

noncomputable section

namespace Cert.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Pipeline (Dat Cfg Window BodyObligation cellOf)
open Cert.KernelIdeal Cert.KernelIdeal.Gen

variable {F : FTy → Type} [FloatOps F]

/-! ## The ghost algebra -/

/-- The ghost state of the rings' rounds. -/
abbrev UX := URounds (GSem nD τ sig) ℕ
/-- The ghost state: the pipeline's, the rounds', and the release counts of the weight slots. -/
abbrev UU := UR sig nD τ × (UX × USlots (Dev nD × Fin 2))

local notation "𝕄" => MT nD τ sig ℕ (Elt F) ℕ UU ℕ

/-- Where the pipeline's own ghost state sits. -/
def EP : Emb (UR sig nD τ) 𝕄 :=
  (Emb.inl : Emb (UR sig nD τ) UU).trans (uEmb (nD := nD) (sig := sig) (Ix := ℕ) (Val := Elt F) (Name := ℕ) (U := UU) (Lvl := ℕ)).toEmb
/-- Where the rounds' ghost state sits. -/
def ER : Emb UX 𝕄 :=
  ((Emb.inl : Emb UX (UX × USlots (Dev nD × Fin 2))).trans (Emb.inr : Emb _ UU)).trans
    (uEmb (nD := nD) (sig := sig) (Ix := ℕ) (Val := Elt F) (Name := ℕ) (U := UU) (Lvl := ℕ)).toEmb
/-- Where the release counts sit. -/
def ES : Emb (USlots (Dev nD × Fin 2)) 𝕄 :=
  ((Emb.inr : Emb (USlots (Dev nD × Fin 2)) (UX × USlots (Dev nD × Fin 2))).trans (Emb.inr : Emb _ UU)).trans
    (uEmb (nD := nD) (sig := sig) (Ix := ℕ) (Val := Elt F) (Name := ℕ) (U := UU) (Lvl := ℕ)).toEmb

instance landsIn_EP : (EP (F := F)).LandsIn (upEmb (nD := nD) (sig := sig) (Ix := ℕ) (Val := Elt F) (Name := ℕ) (U := UU) (Lvl := ℕ)) := by
  unfold EP; infer_instance
instance landsIn_ER : (ER (F := F)).LandsIn (upEmb (nD := nD) (sig := sig) (Ix := ℕ) (Val := Elt F) (Name := ℕ) (U := UU) (Lvl := ℕ)) := by
  unfold ER; infer_instance
instance landsIn_ES : (ES (F := F)).LandsIn (upEmb (nD := nD) (sig := sig) (Ix := ℕ) (Val := Elt F) (Name := ℕ) (U := UU) (Lvl := ℕ)) := by
  unfold ES; infer_instance

/-! ## Places on the ring -/

set_option backward.proofsInPublic true in
/-- The right neighbour. -/
def nxt (c : Dev nD) : Dev nD := ⟨(c.val + 1) % 16, Nat.mod_lt _ (by decide)⟩
set_option backward.proofsInPublic true in
/-- The device `h` places to the left. -/
def bk (c : Dev nD) (h : ℕ) : Dev nD := ⟨(c.val + 15 * h) % 16, Nat.mod_lt _ (by decide)⟩
/-- The left neighbour. -/
abbrev prv (c : Dev nD) : Dev nD := bk c 1

theorem bk_zero (c : Dev nD) : bk c 0 = c := by
  apply Fin.ext; have := c.isLt; simp only [bk, nD] at this ⊢; omega
theorem bk_nxt (c : Dev nD) (h : ℕ) : bk (nxt c) (h + 1) = bk c h := by
  apply Fin.ext; simp only [bk, nxt]; omega
theorem bk_prv (c : Dev nD) (h : ℕ) : bk (prv c) h = bk c (h + 1) := by
  apply Fin.ext; simp only [bk]; omega
theorem nxt_prv (c : Dev nD) : nxt (prv c) = c := by
  apply Fin.ext; have := c.isLt; simp only [bk, nxt, nD] at this ⊢; omega
theorem prv_nxt (c : Dev nD) : prv (nxt c) = c := by
  rw [show prv (nxt c) = bk (nxt c) (0 + 1) from rfl, bk_nxt, bk_zero]
theorem bk_ne_nxt (c : Dev nD) (h : ℕ) (hh : h < 15) : bk c h ≠ nxt c := by
  intro e; have := congrArg Fin.val e; simp only [bk, nxt] at this; have := c.isLt; simp only [nD] at this; omega
/-- Within one turn of the ring the places are distinct. -/
theorem bk_inj (c : Dev nD) {h h' : ℕ} (hh : h < 16) (hh' : h' < 16) (e : bk c h = bk c h') : h = h' := by
  have := congrArg Fin.val e; simp only [bk] at this; have := c.isLt; simp only [nD] at this; omega

/-! ## What the program's device and condition words say -/

theorem dev1_eq (c : Dev nD) : (⟨k0_dev1 c, k0_dev1_lt c⟩ : Dev nD) = prv c := by revert c; decide +kernel
theorem dev2_eq (c : Dev nD) : (⟨k0_dev2 c, k0_dev2_lt c⟩ : Dev nD) = nxt c := by revert c; decide +kernel
theorem dev3_eq (c : Dev nD) : (⟨k0_dev3 c, k0_dev3_lt c⟩ : Dev nD) = nxt c := by revert c; decide +kernel
theorem dev4_val : ∀ c : Dev nD, k0_dev4 c = (prv c).val := by decide +kernel
theorem dev5_val : ∀ c : Dev nD, k0_dev5 c = (nxt c).val := by decide +kernel
theorem dev6_val : ∀ c : Dev nD, k0_dev6 c = (nxt c).val := by decide +kernel
theorem dev7_val : ∀ c : Dev nD, k0_dev7 c = (prv c).val := by decide +kernel
theorem off1_val : ∀ c : Dev nD, k0_off1 c = ![c.val, 0] := by decide +kernel
theorem trips1 : k0_t1_loop.trips = 15 := by decide +kernel
theorem trips2 : k0_t2_loop.trips = 16 := by decide +kernel
theorem off2_val : ∀ (c : Dev nD) (h : Fin k0_t1_loop.trips), k0_off2 c h = ![(bk c h.val).val, 0] := by decide +kernel
theorem cond2_iff : ∀ h : Fin k0_t1_loop.trips, k0_cond2 h = 1#1 ↔ h.val < 14 := by decide +kernel
theorem cond3_iff : ∀ s : Fin k0_t2_loop.trips, k0_cond3 s = 1#1 ↔ s.val % 2 = 0 := by decide +kernel
theorem cond5_iff : ∀ s : Fin k0_t2_loop.trips, k0_cond5 s = 1#1 ↔ s.val < 15 := by decide +kernel
theorem cond7_iff : ∀ s : Fin k0_t2_loop.trips, k0_cond7 s = 1#1 ↔ s.val % 2 = 1 := by decide +kernel
theorem cond9_iff : ∀ s : Fin k0_t2_loop.trips, k0_cond9 s = 1#1 ↔ s.val < 15 := by decide +kernel
theorem cond11_iff : ∀ s : Fin k0_t2_loop.trips, k0_cond11 s = 1#1 ↔ s.val < 14 := by decide +kernel
theorem word1_iff : ∀ h : Fin k0_t1_loop.trips,
    Scalar.cmpi .ne (Scalar.extui (Scalar.cmpi .sge (Scf.iv 0#32 1#32 h) 1#32) : BitVec 32) 0#32 = 1#1 ↔ 0 < h.val := by decide +kernel
theorem word4_iff : ∀ h : Fin k0_t2_loop.trips,
    Scalar.cmpi .ne (Scalar.extui (Scalar.cmpi .sgt (Scf.iv 0#32 1#32 h) 0#32) : BitVec 32) 0#32 = 1#1 ↔ 0 < h.val := by decide +kernel
theorem word6_iff : ∀ h : Fin k0_t2_loop.trips,
    Scalar.cmpi .ne (Scalar.extui (Scalar.cmpi .sge (Scf.iv 0#32 1#32 h) 1#32) : BitVec 32) 0#32 = 1#1 ↔ 0 < h.val := by decide +kernel

/-! ## The cells -/

/-- The kernel's semaphores, by their use. -/
inductive Kind where
  | hs | hr | ws (p : Fin 2) | wr (p : Fin 2) | prime | hcr | wcr | bar
  deriving DecidableEq

/-- The semaphore of each use: the two of the histogram ring, the two pairs of the weight ring, the one of the local
    copy, the two counting ones, and the barrier's. -/
def semOf : Kind → SemLoc sig
  | .hs => .dma cc0_scratch2.sem
  | .hr => .dma cc0_scratch3.sem
  | .ws 0 => .dma ((cc0_scratch4.slice (Rect.unit (s := S2) ![0] S1.size inb_S2_S1_0)).squeeze S_ squeezes_S1_S_).sem
  | .ws 1 => .dma ((cc0_scratch4.slice (Rect.unit (s := S2) ![1] S1.size inb_S2_S1_1)).squeeze S_ squeezes_S1_S_).sem
  | .wr 0 => .dma ((cc0_scratch5.slice (Rect.unit (s := S2) ![0] S1.size inb_S2_S1_0)).squeeze S_ squeezes_S1_S_).sem
  | .wr 1 => .dma ((cc0_scratch5.slice (Rect.unit (s := S2) ![1] S1.size inb_S2_S1_1)).squeeze S_ squeezes_S1_S_).sem
  | .prime => .dma cc0_scratch6.sem
  | .hcr => .reg cc0_scratch7.sem
  | .wcr => .reg cc0_scratch8.sem
  | .bar => .reg (SemArray.scalar (sig.barrier 0 rfl) : SemArray (Sem sig) S_).sem

/-- The use of a semaphore, the other way round. -/
def kindOf : SemLoc sig → Option Kind
  | .reg s => if s.val = 0 then some .hcr else if s.val = 1 then some .wcr else some .bar
  | .dma s => if s.val = 4 then some .hs else if s.val = 5 then some .hr else if s.val = 6 then some (.ws 0)
      else if s.val = 7 then some (.ws 1) else if s.val = 8 then some (.wr 0) else if s.val = 9 then some (.wr 1)
      else if s.val = 10 then some .prime else none

theorem kindOf_semOf (k : Kind) : kindOf (semOf k) = some k := by
  cases k with
  | ws p => fin_cases p <;> decide +kernel
  | wr p => fin_cases p <;> decide +kernel
  | _ => decide +kernel

/-- Device `c`'s cell of a use. -/
abbrev cell (c : Dev nD) (k : Kind) : GSem nD τ sig := ((c : Thread nD τ), semOf k)

theorem semOf_inj {k k' : Kind} (h : semOf k = semOf k') : k = k' := by
  have := congrArg kindOf h; rw [kindOf_semOf, kindOf_semOf] at this; exact Option.some.inj this
theorem cell_inj {c c' : Dev nD} {k k' : Kind} (h : cell c k = cell c' k') : c = c' ∧ k = k' :=
  ⟨congrArg (fun g : GSem nD τ sig => g.1.1) h, semOf_inj (congrArg (fun g : GSem nD τ sig => g.2) h)⟩

/-! ## Sizes of the transfers -/

/-- The table row at an offset. -/
abbrev rowM (off : Fin 2 → Nat) (h : ∀ a, off a + S1x64.size a ≤ S16x64.size a) : Memref sig .tc .vmem S1x64 .i32 :=
  (Memref.whole cc0_scratch0).slice (Rect.unit (s := S16x64) off S1x64.size h) (fun _ => rfl)
/-- The weight buffer's slot at an offset. -/
abbrev slotM (off : Fin 4 → Nat) (h : ∀ a, off a + S1x4x512x1024.size a ≤ S2x4x512x1024.size a) :
    Memref sig .tc .vmem S4x512x1024 .f32 :=
  ((Memref.whole cc0_scratch1).slice (Rect.unit (s := S2x4x512x1024) off S1x4x512x1024.size h) (fun _ => rfl)).squeeze
    S4x512x1024 squeezes_S1x4x512x1024_S4x512x1024

/-- What one row's transfer credits. -/
def NH : ℕ := (rowM ![0, 0] (by decide)).view.amount (semOf .hr)
/-- What one slot's transfer credits. -/
def NW : ℕ := (slotM ![0, 0, 0, 0] (by decide)).view.amount (semOf (.wr 0))

theorem rowM_amount {off h} (s : DmaSem sig) : (rowM off h).view.amount (.dma s) = NH := rfl
theorem slotM_amount {off h} (s : DmaSem sig) : (slotM off h).view.amount (.dma s) = NW := rfl

end Cert.Moe
-- ==== Proof.Sched.lean ====
/-
  What the buffers hold (the table of column sums, the weights that travel), the pieces of the two shared buffers, and
  the schedule: per cell and round who pays it, how much, and what the payment hands over.
-/
module

public import proofs.«01_k».proof.Proof.Common
public import Idealize.ShloMosaic.Lib.ValueIdxCore

@[expose] public section

set_option maxRecDepth 16384

noncomputable section

namespace Cert.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Pipeline (Dat Cfg Window BodyObligation cellOf)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)

/-! ## Contents -/

/-- Device `c`'s tokens. -/
def xB (c : Dev nD) : S2048x512.Idx → Elt F .f32 := iblk m c 0 t0_0
/-- Device `c`'s tokens' experts. -/
def ridxB (c : Dev nD) : S2048x1.Idx → Elt F .i32 := iblk m c 1 t0_0
/-- Device `c`'s experts' weights. -/
def ewB (c : Dev nD) : S4x512x1024.Idx → Elt F .f32 := iblk m c 2 t0_0

/-- The table that the histogram ring completes: row `r` holds how many of device `r`'s tokens chose each expert. -/
def tab : (cc0_scratch0 : Ref sig .tc).ty.Contents (Elt F) := fun i => k0_pay17 (F := F) (ridxB m (i 0)) (ValueIdx.ix2 0 (i 1))
/-- The weight buffer with device `d`'s weights in either slot. -/
def wBuf (d : Dev nD) : (cc0_scratch1 : Ref sig .tc).ty.Contents (Elt F) := fun i => ewB m d (ValueIdx.ix3 (i 1) (i 2) (i 3))

/-! ## Rows and slots -/

set_option backward.proofsInPublic true in
/-- Row `r` of the table. -/
def rowSet (r : Dev nD) : Finset (cc0_scratch0 : Ref sig .tc).ty.shape.Idx :=
  (Rect.unit (s := S16x64) ![r.val, 0] S1x64.size (by revert r; decide +kernel)).set
set_option backward.proofsInPublic true in
/-- Slot `p` of the weight buffer. -/
def slotSet (p : Fin 2) : Finset (cc0_scratch1 : Ref sig .tc).ty.shape.Idx :=
  (Rect.unit (s := S2x4x512x1024) ![p.val, 0, 0, 0] S1x4x512x1024.size (by revert p; decide +kernel)).set

theorem mem_rowSet (r : Dev nD) (i : S16x64.Idx) : i ∈ rowSet r ↔ i 0 = r := by
  unfold rowSet
  rw [Rect.mem_set_unit]
  constructor
  · intro h; have := h 0; apply Fin.ext; simp [S1x64] at this; omega
  · rintro rfl a
    match a with
    | ⟨0, _⟩ => simp [S1x64]
    | ⟨1, _⟩ => have := (i 1).isLt; simp [S1x64, S16x64] at this ⊢; omega
theorem mem_slotSet (p : Fin 2) (i : S2x4x512x1024.Idx) : i ∈ slotSet p ↔ i 0 = p := by
  unfold slotSet
  rw [Rect.mem_set_unit]
  constructor
  · intro h; have := h 0; apply Fin.ext; simp [S1x4x512x1024] at this; omega
  · rintro rfl a
    match a with
    | ⟨0, _⟩ => simp [S1x4x512x1024]
    | ⟨1, _⟩ => have := (i 1).isLt; simp [S1x4x512x1024, S2x4x512x1024] at this ⊢; omega
    | ⟨2, _⟩ => have := (i 2).isLt; simp [S1x4x512x1024, S2x4x512x1024] at this ⊢; omega
    | ⟨3, _⟩ => have := (i 3).isLt; simp [S1x4x512x1024, S2x4x512x1024] at this ⊢; omega

/-- Row `r` of device `c`'s table, holding what `f` has there. -/
def rowPts (c r : Dev nD) (f : (cc0_scratch0 : Ref sig .tc).ty.Contents (Elt F)) : sProp 𝕄 :=
  ((c : Thread nD τ).loc cc0_scratch0) ↦[rowSet r]{fullShare} f
/-- Slot `p` of device `c`'s weight buffer, holding what `f` has there. -/
def slotPts (c : Dev nD) (p : Fin 2) (f : (cc0_scratch1 : Ref sig .tc).ty.Contents (Elt F)) : sProp 𝕄 :=
  ((c : Thread nD τ).loc cc0_scratch1) ↦[slotSet p]{fullShare} f

theorem rowM_set {off : Fin 2 → Nat} {h} (r : Dev nD) (e : off = ![r.val, 0]) : (rowM off h).view.set = rowSet r := by
  subst e; exact View.set_slice_whole _ _
theorem slotM_set {off : Fin 4 → Nat} {h} (p : Fin 2) (e : off = ![p.val, 0, 0, 0]) : (slotM off h).view.set = slotSet p := by
  subst e
  exact (Memref.set_view_squeeze _ _).trans (View.set_slice_whole _ _)

/-- The place of a slot's element in the weight buffer. -/
theorem slotM_emb {off : Fin 4 → Nat} {h} (p : Fin 2) (e : off = ![p.val, 0, 0, 0]) (x : S4x512x1024.Idx) :
    ((slotM off h).view.emb x : S2x4x512x1024.Idx) = ValueIdx.ix4 p (x 0) (x 1) (x 2) := by
  subst e
  have e1 : ((slotM ![p.val, 0, 0, 0] h).view.emb x : S2x4x512x1024.Idx)
      = (Rect.unit (s := S2x4x512x1024) ![p.val, 0, 0, 0] S1x4x512x1024.size h).emb
          (Shape.reshapeEquiv (s := S1x4x512x1024) (s' := S4x512x1024) squeezes_S1x4x512x1024_S4x512x1024.numel_eq x) := rfl
  rw [e1, Shape.reshapeEquiv_cons_one]
  funext a
  apply Fin.ext
  match a with
  | ⟨0, _⟩ => simp; rfl
  | ⟨1, _⟩ => simp; rfl
  | ⟨2, _⟩ => simp; rfl
  | ⟨3, _⟩ => simp; rfl

theorem ix3_eta (x : S4x512x1024.Idx) : (ValueIdx.ix3 (x 0) (x 1) (x 2) : S4x512x1024.Idx) = x := by
  funext a
  match a with
  | ⟨0, _⟩ => rfl
  | ⟨1, _⟩ => rfl
  | ⟨2, _⟩ => rfl

theorem slotM_read {off : Fin 4 → Nat} {h} (p : Fin 2) (e : off = ![p.val, 0, 0, 0]) (d : Dev nD) :
    (slotM off h).view.read (Elt F) (wBuf m d) = ewB m d := by
  funext x
  rw [View.read_apply, slotM_emb p e x]
  exact congrArg (ewB m d) (ix3_eta x)

theorem slotM_write {off : Fin 4 → Nat} {h} (p : Fin 2) (e : off = ![p.val, 0, 0, 0]) (d : Dev nD)
    (f : (cc0_scratch1 : Ref sig .tc).ty.Contents (Elt F)) (i : S2x4x512x1024.Idx) (hi : i ∈ slotSet p) :
    (slotM off h).view.write (Elt F) f (ewB m d) Finset.univ i = wBuf m d i := by
  rw [← slotM_set (h := h) p e] at hi
  obtain ⟨x, -, rfl⟩ := Finset.mem_map.mp hi
  rw [View.write_emb_of_mem _ _ (Finset.mem_univ _), slotM_emb p e x]
  exact congrArg (ewB m d) (ix3_eta x).symm

/-! ## The schedule -/

/-- Who pays round `r` of a cell of a use. -/
def dutiesK : Kind → ℕ → Finset ℕ
  | .hs, r => if r < 15 then {0} else ∅
  | .hr, r => if r < 15 then {0} else ∅
  | .ws p, r => if r < 8 - p.val then {0} else ∅
  | .wr p, r => if r < 7 + p.val then {0} else ∅
  | .prime, r => if r < 1 then {0} else ∅
  | .hcr, r => if r < 14 then {0} else ∅
  | .wcr, r => if r < 1 then Finset.range 14 else ∅
  | .bar, r => if r < 1 then Finset.range 2 else ∅

/-- How much one payment to a cell of a use is. -/
def amountK : Kind → ℕ
  | .hs => NH
  | .hr => NH
  | .ws _ => NW
  | .wr _ => NW
  | .prime => NW
  | .hcr => 1
  | .wcr => 1
  | .bar => 1

/-- The same, at any semaphore's use. -/
def amountG : Option Kind → ℕ
  | some k => amountK k
  | none => 1

theorem amountK_pos_nw : 0 < NW := by
  unfold NW; exact View.amount_pos _ _ (Shape.numel_pos (s := S4x512x1024) (by decide))
theorem amountK_pos_nh : 0 < NH := by
  unfold NH; exact View.amount_pos _ _ (Shape.numel_pos (s := S1x64) (by decide))
theorem amountK_pos : ∀ k : Kind, 0 < amountK k
  | .hs => amountK_pos_nh
  | .hr => amountK_pos_nh
  | .ws _ => amountK_pos_nw
  | .wr _ => amountK_pos_nw
  | .prime => amountK_pos_nw
  | .hcr => by decide
  | .wcr => by decide
  | .bar => by decide
theorem amountG_pos : ∀ k : Option Kind, 0 < amountG k
  | some k => amountK_pos k
  | none => Nat.one_pos

/-- Device `c`'s weights as the copy into slot 0 reads them. -/
def ewPts (c : Dev nD) : sProp 𝕄 := ((c : Thread nD τ).loc cc0_stg2_0) ↦{fullShare} (ewB m c)

/-- What the freed slots' payment tells the left neighbour, device `l` being the one that freed: how often each of its
    slots is free, and how far it is in receiving. -/
def wcrPay (l : Dev nD) (d : ℕ) : sProp 𝕄 :=
  iprop(released ES (l, (0 : Fin 2)) (d / 2 + 1) ∗ released ES (l, (1 : Fin 2)) ((d + 1) / 2 + 1)
    ∗ reached ER (cell l (.wr 0)) (d / 2) ∗ reached ER (cell l (.wr 1)) ((d + 1) / 2))

/-- What a payment to device `c`'s cell of a use hands over. -/
def payK (c : Dev nD) : Kind → ℕ → ℕ → sProp 𝕄
  | .hs, r, _ => rowPts c (bk c r) (tab m)
  | .hr, r, _ => iprop(rowPts c (bk c (r + 1)) (tab m) ∗ reached ER (cell (prv c) .hcr) r)
  | .ws p, r, _ => slotPts c p (wBuf m (bk c (2 * r + p.val)))
  | .wr p, r, _ => slotPts c p (wBuf m (bk c (2 * r + 2 - p.val)))
  | .prime, _, _ => iprop(slotPts c 0 (wBuf m c) ∗ ewPts m c)
  | .hcr, r, _ => reached ER (cell (nxt c) .hr) (r + 1)
  | .wcr, _, d => wcrPay (nxt c) d
  | .bar, _, d => if d = 0 then iprop((bigSep (Finset.range 15) fun j => iprop(∃ f, rowPts (nxt c) (bk c j) f)) ∗ released ES (nxt c, (1 : Fin 2)) 1)
      else iprop(emp)

/-- The schedule of the two rings. -/
def ringRd : Rounds.Schedule (GSem nD τ sig) ℕ 𝕄 where
  duties g r := match kindOf g.2 with
    | some k => dutiesK k r
    | none => ∅
  amount g _ _ := amountG (kindOf g.2)
  payload g r d := match kindOf g.2 with
    | some k => payK m g.1.1 k r d
    | none => iprop(emp)
  amount_pos := fun g _ _ _ => amountG_pos (kindOf g.2)

theorem duties_cell (c : Dev nD) (k : Kind) (r : ℕ) : (ringRd (F := F) m).duties (cell c k) r = dutiesK k r := by
  dsimp only [ringRd]; rw [kindOf_semOf]
theorem amount_cell (c : Dev nD) (k : Kind) (r d : ℕ) : (ringRd (F := F) m).amount (cell c k) r d = amountK k := by
  dsimp only [ringRd]; rw [kindOf_semOf]; rfl
theorem payload_cell (c : Dev nD) (k : Kind) (r d : ℕ) : (ringRd (F := F) m).payload (cell c k) r d = payK m c k r d := by
  dsimp only [ringRd]; rw [kindOf_semOf]

instance payload_storable (g : GSem nD τ sig) (r d : ℕ) :
    Storable (upEmb (nD := nD) (sig := sig) (Ix := ℕ) (Val := Elt F) (Name := ℕ) (U := UU) (Lvl := ℕ)) ((ringRd (F := F) m).payload g r d) := by
  dsimp only [ringRd]
  cases kindOf g.2 with
  | none => dsimp only; infer_instance
  | some k =>
    cases k <;> dsimp only [payK, rowPts, slotPts, ewPts, wcrPay] <;> (try split) <;> infer_instance

instance wcrPay_persistent (l : Dev nD) (d : ℕ) : BI.Persistent (wcrPay (F := F) l d) := by unfold wcrPay; infer_instance

/-- A round with one payment. -/
theorem expect_one (c : Dev nD) (k : Kind) (r : ℕ) (h : dutiesK k r = {0}) : (ringRd (F := F) m).expect (cell c k) r = amountK k := by
  unfold Rounds.Schedule.expect Rounds.Schedule.amountOf
  rw [duties_cell, h, Finset.sum_singleton, amount_cell]
/-- What the owner finds of it. -/
theorem rest_one (c : Dev nD) (k : Kind) (r : ℕ) (h : dutiesK k r = {0}) :
    bigSep ((ringRd (F := F) m).duties (cell c k) r \ ∅) (fun d => (ringRd (F := F) m).payload (cell c k) r d) = payK m c k r 0 := by
  rw [duties_cell, h, Finset.sdiff_empty, bigSep_singleton, payload_cell]

/-! ## The order of the waits -/

/-- Where a wait stands in the order: the copies that only a device's own transfer credits first, then the barrier,
    the histogram ring trip by trip, the weight ring step by step. -/
def lvl (g : GSem nD τ sig) (i : ℕ) : ℕ := match kindOf g.2 with
  | some .bar => 1
  | some .hr => 4 * i + 2
  | some .hcr => 4 * i + 3
  | some (.wr _) => 4 * i + 100
  | some .wcr => 4 * i + 103
  | _ => 0

/-- Which indices carry a place in the order. -/
def Lix (g : GSem nD τ sig) : Finset ℕ := if g.1.2 = .tc then Finset.range 64 else ∅
theorem Lix_of_ne (g : GSem nD τ sig) (h : g.1.2 ≠ .tc) : Lix g = ∅ := if_neg h
theorem mem_Lix (c : Dev nD) (s : SemLoc sig) {i : ℕ} (h : i < 64) : i ∈ Lix ((c : Thread nD τ), s) := by
  unfold Lix; rw [if_pos rfl]; exact Finset.mem_range.mpr h

theorem lvl_cell (c : Dev nD) (k : Kind) (i : ℕ) : lvl (cell c k) i = match k with
    | .bar => 1
    | .hr => 4 * i + 2
    | .hcr => 4 * i + 3
    | .wr _ => 4 * i + 100
    | .wcr => 4 * i + 103
    | _ => 0 := by
  unfold lvl; rw [kindOf_semOf]; cases k <;> rfl

/-- Everything owed in `O` stands after place `n`. -/
def After (n : ℕ) (O : CellTallies nD τ sig ℕ) : Prop := ∀ (g : GSem nD τ sig) (i : ℕ), 0 < O g i → n < lvl g i ∧ i ∈ Lix g

theorem After.zero (n : ℕ) : After n 0 := fun _ _ h => absurd h (Nat.lt_irrefl 0)
theorem After.add {n : ℕ} {O O' : CellTallies nD τ sig ℕ} (h : After n O) (h' : After n O') : After n (O + O') := by
  intro g i hp
  rcases Nat.eq_zero_or_pos (O g i) with h0 | h0
  · refine h' g i ?_
    have e : (O + O') g i = O g i + O' g i := rfl
    omega
  · exact h g i h0
theorem After.tally {n : ℕ} {c : Dev nD} {k : Kind} {i u : ℕ} (h : n < lvl (cell c k) i) (hi : i < 64) :
    After n (tallyAt (cell c k) i u) := by
  intro g j hp
  obtain ⟨rfl, rfl⟩ := Pipeline.tallyAt_pos hp
  exact ⟨h, mem_Lix c _ hi⟩
theorem After.sum {n : ℕ} (s : Finset ℕ) {O : ℕ → CellTallies nD τ sig ℕ} (h : ∀ j ∈ s, After n (O j)) : After n (∑ j ∈ s, O j) := by
  induction s using Finset.induction_on with
  | empty => rw [Finset.sum_empty]; exact After.zero n
  | insert a s ha ih =>
    rw [Finset.sum_insert ha]
    exact (h a (Finset.mem_insert_self _ _)).add (ih fun j hj => h j (Finset.mem_insert_of_mem hj))
theorem After.mono {n n' : ℕ} {O : CellTallies nD τ sig ℕ} (hn : n' ≤ n) (h : After n O) : After n' O :=
  fun g i hp => ⟨lt_of_le_of_lt hn (h g i hp).1, (h g i hp).2⟩

/-- A wait may be made while everything owed stands after it. -/
theorem mayWait (c : Dev nD) (s : SemLoc sig) (i : ℕ) (hi : i < 64) (O : CellTallies nD τ sig ℕ)
    (h : After (lvl ((c : Thread nD τ), s) i) O) : (levAts Lix lvl : sProp 𝕄) ⊢ MayWait (c : Thread nD τ) s i O := by
  refine MayOwe.of_cut (lvl ((c : Thread nD τ), s) i) ?_ (fun g j hp => (h g j hp).2) ?_ (fun g j hp => (h g j hp).1)
  · rintro p hp; obtain rfl := Finset.mem_singleton.mp hp; exact mem_Lix c _ hi
  · rintro p hp; obtain rfl := Finset.mem_singleton.mp hp; exact Nat.le_refl _

end Cert.Moe
-- ==== Proof.Send.lean ====
/-
  The two transfers: a table row to the right neighbour, and a weight slot to the right neighbour, each paying the
  receiver's round and the sender's own; and small facts about families of resources indexed by trips.
-/
module

public import proofs.«01_k».proof.Proof.Sched

@[expose] public section

set_option maxRecDepth 16384

noncomputable section

namespace Cert.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Pipeline (Dat Cfg Window BodyObligation cellOf)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)

/-- No loop of waits has a variant of its own. -/
abbrev 𝒱₀ : Variants := Variants.none

/-! ## The cells' records -/

/-- Every device's cells stand under their invariants. -/
def Recs (K : Dev nD → Kind → ℕ) : sProp 𝕄 :=
  bigSep (Finset.univ : Finset (Dev nD)) fun c => iprop(
    cellInv ER (ringRd m) (K c .hs) (cell c .hs) ∗ cellInv ER (ringRd m) (K c .hr) (cell c .hr)
    ∗ cellInv ER (ringRd m) (K c (.ws 0)) (cell c (.ws 0)) ∗ cellInv ER (ringRd m) (K c (.ws 1)) (cell c (.ws 1))
    ∗ cellInv ER (ringRd m) (K c (.wr 0)) (cell c (.wr 0)) ∗ cellInv ER (ringRd m) (K c (.wr 1)) (cell c (.wr 1))
    ∗ cellInv ER (ringRd m) (K c .prime) (cell c .prime) ∗ cellInv ER (ringRd m) (K c .hcr) (cell c .hcr)
    ∗ cellInv ER (ringRd m) (K c .wcr) (cell c .wcr) ∗ cellInv ER (ringRd m) (K c .bar) (cell c .bar))

instance Recs_persistent (K : Dev nD → Kind → ℕ) : BI.Persistent (Recs m K) := by unfold Recs; infer_instance

theorem univ_at (Φ : Dev nD → sProp 𝕄) (c : Dev nD) : bigSep Finset.univ Φ ⊢ Φ c := bigSep_elim (Finset.mem_univ c)

theorem inv_at (K : Dev nD → Kind → ℕ) (c : Dev nD) (k : Kind) : Recs m K ⊢ cellInv ER (ringRd m) (K c k) (cell c k) := by
  unfold Recs
  iintro H
  ihave H' := (univ_at _ c) $$ H
  icases H' with ⟨#H1, #H2, #H3, #H4, #H5, #H6, #H7, #H8, #H9, #H10⟩
  cases k with
  | ws p =>
    match p with
    | 0 => iexact H3
    | 1 => iexact H4
  | wr p =>
    match p with
    | 0 => iexact H5
    | 1 => iexact H6
  | _ => iassumption

/-! ## Families indexed by trips -/

theorem Ico_peel {a b : ℕ} (h : a < b) (Φ : ℕ → sProp 𝕄) :
    bigSep (Finset.Ico a b) Φ = iprop(Φ a ∗ bigSep (Finset.Ico (a + 1) b) Φ) := by
  rw [Ring.Ico_eq_insert h, bigSep_insert (by simp)]; rfl
theorem Ico_done {a b : ℕ} (h : b ≤ a) (Φ : ℕ → sProp 𝕄) : bigSep (Finset.Ico a b) Φ = iprop(emp) := by
  rw [Finset.Ico_eq_empty_of_le h, bigSep_empty]; rfl
theorem range_grow (a : ℕ) (Φ : ℕ → sProp 𝕄) :
    bigSep (Finset.range (a + 1)) Φ = iprop(Φ a ∗ bigSep (Finset.range a) Φ) := by
  rw [Finset.range_add_one, bigSep_insert Finset.notMem_range_self]; rfl

/-- A conditional step at the head of a program, either branch giving the same. -/
theorem wp_dite_bind {c : Thread nD τ} {α : Type} {C : Prop} [dec : Decidable C]
    {A : C → Prog (TpuEff nD τ sig (Elt F) Λ₀ c.2) PUnit} {B : ¬C → Prog (TpuEff nD τ sig (Elt F) Λ₀ c.2) PUnit}
    {rest : PUnit → Prog (TpuEff nD τ sig (Elt F) Λ₀ c.2) α} {Q : α → sProp 𝕄} (P R : sProp 𝕄)
    (hA : ∀ h : C, P ⊢ wp frame (wpE (defs₀ (F := F)) 𝒱₀ c none) Set.univ (A h) (fun _ => R))
    (hB : ∀ h : ¬C, P ⊢ wp frame (wpE (defs₀ (F := F)) 𝒱₀ c none) Set.univ (B h) (fun _ => R)) :
    iprop(P ∗ (R -∗ wp frame (wpE (defs₀ (F := F)) 𝒱₀ c none) Set.univ (rest ⟨⟩) Q))
      ⊢ wp frame (wpE (defs₀ (F := F)) 𝒱₀ c none) Set.univ ((if h : C then A h else B h) >>= rest) Q := by
  rw [wp_bind]
  iintro ⟨HP, HK⟩
  iapply (wp_wand_r frame (wpE (defs₀ (F := F)) 𝒱₀ c none) Set.univ (Q := fun _ => R))
  isplitl [HP]
  · by_cases h : C
    · rw [dif_pos h]; iapply (hA h); iexact HP
    · rw [dif_neg h]; iapply (hB h); iexact HP
  · iintro %a HR
    iapply HK; iexact HR

/-! ## A table row to the right -/

theorem row_rewrite {off : Fin 2 → Nat} {hoff} (r : Dev nD) (e : off = ![r.val, 0])
    (f g : (cc0_scratch0 : Ref sig .tc).ty.Contents (Elt F)) (i : S16x64.Idx) (hi : i ∈ rowSet r) :
    (rowM off hoff).view.write (Elt F) f ((rowM off hoff).view.read (Elt F) g) Finset.univ i = g i := by
  rw [← rowM_set (h := hoff) r e] at hi
  obtain ⟨x, -, rfl⟩ := Finset.mem_map.mp hi
  rw [View.write_emb_of_mem _ _ (Finset.mem_univ _), View.read_apply]
  rfl

theorem wp_send_row (K : Dev nD → Kind → ℕ) (c n : Dev nD) (hn : n = nxt c) (k : ℕ) (hk : k < 15) {off : Fin 2 → Nat} {hoff}
    (e : off = ![(bk c k).val, 0]) (sS sR : DmaSem sig) (eS : SemLoc.dma sS = semOf .hs) (eR : SemLoc.dma sR = semOf .hr)
    {hsc : (rowM off hoff : Memref sig (Dev.tc n : Thread nD τ).2.kind .vmem S1x64 .i32).view.ref.isScScratch = false}
    {hsrc : (rowM off hoff).view.WordExact} {hdst : (rowM off hoff).view.WordExact}
    {hsem : DmaTarget.Typed .vmem (.dma sR) (.remote (Dev.tc n : Thread nD τ) (rowM off hoff) (.dma sS) hsc)}
    {α : Type} {Q : α → sProp 𝕄} {k' : PUnit → Prog (TpuEff nD τ sig (Elt F) Λ₀ .tc) α}
    (fd : (cc0_scratch0 : Ref sig .tc).ty.Contents (Elt F)) (O₀ O : CellTallies nD τ sig ℕ)
    (hO : O₀ = O + tallyAt (cell (nxt c) .hr) k NH) (W : Waits sig ℕ) :
    iprop(Recs m K ∗ rowPts c (bk c k) (tab m) ∗ (rowPts (nxt c) (bk c k) fd ∗ reached ER (cell c .hcr) k)
        ∗ owes (c : Thread nD τ) O₀ W
        ∗ dutyTok ER (cell c .hs) k 0 ∗ reached ER (cell c .hs) k
        ∗ dutyTok ER (cell (nxt c) .hr) k 0 ∗ reached ER (cell (nxt c) .hr) k)
      ⊢ iprop(((cred (tallyAt (cell c .hs) k NH) ∗ owes (c : Thread nD τ) O W)
            -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (rowM off hoff) (.remote (Dev.tc n : Thread nD τ) (rowM off hoff) (.dma sS) hsc)
                (.dma sR) hsrc hdst hsem) k') Q) := by
  subst hn
  have eS' : ((c : Thread nD τ), SemLoc.dma sS) = cell c .hs := by rw [eS]
  have eR' : ((nxt c : Thread nD τ), SemLoc.dma sR) = cell (nxt c) .hr := by rw [eR]
  have h1 : (((rowM off hoff).view.loc (c : Thread nD τ)) ↦[(rowM off hoff).view.set]{fullShare} tab m : sProp 𝕄)
      ⊢ (ringRd m).payload ((c : Thread nD τ), SemLoc.dma sS) k 0 := by
    rw [eS', payload_cell, rowM_set (h := hoff) (bk c k) e]
    exact BI.Entails.refl _
  have h2 : iprop((((rowM off hoff).view.loc (nxt c : Thread nD τ)) ↦[(rowM off hoff).view.set]{fullShare}
        ((rowM off hoff).view.write (Elt F) fd ((rowM off hoff).view.read (Elt F) (tab m)) Finset.univ) : sProp 𝕄)
        ∗ reached ER (cell c .hcr) k)
      ⊢ (ringRd m).payload ((nxt c : Thread nD τ), SemLoc.dma sR) k 0 := by
    rw [eR', payload_cell, rowM_set (h := hoff) (bk c k) e]
    dsimp only [payK]
    rw [bk_nxt, prv_nxt]
    unfold rowPts
    rw [pointsTo_congr (g := tab m) fun i hi => row_rewrite (hoff := hoff) (bk c k) e fd (tab m) i hi]
  have rule := Rounds.wp_send_pointsTo_with (α := α) (c' := (nxt c : Thread nD τ)) (src := rowM off hoff) (dst := rowM off hoff) (hsc := hsc) (sS := .dma sS) (sem := .dma sR) (k := k') (Q := Q) (hsem := hsem) (hsrc := hsrc) (hdst := hdst) (defs := defs₀ (F := F)) (Es := Set.univ) (Γ := .empty)
    𝒱₀ ER (ringRd m) (c : Thread nD τ) none (κ₁ := K c .hs) (κ₂ := K (nxt c) .hr)
    (r₁ := k) (r₂ := k) (d₁ := 0) (d₂ := 0) (fs := tab m) (fd := fd) (q := fullShare) (F := reached ER (cell c .hcr) k)
    (by rw [eS', duties_cell]; simp [dutiesK, hk]) (by rw [eR', duties_cell]; simp [dutiesK, hk])
    k k NH (rowM_amount (off := off) (h := hoff) sR) (by rw [eS', amount_cell] <;> rfl) (by rw [eR', amount_cell] <;> rfl) (O₀ := O₀) O (by rw [eR']; exact hO) (W := W)
    h1 h2
  rw [eS', eR', rowM_set (h := hoff) (bk c k) e] at rule
  unfold rowPts
  iintro ⟨#HR, Hs, ⟨Hd, Hq⟩, HO, Ht1, Hr1, Ht2, Hr2⟩
  iapply rule
  isplitr; · iapply (inv_at m K c .hs); iexact HR
  isplitr; · iapply (inv_at m K (nxt c) .hr); iexact HR
  isplitl [Hs]; · iexact Hs
  isplitl [Hd Hq]
  · isplitl [Hd]; · iexact Hd
    iexact Hq
  isplitl [HO]; · iexact HO
  isplitl [Ht1]; · iexact Ht1
  isplitl [Hr1]; · iexact Hr1
  isplitl [Ht2]; · iexact Ht2
  iexact Hr2

/-! ## A weight slot to the right -/

theorem wp_send_slot (K : Dev nD → Kind → ℕ) (c n : Dev nD) (hn : n = nxt c) (s : ℕ) (hs : s < 15) (p p' : Fin 2)
    (hp : s % 2 = p.val) (hp' : p.val + p'.val = 1) {off off' : Fin 4 → Nat} {hoff hoff'}
    (e : off = ![p.val, 0, 0, 0]) (e' : off' = ![p'.val, 0, 0, 0]) (sS sR : DmaSem sig) (eS : SemLoc.dma sS = semOf (.ws p))
    (eR : SemLoc.dma sR = semOf (.wr p'))
    {hsc : (slotM off' hoff' : Memref sig (Dev.tc n : Thread nD τ).2.kind .vmem S4x512x1024 .f32).view.ref.isScScratch = false}
    {hsrc : (slotM off hoff).view.WordExact} {hdst : (slotM off' hoff').view.WordExact}
    {hsem : DmaTarget.Typed .vmem (.dma sR) (.remote (Dev.tc n : Thread nD τ) (slotM off' hoff') (.dma sS) hsc)}
    {α : Type} {Q : α → sProp 𝕄} {k' : PUnit → Prog (TpuEff nD τ sig (Elt F) Λ₀ .tc) α}
    (fd : (cc0_scratch1 : Ref sig .tc).ty.Contents (Elt F)) (O₀ O : CellTallies nD τ sig ℕ)
    (hO : O₀ = O + tallyAt (cell (nxt c) (.wr p')) (s + 1) NW) (W : Waits sig ℕ) :
    iprop(Recs m K ∗ slotPts c p (wBuf m (bk c s)) ∗ slotPts (nxt c) p' fd
        ∗ owes (c : Thread nD τ) O₀ W
        ∗ dutyTok ER (cell c (.ws p)) (s / 2) 0 ∗ reached ER (cell c (.ws p)) (s / 2)
        ∗ dutyTok ER (cell (nxt c) (.wr p')) (s / 2) 0 ∗ reached ER (cell (nxt c) (.wr p')) (s / 2))
      ⊢ iprop(((cred (tallyAt (cell c (.ws p)) s NW) ∗ owes (c : Thread nD τ) O W)
            -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (slotM off hoff) (.remote (Dev.tc n : Thread nD τ) (slotM off' hoff') (.dma sS) hsc)
                (.dma sR) hsrc hdst hsem) k') Q) := by
  subst hn
  have eS' : ((c : Thread nD τ), SemLoc.dma sS) = cell c (.ws p) := by rw [eS]
  have eR' : ((nxt c : Thread nD τ), SemLoc.dma sR) = cell (nxt c) (.wr p') := by rw [eR]
  have h1 : (((slotM off hoff).view.loc (c : Thread nD τ)) ↦[(slotM off hoff).view.set]{fullShare} wBuf m (bk c s) : sProp 𝕄)
      ⊢ (ringRd m).payload ((c : Thread nD τ), SemLoc.dma sS) (s / 2) 0 := by
    rw [eS', payload_cell, slotM_set (h := hoff) p e]
    dsimp only [payK]
    rw [show 2 * (s / 2) + p.val = s by omega]
    exact BI.Entails.refl _
  have h2 : (((slotM off' hoff').view.loc (nxt c : Thread nD τ)) ↦[(slotM off' hoff').view.set]{fullShare}
        ((slotM off' hoff').view.write (Elt F) fd ((slotM off hoff).view.read (Elt F) (wBuf m (bk c s))) Finset.univ) : sProp 𝕄)
      ⊢ (ringRd m).payload ((nxt c : Thread nD τ), SemLoc.dma sR) (s / 2) 0 := by
    rw [eR', payload_cell, slotM_set (h := hoff') p' e']
    dsimp only [payK]
    rw [show 2 * (s / 2) + 2 - p'.val = s + 1 by omega, bk_nxt]
    unfold slotPts
    rw [slotM_read m p e, pointsTo_congr (g := wBuf m (bk c s)) fun i hi => slotM_write m p' e' (bk c s) fd i hi]
  have g1 : 0 ∈ (ringRd m).duties ((c : Thread nD τ), SemLoc.dma sS) (s / 2) := by
    rw [eS', duties_cell]
    have : s / 2 < 8 - p.val := by omega
    simp [dutiesK, this]
  have g2 : 0 ∈ (ringRd m).duties ((nxt c : Thread nD τ), SemLoc.dma sR) (s / 2) := by
    rw [eR', duties_cell]
    have : s / 2 < 7 + p'.val := by omega
    simp [dutiesK, this]
  have rule := Rounds.wp_send_pointsTo (α := α) (c' := (nxt c : Thread nD τ)) (src := slotM off hoff) (dst := slotM off' hoff') (hsc := hsc) (sS := .dma sS) (sem := .dma sR) (k := k') (Q := Q) (hsem := hsem) (hsrc := hsrc) (hdst := hdst) (defs := defs₀ (F := F)) (Es := Set.univ) (Γ := .empty)
    𝒱₀ ER (ringRd m) (c : Thread nD τ) none (κ₁ := K c (.ws p)) (κ₂ := K (nxt c) (.wr p'))
    (r₁ := s / 2) (r₂ := s / 2) (d₁ := 0) (d₂ := 0) (fs := wBuf m (bk c s)) (fd := fd) (q := fullShare)
    g1
    g2
    (s + 1) s NW (slotM_amount (off := off') (h := hoff') sR) (by rw [eS', amount_cell] <;> rfl) (by rw [eR', amount_cell] <;> rfl) (O₀ := O₀) O (by rw [eR']; exact hO) (W := W)
    h1 h2
  rw [eS', eR', slotM_set (h := hoff) p e, slotM_set (h := hoff') p' e'] at rule
  unfold slotPts
  iintro ⟨#HR, Hs, Hd, HO, Ht1, Hr1, Ht2, Hr2⟩
  iapply rule
  isplitr; · iapply (inv_at m K c (.ws p)); iexact HR
  isplitr; · iapply (inv_at m K (nxt c) (.wr p')); iexact HR
  isplitl [Hs]; · iexact Hs
  isplitl [Hd]; · iexact Hd
  isplitl [HO]; · iexact HO
  isplitl [Ht1]; · iexact Ht1
  isplitl [Hr1]; · iexact Hr1
  isplitl [Ht2]; · iexact Ht2
  iexact Hr2

end Cert.Moe
-- ==== Proof.Steps.lean ====
/-
  One step at a time: a wait for the one payment of a round, a signal that pays one, and waits at the counting cell of the
  freed weight slots, where any of the left-over payments may be the one that a wait meets.
-/
module

public import proofs.«01_k».proof.Proof.Send

@[expose] public section

set_option maxRecDepth 16384

noncomputable section

namespace Cert.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Pipeline (Dat Cfg Window BodyObligation cellOf)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)

/-- The words that the counts are given as. -/
theorem word_one : (1#32 : BitVec 32).toInt = ((1 : ℕ) : ℤ) := by decide
theorem word_two : (2#32 : BitVec 32).toInt = ((2 : ℕ) : ℤ) := by decide

/-- A step under a condition before a rest that both branches share. -/
theorem wp_guard {c : Thread nD τ} {α : Type} {C : Prop} [dec : Decidable C] {w : TpuEff nD τ sig (Elt F) Λ₀ c.2 PUnit}
    {t : Prog (TpuEff nD τ sig (Elt F) Λ₀ c.2) α} {Q : α → sProp 𝕄} (P R : sProp 𝕄)
    (hA : C → P ⊢ iprop((R -∗ wp frame (wpE (defs₀ (F := F)) 𝒱₀ c none) Set.univ t Q)
      -∗ wp frame (wpE (defs₀ (F := F)) 𝒱₀ c none) Set.univ (.op w fun _ => t) Q))
    (hB : ¬C → P ⊢ R) :
    P ⊢ iprop((R -∗ wp frame (wpE (defs₀ (F := F)) 𝒱₀ c none) Set.univ t Q)
      -∗ wp frame (wpE (defs₀ (F := F)) 𝒱₀ c none) Set.univ (if h : C then .op w fun _ => t else t) Q) := by
  by_cases h : C
  · rw [dif_pos h]; exact hA h
  · rw [dif_neg h]
    iintro HP HK
    iapply HK
    iapply (hB h); iexact HP

/-- What a device still owes, whatever it has waited on. -/
def owed (c : Dev nD) (O : CellTallies nD τ sig ℕ) : sProp 𝕄 := iprop(∃ W, owes (c : Thread nD τ) O W)

/-- A wait that takes the one payment of the round. -/
theorem step_wait (K : Dev nD → Kind → ℕ) (c : Dev nD) (k : Kind) (r i : ℕ) (O : CellTallies nD τ sig ℕ)
    (hd : dutiesK k r = {0}) (hi : i < 64) (hO : After (lvl (cell c k) i) O)
    {w : TpuEff nD τ sig (Elt F) Λ₀ .tc PUnit} {sm : SemLoc sig} (e : sm = semOf k)
    (hw : ∀ R : PUnit → sProp 𝕄, wpE (defs₀ (F := F)) 𝒱₀ (c : Thread nD τ) none Set.univ w R
      = waitSpec (c : Thread nD τ) Set.univ sm (amountK k) R)
    {α : Type} {Q : α → sProp 𝕄} {k' : PUnit → Prog (TpuEff nD τ sig (Elt F) Λ₀ .tc) α} :
    iprop(Recs m K ∗ levAts Lix lvl ∗ cred (tallyAt (cell c k) i (amountK k)) ∗ owed c O ∗ atPos ER (cell c k) r ∅ 0)
      ⊢ iprop(((owed c O ∗ atPos ER (cell c k) (r + 1) ∅ 0 ∗ reached ER (cell c k) (r + 1) ∗ payK m c k r 0)
            -∗ wp frame (wpE (defs₀ (F := F)) 𝒱₀ (c : Thread nD τ) none) Set.univ (k' ⟨⟩) Q)
          -∗ wp frame (wpE (defs₀ (F := F)) 𝒱₀ (c : Thread nD τ) none) Set.univ (.op w k') Q) := by
  subst e
  unfold owed
  iintro ⟨#HR, #Hlev, Hc, ⟨%W, HO⟩, Hat⟩ Hk
  iapply (Rounds.wp_wait_rest_token 𝒱₀ ER (ringRd m) (c : Thread nD τ) none (κ := K c k)
      hw (Set.mem_univ _) i (O := O) (W := W) (R := r) (m := 0) (T := ∅)
      (by rw [expect_one m c k r hd, Nat.zero_add])) $$ [Hc HO Hat]
  · isplitr; · iapply (inv_at m K c k); iexact HR
    isplitl [Hc]; · iexact Hc
    isplitl [HO]; · iexact HO
    isplitr; · iapply (mayWait c (semOf k) i hi O hO); iexact Hlev
    iexact Hat
  iintro ⟨HO, Hat, Hr, Hp⟩
  ihave Hp' := (Entails.of_eq (rest_one m c k r hd)) $$ Hp
  iapply Hk
  isplitl [HO]; · iexists (insert (semOf k, i) W); iexact HO
  isplitl [Hat]; · iexact Hat
  isplitl [Hr]; · iexact Hr
  iexact Hp'

/-- The same at a transfer's wait, for the credit of the buffer it names. -/
theorem step_dma (K : Dev nD → Kind → ℕ) (c : Dev nD) (k : Kind) (r i : ℕ) (O : CellTallies nD τ sig ℕ)
    (hd : dutiesK k r = {0}) (hi : i < 64) (hO : After (lvl (cell c k) i) O)
    {sp sp' : Space} {s s' : Shape} {t t' : EltTy} {sS : DmaSem sig} {src : Memref sig .tc sp' s' t'} {dst : Memref sig .tc sp s t}
    {hsrc : src.view.WordExact} {hdst : dst.view.WordExact} (e : SemLoc.dma sS = semOf k) (hN : dst.view.dmaCredit = amountK k)
    {α : Type} {Q : α → sProp 𝕄} {k' : PUnit → Prog (TpuEff nD τ sig (Elt F) Λ₀ .tc) α} :
    iprop(Recs m K ∗ levAts Lix lvl ∗ cred (tallyAt (cell c k) i (amountK k)) ∗ owed c O ∗ atPos ER (cell c k) r ∅ 0)
      ⊢ iprop(((owed c O ∗ atPos ER (cell c k) (r + 1) ∅ 0 ∗ reached ER (cell c k) (r + 1) ∗ payK m c k r 0)
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 sS src dst hsrc hdst) k') Q) :=
  step_wait m K c k r i O hd hi hO (sm := .dma sS) e (by
    intro R; rw [← hN]; exact wpE_waitDma2_eq 𝒱₀ (c : Thread nD τ) none Set.univ R)

/-- A signal that pays duty `d` of round `r` of device `n`'s cell. -/
theorem step_signal (K : Dev nD → Kind → ℕ) (c n : Dev nD) (k : Kind) (r d i : ℕ) (O₀ O : CellTallies nD τ sig ℕ)
    (hd : d ∈ dutiesK k r) (ha : amountK k = 1) (hO : O₀ = O + tallyAt (cell n k) i 1)
    {sm : Sem sig} (e : SemLoc.reg sm = semOf k) {n' : Dev nD} (hn : n' = n)
    {α : Type} {Q : α → sProp 𝕄} {k' : PUnit → Prog (TpuEff nD τ sig (Elt F) Λ₀ .tc) α} :
    iprop(Recs m K ∗ owed c O₀ ∗ dutyTok ER (cell n k) r d ∗ payK m n k r d ∗ reached ER (cell n k) r)
      ⊢ iprop((owed c O -∗ wp frame (wpE (defs₀ (F := F)) 𝒱₀ (c : Thread nD τ) none) Set.univ (k' ⟨⟩) Q)
          -∗ wp frame (wpE (defs₀ (F := F)) 𝒱₀ (c : Thread nD τ) none) Set.univ
              (.op (.semSignal (n' : Thread nD τ) sm (1 : ℕ)) k') Q) := by
  subst hn
  have e' : ((n' : Thread nD τ), SemLoc.reg sm) = cell n' k := by rw [e]
  have rule := fun W => Rounds.wp_signal (W := W) (k := k') (Q := Q) (defs := defs₀ (F := F)) (Γ := .empty) (Es := Set.univ)
    𝒱₀ ER (ringRd m) (c : Thread nD τ) none (dst := (n' : Thread nD τ)) (sem := sm) (r := r) (d := d) (k' := 1) (κ := K n' k)
    (by rw [e', duties_cell]; exact hd) (by rw [e', amount_cell]; exact ha) i (O₀ := O₀) O (by rw [e']; exact hO)
  simp only [e', payload_cell] at rule
  unfold owed
  iintro ⟨#HR, ⟨%W, HO⟩, Ht, Hp, Hr⟩ Hk
  iapply (rule W) $$ [HO Ht Hp Hr]
  · isplitr; · iapply (inv_at m K n' k); iexact HR
    isplitl [HO]; · iexact HO
    isplitl [Ht]; · iexact Ht
    isplitl [Hp]; · iexact Hp
    iexact Hr
  iintro HO
  iapply Hk
  iexists W; iexact HO

/-- After `a` waits: the open round's met payments are kept, and there are at least `a` of them. -/
def wcrAt (c : Dev nD) (a : ℕ) : sProp 𝕄 :=
  iprop(∃ T : Finset ℕ, ⌜T ⊆ Finset.range 14 ∧ a ≤ T.card⌝ ∗ atPos ER (cell c .wcr) 0 T a ∗ bigSep T (wcrPay (nxt c)))

theorem expect_wcr (c : Dev nD) : (ringRd (F := F) m).expect (cell c .wcr) 0 = 14 := by
  unfold Rounds.Schedule.expect Rounds.Schedule.amountOf
  rw [duties_cell, show dutiesK .wcr 0 = Finset.range 14 from rfl]
  have : ∀ d ∈ Finset.range 14, (ringRd (F := F) m).amount (cell c .wcr) 0 d = 1 := fun d _ => amount_cell m c .wcr 0 d
  rw [Finset.sum_congr rfl this]; rfl

/-- What a device knows of its right neighbour's slots once one payment of at least number `d` was met. -/
theorem wcrPay_mono (l : Dev nD) {d d' : ℕ} (h : d' ≤ d) : (wcrPay (F := F) l d) ⊢ wcrPay l d' := by
  unfold wcrPay
  iintro ⟨H0, H1, H2, H3⟩
  isplitl [H0]; · iapply (released_mono ES (show d' / 2 + 1 ≤ d / 2 + 1 by omega)); iexact H0
  isplitl [H1]; · iapply (released_mono ES (show (d' + 1) / 2 + 1 ≤ (d + 1) / 2 + 1 by omega)); iexact H1
  isplitl [H2]; · iapply (Rounds.reached_mono ER (show d' / 2 ≤ d / 2 by omega)); iexact H2
  iapply (Rounds.reached_mono ER (show (d' + 1) / 2 ≤ (d + 1) / 2 by omega)); iexact H3

theorem wcr_top (l : Dev nD) (T : Finset ℕ) (a : ℕ) (h : a + 1 ≤ T.card) : bigSep T (wcrPay (F := F) l) ⊢ wcrPay l a := by
  have : ∃ d ∈ T, a ≤ d := by
    by_contra hc
    push Not at hc
    have : T ⊆ Finset.range a := fun d hd => Finset.mem_range.mpr (hc d hd)
    have := Finset.card_le_card this
    rw [Finset.card_range] at this
    omega
  obtain ⟨d, hd, had⟩ := this
  have h1 : (bigSep T (wcrPay (F := F) l) : sProp 𝕄) ⊢ wcrPay l d := bigSep_elim hd
  exact h1.trans (wcrPay_mono l had)

theorem split_at {S T : Finset ℕ} (h : T ⊆ S) (Φ : ℕ → sProp 𝕄) : bigSep S Φ = iprop(bigSep T Φ ∗ bigSep (S \ T) Φ) :=
  BI.bigSep_sdiff_split h

/-- The wait number `a + 1` at the counting cell. -/
theorem step_wcr (K : Dev nD → Kind → ℕ) (c : Dev nD) (a i : ℕ) (O : CellTallies nD τ sig ℕ)
    (ha : a < 14) (hi : i < 64) (hO : After (lvl (cell c .wcr) i) O)
    {w : TpuEff nD τ sig (Elt F) Λ₀ .tc PUnit} {sm : SemLoc sig} (e : sm = semOf .wcr)
    (hw : ∀ R : PUnit → sProp 𝕄, wpE (defs₀ (F := F)) 𝒱₀ (c : Thread nD τ) none Set.univ w R
      = waitSpec (c : Thread nD τ) Set.univ sm 1 R)
    {α : Type} {Q : α → sProp 𝕄} {k' : PUnit → Prog (TpuEff nD τ sig (Elt F) Λ₀ .tc) α} :
    iprop(Recs m K ∗ levAts Lix lvl ∗ cred (tallyAt (cell c .wcr) i 1) ∗ owed c O ∗ wcrAt c a)
      ⊢ iprop(((owed c O ∗ wcrAt c (a + 1) ∗ wcrPay (nxt c) a)
            -∗ wp frame (wpE (defs₀ (F := F)) 𝒱₀ (c : Thread nD τ) none) Set.univ (k' ⟨⟩) Q)
          -∗ wp frame (wpE (defs₀ (F := F)) 𝒱₀ (c : Thread nD τ) none) Set.univ (.op w k') Q) := by
  subst e
  unfold owed wcrAt
  iintro ⟨#HR, #Hlev, Hc, ⟨%W, HO⟩, ⟨%T, %hT, Hat, #HT⟩⟩ Hk
  iapply (Rounds.wp_wait 𝒱₀ ER (ringRd m) (c : Thread nD τ) none (κ := K c .wcr)
      hw (Set.mem_univ _) (cr := Finsupp.single i 1) (O := O) (W := W) {(semOf .wcr, i)} (R := 0) (m := a) (T := T)
      (by rw [Util.total_single]) (by
        intro x hx
        obtain ⟨y, hy, rfl⟩ := Finset.mem_image.mp hx
        rw [Finset.mem_singleton.mp (Finsupp.support_single_subset hy)]
        exact Finset.mem_singleton_self _)) $$ [Hc HO Hat]
  · isplitr; · iapply (inv_at m K c .wcr); iexact HR
    isplitl [Hc]; · iexact Hc
    isplitl [HO]; · iexact HO
    isplitr; · iapply (mayWait c (semOf .wcr) i hi O hO); iexact Hlev
    iexact Hat
  iintro %S ⟨%hS, HO, Hat, Hp⟩
  obtain ⟨h1, h2, h3⟩ := hS
  rw [duties_cell, show dutiesK .wcr 0 = Finset.range 14 from rfl] at h2 h3
  have hcard : a + 1 ≤ S.card := by
    rw [expect_wcr] at h3
    have := Finset.card_sdiff_add_card_eq_card h2
    rw [Finset.card_range] at this
    omega
  ihave #HS := (show (iprop(bigSep (S \ T) (fun d => (ringRd m).payload (cell c .wcr) 0 d) ∗ bigSep T (wcrPay (nxt c))) : sProp 𝕄)
      ⊢ bigSep S (wcrPay (nxt c)) from by
        rw [bigSep_congr (fun d _ => payload_cell m c .wcr 0 d), split_at h1 (wcrPay (nxt c))]
        iintro ⟨H1, H2⟩
        isplitl [H2]; · iexact H2
        iexact H1) $$ [Hp]
  · isplitl [Hp]; · iexact Hp
    iexact HT
  iapply Hk
  isplitl [HO]; · iexists _; iexact HO
  isplitl [Hat]
  · iexists S
    isplitr; · ipureintro; exact ⟨h2, hcard⟩
    isplitl [Hat]; · iexact Hat
    iexact HS
  · iapply (wcr_top (nxt c) S a hcard); iexact HS

end Cert.Moe
-- ==== Proof.WRing.lean ====
/-
  The weight ring, one step in three phases. Receive: the weights that are due lie in slot `step mod 2`. Send: once the
  right neighbour has freed its other slot, the weights go there, and the sending ends before anything else is done. Free:
  after the products, the slot is given back to the left neighbour, as long as weights are still to come into it.
-/
module

public import proofs.«01_k».proof.Proof.Steps

@[expose] public section

set_option maxRecDepth 16384

noncomputable section

namespace Cert.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Pipeline (Dat Cfg Window BodyObligation cellOf)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)

/-- A step under a condition, in whose other branch nothing is done before the rest. -/
theorem wp_guard' {c : Thread nD τ} {α : Type} {C : Prop} [dec : Decidable C] {A : C → Prog (TpuEff nD τ sig (Elt F) Λ₀ c.2) α}
    {t : Prog (TpuEff nD τ sig (Elt F) Λ₀ c.2) α} {Q : α → sProp 𝕄} (P R : sProp 𝕄)
    (hA : ∀ h : C, P ⊢ iprop((R -∗ wp frame (wpE (defs₀ (F := F)) 𝒱₀ c none) Set.univ t Q)
      -∗ wp frame (wpE (defs₀ (F := F)) 𝒱₀ c none) Set.univ (A h) Q))
    (hB : ¬C → P ⊢ R) :
    P ⊢ iprop((R -∗ wp frame (wpE (defs₀ (F := F)) 𝒱₀ c none) Set.univ t Q)
      -∗ wp frame (wpE (defs₀ (F := F)) 𝒱₀ c none) Set.univ (if h : C then A h else t) Q) := by
  by_cases h : C
  · rw [dif_pos h]; exact hA h
  · rw [dif_neg h]
    iintro HP HK
    iapply HK
    iapply (hB h); iexact HP

/-! ## Parities -/

/-- The slot of step `s`. -/
def par (s : ℕ) : Fin 2 := ⟨s % 2, Nat.mod_lt _ (by decide)⟩
theorem par_eq {s : ℕ} {p : Fin 2} (h : s % 2 = p.val) : par s = p := Fin.ext h
theorem par_succ {s : ℕ} {p p' : Fin 2} (h : s % 2 = p.val) (h' : p.val + p'.val = 1) : par (s + 1) = p' := by
  apply Fin.ext; show (s + 1) % 2 = p'.val; omega

theorem two_split {p p' : Fin 2} (h : p.val + p'.val = 1) (Φ : Fin 2 → sProp 𝕄) :
    bigSep (Finset.univ : Finset (Fin 2)) Φ = iprop(Φ p ∗ Φ p') := by
  rw [BI.bigSep_fin_two]
  rcases (show p = 0 ∧ p' = 1 ∨ p = 1 ∧ p' = 0 by omega) with ⟨rfl, rfl⟩ | ⟨rfl, rfl⟩
  · rfl
  · exact Entails.antisymm sep_comm sep_comm

/-- How often slot `p` was sent from, received into, and given back, before step `k`. -/
def nS (p : Fin 2) (k : ℕ) : ℕ := (min k 15 + 1 - p.val) / 2
def nR (p : Fin 2) (k : ℕ) : ℕ := (k - 1 + p.val) / 2
def nL (p : Fin 2) (k : ℕ) : ℕ := p.val + (min k 14 + 1 - p.val) / 2

/-! ## The slots' records -/

/-- A slot's elements, whatever they hold. -/
def slotRes (x : Dev nD × Fin 2) : sProp 𝕄 := slot (((x.1 : Dev nD) : Thread nD τ).loc cc0_scratch1) (slotSet x.2)

instance slotRes_storable (x : Dev nD × Fin 2) :
    Storable (upEmb (nD := nD) (sig := sig) (Ix := ℕ) (Val := Elt F) (Name := ℕ) (U := UU) (Lvl := ℕ)) (slotRes (F := F) x) := by
  unfold slotRes; infer_instance

theorem slotRes_twice (x : Dev nD × Fin 2) : iprop(slotRes x ∗ slotRes x) ⊢ (False : sProp 𝕄) :=
  slot_slot_false ⟨(ValueIdx.ix4 x.2 0 0 0 : S2x4x512x1024.Idx), (mem_slotSet x.2 _).mpr rfl⟩

theorem slotRes_intro (c : Dev nD) (p : Fin 2) (f) : slotPts (F := F) c p f ⊢ slotRes (c, p) := by
  unfold slotRes slotPts slot
  iintro H; iexists f; iexact H

/-- Every slot stands under its invariant. -/
def Slots (J : Dev nD × Fin 2 → ℕ) : sProp 𝕄 :=
  bigSep (Finset.univ : Finset (Dev nD × Fin 2)) fun x => slotInv ES (J x) x (slotRes x)
instance Slots_persistent (J : Dev nD × Fin 2 → ℕ) : BI.Persistent (Slots (F := F) J) := by unfold Slots; infer_instance
theorem slots_at (J : Dev nD × Fin 2 → ℕ) (x : Dev nD × Fin 2) : Slots (F := F) J ⊢ slotInv ES (J x) x (slotRes x) := by
  have h : (bigSep (Finset.univ : Finset (Dev nD × Fin 2)) (fun x => slotInv ES (J x) x (slotRes x)) : sProp 𝕄)
      ⊢ slotInv ES (J x) x (slotRes x) := bigSep_elim (Finset.mem_univ x)
  exact h

/-! ## What is owed -/

def OW (c : Dev nD) (k : ℕ) : CellTallies nD τ sig ℕ :=
  (∑ j ∈ Finset.Ico k 15, tallyAt (cell (nxt c) (.wr (par (j + 1)))) (j + 1) NW) + ∑ j ∈ Finset.Ico k 14, tallyAt (cell (prv c) .wcr) j 1
/-- The same once step `k`'s weights are sent. -/
def OWmid (c : Dev nD) (k : ℕ) : CellTallies nD τ sig ℕ :=
  (∑ j ∈ Finset.Ico (k + 1) 15, tallyAt (cell (nxt c) (.wr (par (j + 1)))) (j + 1) NW) + ∑ j ∈ Finset.Ico k 14, tallyAt (cell (prv c) .wcr) j 1

theorem OW_send (c : Dev nD) (k : ℕ) (h : k < 15) : OW c k = OWmid c k + tallyAt (cell (nxt c) (.wr (par (k + 1)))) (k + 1) NW := by
  unfold OW OWmid; rw [Ring.sum_Ico_succ h, add_comm (tallyAt _ _ _), add_right_comm]
theorem OW_last (c : Dev nD) (k : ℕ) (h : 15 ≤ k) : OW c k = OWmid c k := by
  unfold OW OWmid; rw [Finset.Ico_eq_empty_of_le h, Finset.Ico_eq_empty_of_le (show 15 ≤ k + 1 by omega)]
theorem OWmid_signal (c : Dev nD) (k : ℕ) (h : k < 14) : OWmid c k = OW c (k + 1) + tallyAt (cell (prv c) .wcr) k 1 := by
  unfold OW OWmid; rw [Ring.sum_Ico_succ h, add_comm (tallyAt _ _ _), add_assoc]
theorem OWmid_last (c : Dev nD) (k : ℕ) (h : 14 ≤ k) : OWmid c k = OW c (k + 1) := by
  unfold OW OWmid; rw [Finset.Ico_eq_empty_of_le h, Finset.Ico_eq_empty_of_le (show 14 ≤ k + 1 by omega)]

theorem after_OW (c : Dev nD) (k : ℕ) : After (4 * k + 102) (OW c k) := by
  unfold OW
  refine (After.sum _ fun j hj => ?_).add (After.sum _ fun j hj => ?_) <;> rw [Finset.mem_Ico] at hj <;>
    refine After.tally ?_ (by omega) <;> rw [lvl_cell] <;> dsimp only <;> omega
theorem after_OWmid (c : Dev nD) (k : ℕ) : After (4 * k + 102) (OWmid c k) := by
  unfold OWmid
  refine (After.sum _ fun j hj => ?_).add (After.sum _ fun j hj => ?_) <;> rw [Finset.mem_Ico] at hj <;>
    refine After.tally ?_ (by omega) <;> rw [lvl_cell] <;> dsimp only <;> omega

/-! ## Receive -/

/-- The receiving cells before step `k`, and the credits of what is still to come. -/
def RecvSt (c : Dev nD) (k : ℕ) : sProp 𝕄 :=
  iprop((bigSep (Finset.univ : Finset (Fin 2)) fun p => iprop(atPos ER (cell c (.wr p)) (nR p k) ∅ 0 ∗ reached ER (cell c (.wr p)) (nR p k)))
    ∗ bigSep (Finset.Ico (k - 1) 15) fun j => cred (tallyAt (cell c (.wr (par (j + 1)))) (j + 1) NW))
/-- The weights of step 0 before step 0. -/
def ArrSt (c : Dev nD) (k : ℕ) : sProp 𝕄 := bigSep (Finset.Ico k 1) fun _ => slotPts c 0 (wBuf m (bk c 0))

theorem recv_wait (K : Dev nD → Kind → ℕ) (c : Dev nD) (k : ℕ) (hk : k < 16) (p p' : Fin 2) (hp : k % 2 = p.val) (hp' : p.val + p'.val = 1)
    (O : CellTallies nD τ sig ℕ) (hO : After (4 * k + 100) O) (hk0 : 0 < k)
    {sp sp' : Space} {s s' : Shape} {t t' : EltTy} {sR : DmaSem sig} {src : Memref sig .tc sp' s' t'} {dst : Memref sig .tc sp s t}
    {hsrc : src.view.WordExact} {hdst : dst.view.WordExact} (e : SemLoc.dma sR = semOf (.wr p)) (hN : dst.view.dmaCredit = NW)
    {α : Type} {Q : α → sProp 𝕄} {rest : Prog (TpuEff nD τ sig (Elt F) Λ₀ .tc) α} :
    iprop(Recs m K ∗ levAts Lix lvl ∗ RecvSt c k ∗ ArrSt m c k ∗ owed c O)
      ⊢ iprop(((RecvSt c (k + 1) ∗ slotPts c p (wBuf m (bk c k)) ∗ owed c O)
            -∗ wp frame (wpE (defs₀ (F := F)) 𝒱₀ (c : Thread nD τ) none) Set.univ rest Q)
          -∗ wp frame (wpE (defs₀ (F := F)) 𝒱₀ (c : Thread nD τ) none) Set.univ (.op (.waitDma2 sR src dst hsrc hdst) fun _ => rest) Q) := by
  have e1 : nR p (k + 1) = nR p k + 1 := by unfold nR; omega
  have e2 : nR p' (k + 1) = nR p' k := by unfold nR; omega
  have e3 : 2 * nR p k + 2 - p.val = k := by unfold nR; omega
  obtain ⟨j, rfl⟩ : ∃ j, k = j + 1 := ⟨k - 1, by omega⟩
  unfold RecvSt
  rw [two_split hp', two_split hp', e1, e2, Nat.add_sub_cancel, Nat.add_sub_cancel, Ico_peel (show j < 15 by omega), par_eq hp]
  iintro ⟨#HR, #Hlev, ⟨⟨⟨Ha, Hr⟩, Hp'⟩, ⟨Hc, Hcs⟩⟩, -, HO⟩ HK
  iapply (step_dma m K c (.wr p) (nR p (j + 1)) (j + 1) O
    (by simp only [dutiesK]; rw [if_pos (by unfold nR; omega)]) (by omega) (by rw [lvl_cell]; exact hO) e hN) $$ [Hc HO Ha]
  · isplitr; · iexact HR
    isplitr; · iexact Hlev
    isplitl [Hc]; · iexact Hc
    isplitl [HO]; · iexact HO
    iexact Ha
  iintro ⟨HO, Ha, #Hr', Hp⟩
  ihave Hp := (Entails.of_eq (show payK m c (.wr p) (nR p (j + 1)) 0 = slotPts c p (wBuf m (bk c (j + 1))) from by
    rw [show payK m c (.wr p) (nR p (j + 1)) 0 = slotPts c p (wBuf m (bk c (2 * nR p (j + 1) + 2 - p.val))) from rfl, e3])) $$ Hp
  iapply HK
  isplitl [Ha Hp' Hcs]
  · isplitl [Ha Hp']
    · isplitl [Ha]
      · isplitl [Ha]; · iexact Ha
        iexact Hr'
      iexact Hp'
    iexact Hcs
  isplitl [Hp]; · iexact Hp
  iexact HO

theorem recv_zero (c : Dev nD) (O : CellTallies nD τ sig ℕ) :
    iprop(RecvSt c 0 ∗ ArrSt m c 0 ∗ owed c O) ⊢ iprop(RecvSt c 1 ∗ slotPts c 0 (wBuf m (bk c 0)) ∗ owed c O) := by
  have e : RecvSt (F := F) c 0 = RecvSt c 1 := rfl
  unfold ArrSt
  rw [e, Ico_peel (show 0 < 1 by omega), Ico_done (show 1 ≤ 0 + 1 by omega)]
  iintro ⟨H1, ⟨H2, -⟩, H3⟩
  isplitl [H1]; · iexact H1
  isplitl [H2]; · iexact H2
  iexact H3

/-! ## Send -/

/-- The sending cells before step `k`, the tokens and credits of what is still to come, and what is known of the right
neighbour before the first step: its slot 1 is free. -/
def SendSt (c : Dev nD) (k : ℕ) : sProp 𝕄 :=
  iprop((bigSep (Finset.univ : Finset (Fin 2)) fun p => iprop(atPos ER (cell c (.ws p)) (nS p k) ∅ 0 ∗ reached ER (cell c (.ws p)) (nS p k)))
    ∗ (bigSep (Finset.Ico k 15) fun s => iprop(dutyTok ER (cell c (.ws (par s))) (s / 2) 0
        ∗ dutyTok ER (cell (nxt c) (.wr (par (s + 1)))) (s / 2) 0 ∗ writeTok ES (nxt c, par (s + 1)) (s / 2 + 1)))
    ∗ (bigSep (Finset.Ico (k - 1) 14) fun j => cred (tallyAt (cell c .wcr) j 1))
    ∗ wcrAt c (min (k - 1) 14)
    ∗ released ES (nxt c, 1) 1 ∗ reached ER (cell (nxt c) (.wr 1)) 0)

/-- What the right neighbour's slot must be before step `s` sends into it. -/
def FreeAt (l : Dev nD) (p' : Fin 2) (s : ℕ) : sProp 𝕄 := iprop(released ES (l, p') (s / 2 + 1) ∗ reached ER (cell l (.wr p')) (s / 2))
instance FreeAt_persistent (l : Dev nD) (p' : Fin 2) (s : ℕ) : BI.Persistent (FreeAt (F := F) l p' s) := by unfold FreeAt; infer_instance

theorem wcrPay_free (l : Dev nD) (s : ℕ) (p p' : Fin 2) (hp : (s + 1) % 2 = p.val) (hp' : p.val + p'.val = 1) :
    wcrPay (F := F) l s ⊢ FreeAt l p' (s + 1) := by
  unfold wcrPay FreeAt
  rcases (show p = 0 ∧ p' = 1 ∨ p = 1 ∧ p' = 0 by omega) with ⟨rfl, rfl⟩ | ⟨rfl, rfl⟩
  · rw [show (s + 1) / 2 = (s + 1) / 2 from rfl]
    iintro ⟨#H1, #H2, #H3, #H4⟩
    isplitr; · iexact H2
    iexact H4
  · rw [show (s + 1) / 2 = s / 2 by simp at hp; omega]
    iintro ⟨#H1, #H2, #H3, #H4⟩
    isplitr; · iexact H1
    iexact H3

/-- The wait for the right neighbour's freed slot, and what it leaves. -/
def SendReady (c : Dev nD) (k : ℕ) (p' : Fin 2) : sProp 𝕄 :=
  iprop((bigSep (Finset.univ : Finset (Fin 2)) fun p => iprop(atPos ER (cell c (.ws p)) (nS p k) ∅ 0 ∗ reached ER (cell c (.ws p)) (nS p k)))
    ∗ (bigSep (Finset.Ico k 15) fun s => iprop(dutyTok ER (cell c (.ws (par s))) (s / 2) 0
        ∗ dutyTok ER (cell (nxt c) (.wr (par (s + 1)))) (s / 2) 0 ∗ writeTok ES (nxt c, par (s + 1)) (s / 2 + 1)))
    ∗ (bigSep (Finset.Ico k 14) fun j => cred (tallyAt (cell c .wcr) j 1))
    ∗ wcrAt c (min k 14)
    ∗ FreeAt (nxt c) p' k ∗ released ES (nxt c, 1) 1 ∗ reached ER (cell (nxt c) (.wr 1)) 0)

theorem send_ready_zero (c : Dev nD) (O : CellTallies nD τ sig ℕ) :
    iprop(SendSt c 0 ∗ owed c O) ⊢ iprop(SendReady (F := F) c 0 1 ∗ owed c O) := by
  unfold SendSt SendReady FreeAt
  iintro ⟨⟨H1, H2, H3, H4, #H5, #H6⟩, HO⟩
  isplitr [HO]
  · isplitl [H1]; · iexact H1
    isplitl [H2]; · iexact H2
    isplitl [H3]; · iexact H3
    isplitl [H4]; · iexact H4
    isplitr
    · isplitr; · iexact H5
      iexact H6
    isplitr; · iexact H5
    iexact H6
  iexact HO

theorem send_wait (K : Dev nD → Kind → ℕ) (c : Dev nD) (k : ℕ) (hk : k < 15) (p p' : Fin 2) (hp : k % 2 = p.val) (hp' : p.val + p'.val = 1)
    (O : CellTallies nD τ sig ℕ) (hO : After (4 * k + 99) O) (hk0 : 0 < k)
    {w : TpuEff nD τ sig (Elt F) Λ₀ .tc PUnit} {sm : SemLoc sig} (e : sm = semOf .wcr)
    (hw : ∀ R : PUnit → sProp 𝕄, wpE (defs₀ (F := F)) 𝒱₀ (c : Thread nD τ) none Set.univ w R
      = waitSpec (c : Thread nD τ) Set.univ sm 1 R)
    {α : Type} {Q : α → sProp 𝕄} {rest : Prog (TpuEff nD τ sig (Elt F) Λ₀ .tc) α} :
    iprop(Recs m K ∗ levAts Lix lvl ∗ SendSt c k ∗ owed c O)
      ⊢ iprop(((SendReady c k p' ∗ owed c O)
            -∗ wp frame (wpE (defs₀ (F := F)) 𝒱₀ (c : Thread nD τ) none) Set.univ rest Q)
          -∗ wp frame (wpE (defs₀ (F := F)) 𝒱₀ (c : Thread nD τ) none) Set.univ (.op w fun _ => rest) Q) := by
  obtain ⟨j, rfl⟩ : ∃ j, k = j + 1 := ⟨k - 1, by omega⟩
  unfold SendSt SendReady
  rw [Nat.add_sub_cancel, Ico_peel (show j < 14 by omega), Nat.min_eq_left (show j ≤ 14 by omega), Nat.min_eq_left (show j + 1 ≤ 14 by omega)]
  iintro ⟨#HR, #Hlev, ⟨H1, H2, ⟨Hc, Hcs⟩, Hw, #H5, #H6⟩, HO⟩ HK
  iapply (step_wcr m K c j j O (by omega) (by omega)
    (by rw [lvl_cell]; dsimp only; rw [show 4 * j + 103 = 4 * (j + 1) + 99 by omega]; exact hO) e hw) $$ [Hc HO Hw]
  · isplitr; · iexact HR
    isplitr; · iexact Hlev
    isplitl [Hc]; · iexact Hc
    isplitl [HO]; · iexact HO
    iexact Hw
  iintro ⟨HO, Hw, Hp⟩
  ihave #Hf := (wcrPay_free (nxt c) j p p' hp hp') $$ Hp
  iapply HK
  isplitr [HO]
  · isplitl [H1]; · iexact H1
    isplitl [H2]; · iexact H2
    isplitl [Hcs]; · iexact Hcs
    isplitl [Hw]; · iexact Hw
    isplitr; · iexact Hf
    isplitr; · iexact H5
    iexact H6
  iexact HO

/-- The transfer of step `k`'s weights, and the wait for the end of its sending. -/
theorem send_slot (K : Dev nD → Kind → ℕ) (J : Dev nD × Fin 2 → ℕ) (c : Dev nD) (k : ℕ) (hk : k < 15) (p p' : Fin 2) (hp : k % 2 = p.val) (hp' : p.val + p'.val = 1)
    {n : Dev nD} (hn : n = nxt c) {off off' : Fin 4 → Nat} {hoff hoff'}
    (e : off = ![p.val, 0, 0, 0]) (e' : off' = ![p'.val, 0, 0, 0]) (sS sR : DmaSem sig) (eS : SemLoc.dma sS = semOf (.ws p))
    (eR : SemLoc.dma sR = semOf (.wr p'))
    {hsc : (slotM off' hoff' : Memref sig (Dev.tc n : Thread nD τ).2.kind .vmem S4x512x1024 .f32).view.ref.isScScratch = false}
    {hsrc : (slotM off hoff).view.WordExact} {hdst : (slotM off' hoff').view.WordExact}
    {hsem : DmaTarget.Typed .vmem (.dma sR) (.remote (Dev.tc n : Thread nD τ) (slotM off' hoff') (.dma sS) hsc)}
    {sp sp' : Space} {s s' : Shape} {t t' : EltTy} {src : Memref sig .tc sp' s' t'} {dst : Memref sig .tc sp s t}
    {hsrc' : src.view.WordExact} {hdst' : dst.view.WordExact} (hN : dst.view.dmaCredit = NW)
    {α : Type} {Q : α → sProp 𝕄} {k' : PUnit → Prog (TpuEff nD τ sig (Elt F) Λ₀ .tc) α} :
    iprop(Recs m K ∗ levAts Lix lvl ∗ Slots J ∗ SendReady c k p' ∗ slotPts c p (wBuf m (bk c k)) ∗ owed c (OW c k))
      ⊢ iprop(((SendSt c (k + 1) ∗ slotPts c p (wBuf m (bk c k)) ∗ owed c (OWmid c k))
            -∗ wp frame (wpE (defs₀ (F := F)) 𝒱₀ (c : Thread nD τ) none) Set.univ (k' ⟨⟩) Q)
          -∗ wp frame (wpE (defs₀ (F := F)) 𝒱₀ (c : Thread nD τ) none) Set.univ
            (.op (.enqueueDma (slotM off hoff) (.remote (Dev.tc n : Thread nD τ) (slotM off' hoff') (.dma sS) hsc)
                (.dma sR) hsrc hdst hsem) fun _ => .op (.waitDma2 sS src dst hsrc' hdst') k') Q) := by
  have e1 : nS p (k + 1) = k / 2 + 1 := by unfold nS; omega
  have e2 : nS p' (k + 1) = nS p' k := by unfold nS; omega
  have e3 : nS p k = k / 2 := by unfold nS; omega
  have e4 : 2 * (k / 2) + p.val = k := by omega
  unfold SendSt SendReady FreeAt
  rw [two_split hp', two_split hp', e1, e2, e3, Nat.add_sub_cancel, Ico_peel (show k < 15 from hk), par_eq hp, par_succ hp hp']
  iintro ⟨#HR, #Hlev, #HJ, ⟨⟨⟨Ha, #Hr⟩, Hp'⟩, ⟨⟨Ht1, Ht2, Hwt⟩, Hts⟩, Hcs, Hw, ⟨#Hrel, #Hrch⟩, #H5, #H6⟩, Hs, HO⟩ HK
  ihave #HJ1 := (slots_at J (nxt c, p')) $$ HJ
  ihave Htake := (slot_take ES (Set.mem_univ _) (k / 2 + 1)) $$ [Hwt]
  · isplitr; · iexact HJ1
    isplitr; · iexact Hrel
    iexact Hwt
  imod Htake with Hfree
  ihave Hfree := (Entails.of_eq (show slotRes (nxt c, p') = iprop(∃ f, slotPts (F := F) (nxt c) p' f) from rfl)) $$ Hfree
  icases Hfree with ⟨%fd, Hd⟩
  ihave HO := (Entails.of_eq (show owed (F := F) c (OW c k) = iprop(∃ W, owes (c : Thread nD τ) (OW c k) W) from rfl)) $$ HO
  icases HO with ⟨%W, HO⟩
  iapply (wp_send_slot m K c n hn k hk p p' hp hp' e e' sS sR eS eR fd (OW c k) (OWmid c k)
    (by rw [OW_send c k hk, par_succ hp hp']) W) $$ [Hs Hd HO Ht1 Ht2]
  · isplitr; · iexact HR
    isplitl [Hs]; · iexact Hs
    isplitl [Hd]; · iexact Hd
    isplitl [HO]; · iexact HO
    isplitl [Ht1]; · iexact Ht1
    isplitr; · iexact Hr
    isplitl [Ht2]; · iexact Ht2
    iexact Hrch
  iintro ⟨Hc, HO⟩
  ihave HO := (show iprop(owes (c : Thread nD τ) (OWmid c k) W) ⊢ (owed c (OWmid c k) : sProp 𝕄) from by
    unfold owed; iintro H; iexists W; iexact H) $$ HO
  iapply (step_dma m K c (.ws p) (k / 2) k (OWmid c k)
    (by simp [dutiesK]; omega) (by omega) (by rw [lvl_cell]; exact (after_OWmid c k).mono (by dsimp only; omega)) eS hN) $$ [Hc HO Ha]
  · isplitr; · iexact HR
    isplitr; · iexact Hlev
    isplitl [Hc]; · iexact Hc
    isplitl [HO]; · iexact HO
    iexact Ha
  iintro ⟨HO, Ha, #Hr', Hp⟩
  ihave Hp := (Entails.of_eq (show payK m c (.ws p) (k / 2) 0 = slotPts c p (wBuf m (bk c k)) from by
    rw [show payK m c (.ws p) (k / 2) 0 = slotPts c p (wBuf m (bk c (2 * (k / 2) + p.val))) from rfl, e4])) $$ Hp
  iapply HK
  isplitr [HO Hp]
  · isplitl [Ha Hp']
    · isplitl [Ha]
      · isplitl [Ha]; · iexact Ha
        iexact Hr'
      iexact Hp'
    isplitl [Hts]; · iexact Hts
    isplitl [Hcs]; · iexact Hcs
    isplitl [Hw]; · iexact Hw
    isplitr; · iexact H5
    iexact H6
  isplitl [Hp]; · iexact Hp
  iexact HO

theorem send_last (c : Dev nD) (k : ℕ) (hk : k = 15) (P : sProp 𝕄) :
    iprop(SendSt c k ∗ P ∗ owed c (OW c k)) ⊢ iprop(SendSt (F := F) c (k + 1) ∗ P ∗ owed c (OWmid c k)) := by
  subst hk
  rw [← OW_last c 15 (by omega)]
  have e : SendSt (F := F) c (15 + 1) = SendSt c 15 := by
    unfold SendSt
    rw [Ico_done (show 15 ≤ 15 + 1 by omega), Ico_done (show 15 ≤ 15 by omega), Ico_done (show 14 ≤ 15 + 1 - 1 by omega), Ico_done (show 14 ≤ 15 - 1 by omega)]
    rfl
  rw [e]

/-! ## Free -/

/-- How far slot `p` is known to be given back. -/
def relK (c : Dev nD) (p : Fin 2) : ℕ → sProp 𝕄
  | 0 => iprop(emp)
  | n + 1 => released ES (c, p) (n + 1)
instance relK_persistent (c : Dev nD) (p : Fin 2) (n : ℕ) : BI.Persistent (relK (F := F) c p n) := by
  cases n <;> (unfold relK; infer_instance)

theorem relK_succ (c : Dev nD) (p : Fin 2) (n : ℕ) : relK (F := F) c p (n + 1) = released ES (c, p) (n + 1) := rfl

theorem Ico_last {a k : ℕ} (h : a ≤ k) (Φ : ℕ → sProp 𝕄) :
    bigSep (Finset.Ico a (k + 1)) Φ = iprop(Φ k ∗ bigSep (Finset.Ico a k) Φ) := by
  rw [show Finset.Ico a (k + 1) = insert k (Finset.Ico a k) by ext i; simp; omega, bigSep_insert (by simp)]
  rfl

/-- The device's slots as it frees them, the payments to the left neighbour still to come, and the slots it keeps. -/
def FreeSt (c : Dev nD) (k : ℕ) : sProp 𝕄 :=
  iprop((bigSep (Finset.univ : Finset (Fin 2)) fun p => iprop(readerAt ES (c, p) (nL p k) ∗ relK c p (nL p k)))
    ∗ (bigSep (Finset.Ico k 14) fun s => dutyTok ER (cell (prv c) .wcr) 0 s)
    ∗ reached ER (cell (prv c) .wcr) 0
    ∗ bigSep (Finset.Ico 14 k) fun s => slotPts c (par s) (wBuf m (bk c s)))

theorem free_signal (K : Dev nD → Kind → ℕ) (J : Dev nD × Fin 2 → ℕ) (c : Dev nD) (k : ℕ) (hk : k < 16) (p p' : Fin 2) (hp : k % 2 = p.val) (hp' : p.val + p'.val = 1)
    {C : Prop} [Decidable C] (hC : C ↔ k < 14) {n : C → Dev nD} (hn : ∀ h, n h = prv c) :
    iprop(Recs m K ∗ Slots J ∗ RecvSt c (k + 1) ∗ FreeSt m c k ∗ slotPts c p (wBuf m (bk c k)) ∗ owed c (OWmid c k))
      ⊢ wp frame (wpE (defs₀ (F := F)) 𝒱₀ (c : Thread nD τ) none) Set.univ
          (if h : C then .op (.semSignal (n h : Thread nD τ) cc0_scratch8.sem (1 : ℕ)) fun _ => .ret PUnit.unit else .ret PUnit.unit)
          (fun _ => iprop(RecvSt c (k + 1) ∗ FreeSt m c (k + 1) ∗ owed c (OW c (k + 1)))) := by
  by_cases hc : k < 14
  · have e2 : nL p' (k + 1) = nL p' k := by unfold nL; omega
    have e1 : nL p (k + 1) = nL p k + 1 := by unfold nL; omega
    have g0 : nL 0 (k + 1) = k / 2 + 1 := by unfold nL; simp; omega
    have g1 : nL 1 (k + 1) = (k + 1) / 2 + 1 := by unfold nL; simp; omega
    have r0 : nR 0 (k + 1) = k / 2 := by unfold nR; simp
    have r1 : nR 1 (k + 1) = (k + 1) / 2 := by unfold nR; simp
    have hpay : iprop((relK c p (nL p k + 1) ∗ relK c p' (nL p' k))
        ∗ bigSep (Finset.univ : Finset (Fin 2)) fun q => reached ER (cell c (.wr q)) (nR q (k + 1))) ⊢ (payK m (prv c) .wcr 0 k : sProp 𝕄) := by
      rw [show payK m (prv c) .wcr 0 k = wcrPay (nxt (prv c)) k from rfl, nxt_prv, ← e1, ← e2,
        ← two_split hp' (fun q => relK c q (nL q (k + 1))), two_split (p := 0) (p' := 1) rfl, two_split (p := 0) (p' := 1) rfl, g0, g1, r0, r1, relK_succ, relK_succ]
      unfold wcrPay
      iintro ⟨⟨H1, H2⟩, H3, H4⟩
      isplitl [H1]; · iexact H1
      isplitl [H2]; · iexact H2
      isplitl [H3]; · iexact H3
      iexact H4
    rw [dif_pos (hC.mpr hc)]
    unfold FreeSt RecvSt
    rw [two_split hp' (fun q => iprop(readerAt ES (c, q) (nL q k) ∗ relK c q (nL q k))),
      two_split hp' (fun q => iprop(readerAt ES (c, q) (nL q (k + 1)) ∗ relK c q (nL q (k + 1)))), e1, e2,
      Ico_peel hc fun s => dutyTok ER (cell (prv c) .wcr) 0 s,
      Ico_done (show k ≤ 14 by omega), Ico_done (show k + 1 ≤ 14 by omega), bigSep_sep']
    iintro ⟨#HR, #HJ, ⟨⟨Hat, #Hrch⟩, Hcr⟩, ⟨⟨⟨Hrd, -⟩, ⟨Hrd', #Hrel'⟩⟩, ⟨Ht, Hts⟩, #Hq, -⟩, Hs, HO⟩
    ihave #HJ1 := (slots_at J (c, p)) $$ HJ
    ihave Hs := (slotRes_intro c p _) $$ Hs
    ihave Hg := (slot_release ES (Set.mem_univ _) (slotRes_twice (c, p)) (nL p k)) $$ [Hrd Hs]
    · isplitr; · iexact HJ1
      isplitl [Hrd]; · iexact Hrd
      iexact Hs
    imod Hg with ⟨Hrd, Hrel⟩
    ihave #Hrel := (Entails.of_eq (relK_succ c p (nL p k)).symm) $$ Hrel
    iapply (step_signal m K c (prv c) .wcr 0 k k (OWmid c k) (OW c (k + 1)) (by simp [dutiesK, hc]) rfl
      (OWmid_signal c k hc) (sm := cc0_scratch8.sem) rfl (hn _)) $$ [HO Ht]
    · isplitr; · iexact HR
      isplitl [HO]; · iexact HO
      isplitl [Ht]; · iexact Ht
      isplitr
      · iapply hpay
        isplitr
        · isplitr; · iexact Hrel
          iexact Hrel'
        iexact Hrch
      iexact Hq
    iintro HO
    rw [wp_ret]
    imodintro
    isplitl [Hat Hcr]
    · isplitl [Hat]
      · isplitl [Hat]; · iexact Hat
        iexact Hrch
      iexact Hcr
    isplitr [HO]
    · isplitl [Hrd Hrd']
      · isplitl [Hrd]
        · isplitl [Hrd]; · iexact Hrd
          iexact Hrel
        isplitl [Hrd']; · iexact Hrd'
        iexact Hrel'
      isplitl [Hts]; · iexact Hts
      isplitr; · iexact Hq
      iempintro
    iexact HO
  · have e : ∀ q, nL q (k + 1) = nL q k := by intro q; unfold nL; omega
    rw [dif_neg fun h' => hc (hC.mp h'), OWmid_last c k (by omega), wp_ret]
    unfold FreeSt
    rw [Ico_done (show 14 ≤ k by omega), Ico_done (show 14 ≤ k + 1 by omega), Ico_last (show 14 ≤ k by omega), par_eq hp]
    simp only [e]
    iintro ⟨-, -, H0, ⟨H1, H2, H3, H4⟩, Hs, HO⟩
    imodintro
    isplitl [H0]; · iexact H0
    isplitr [HO]
    · isplitl [H1]; · iexact H1
      isplitl [H2]; · iexact H2
      isplitl [H3]; · iexact H3
      isplitl [Hs]; · iexact Hs
      iexact H4
    iexact HO

end Cert.Moe
-- ==== Proof.WTrip.lean ====
/-
  One step's products: the loads and stores on the output window and on the weights' slot, and what four products add to
  the output.
-/
module

public import proofs.«01_k».proof.Proof.WRing

@[expose] public section

set_option maxRecDepth 16384

noncomputable section

namespace Cert.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Pipeline (Dat Cfg Window BodyObligation cellOf)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)

/-- The output window, holding `f`. -/
def outPts (c : Dev nD) (f : S2048x1024.Idx → Elt F .f32) : sProp 𝕄 := ((c : Thread nD τ).loc cc0_stg3_0) ↦{fullShare} f

theorem zero2 : (![0, 0] : Fin 2 → ℕ) = fun _ => 0 := by
  funext a
  match a with
  | 0 => rfl
  | 1 => rfl

theorem load_out (c : Dev nD) (f : S2048x1024.Idx → Elt F .f32) {inb hl} {α : Type} {Q : α → sProp 𝕄}
    {k : (S2048x1024.Idx → Elt F .f32) → Prog (TpuEff nD τ sig (Elt F) Λ₀ .tc) α} :
    outPts c f ⊢ iprop((outPts c f -∗ wp frame (wpE (defs₀ (F := F)) 𝒱₀ (c : Thread nD τ) none) Set.univ (k f) Q)
      -∗ wp frame (wpE (defs₀ (F := F)) 𝒱₀ (c : Thread nD τ) none) Set.univ
        (.op (.load (Memref.whole cc0_stg3_0) (Rect.unit (s := S2048x1024) ![0, 0] S2048x1024.size inb).toLoadRect hl) k) Q) := by
  have e : (Memref.whole cc0_stg3_0).view.readAt (Elt F) (Rect.unit (s := S2048x1024) ![0, 0] S2048x1024.size inb).toLoadRect f = f :=
    Memref.readAt_unit_zero (Elt F) cc0_stg3_0 zero2 _ f
  have h := wp_load (defs := defs₀ (F := F)) (Name := ℕ) (U := UU) (Lvl := ℕ) (Ix := ℕ) (Γ := .empty) 𝒱₀ (c : Thread nD τ) none Set.univ (m := Memref.whole cc0_stg3_0)
    (r := (Rect.unit (s := S2048x1024) ![0, 0] S2048x1024.size inb).toLoadRect) (S := Finset.univ) (q := fullShare) (f := f) (k := k) (Q := Q) (hl := hl)
    (Finset.subset_univ _)
  rw [e] at h
  exact h

theorem store_out (c : Dev nD) (f w : S2048x1024.Idx → Elt F .f32) {inb hs hm} {α : Type} {Q : α → sProp 𝕄}
    {k : PUnit → Prog (TpuEff nD τ sig (Elt F) Λ₀ .tc) α} :
    outPts c f ⊢ iprop((outPts c w -∗ wp frame (wpE (defs₀ (F := F)) 𝒱₀ (c : Thread nD τ) none) Set.univ (k ⟨⟩) Q)
      -∗ wp frame (wpE (defs₀ (F := F)) 𝒱₀ (c : Thread nD τ) none) Set.univ
        (.op (.store (Memref.whole cc0_stg3_0) (Rect.unit (s := S2048x1024) ![0, 0] S2048x1024.size inb) w Finset.univ hs hm) k) Q) := by
  have e : ((Memref.whole cc0_stg3_0).access (Rect.unit (s := S2048x1024) ![0, 0] S2048x1024.size inb)).write (Elt F) f w Finset.univ = w :=
    Memref.write_access_unit_zero_univ (Elt F) cc0_stg3_0 zero2 inb f w
  have h := wp_store (defs := defs₀ (F := F)) (Name := ℕ) (U := UU) (Lvl := ℕ) (Ix := ℕ) (Γ := .empty) 𝒱₀ (c : Thread nD τ) none Set.univ (m := Memref.whole cc0_stg3_0)
    (r := Rect.unit (s := S2048x1024) ![0, 0] S2048x1024.size inb) (Mk := Finset.univ) (S := Finset.univ) (f := f) (w := w) (k := k) (Q := Q) (hx := hs) (hm := hm)
    (Finset.subset_univ _)
  rw [e] at h
  exact h

/-- Matrix `j` of device `d`'s weights. -/
def wJ (d : Dev nD) (j : Fin 4) : S1x1x512x1024.Idx → Elt F .f32 := fun i => ewB m d (ValueIdx.ix3 j (i 2) (i 3))

theorem load_slot (c d : Dev nD) (p : Fin 2) (j : Fin 4) {off : Fin 4 → ℕ} (e : off = ![p.val, j.val, 0, 0]) {inb hl} {α : Type} {Q : α → sProp 𝕄}
    {k : (S1x1x512x1024.Idx → Elt F .f32) → Prog (TpuEff nD τ sig (Elt F) Λ₀ .tc) α} :
    slotPts c p (wBuf m d) ⊢ iprop((slotPts c p (wBuf m d) -∗ wp frame (wpE (defs₀ (F := F)) 𝒱₀ (c : Thread nD τ) none) Set.univ (k (wJ m d j)) Q)
      -∗ wp frame (wpE (defs₀ (F := F)) 𝒱₀ (c : Thread nD τ) none) Set.univ
        (.op (.load (Memref.whole cc0_scratch1) (Rect.unit (s := S2x4x512x1024) off S1x1x512x1024.size inb).toLoadRect hl) k) Q) := by
  subst e
  have emb : ∀ i : S1x1x512x1024.Idx, ((Rect.unit (s := S2x4x512x1024) ![p.val, j.val, 0, 0] S1x1x512x1024.size inb).toLoadRect.idx i : S2x4x512x1024.Idx)
      = ValueIdx.ix4 p j (i 2) (i 3) := by
    intro i
    have h0 : (i 0).val = 0 := by have := (i 0).isLt; simp [S1x1x512x1024] at this; omega
    have h1 : (i 1).val = 0 := by have := (i 1).isLt; simp [S1x1x512x1024] at this; omega
    funext a
    apply Fin.ext
    match a with
    | ⟨0, _⟩ => simp [LoadRect.idx]; exact h0
    | ⟨1, _⟩ => simp [LoadRect.idx]; exact h1
    | ⟨2, _⟩ => simp [LoadRect.idx]
    | ⟨3, _⟩ => simp [LoadRect.idx]
  have h := wp_load (defs := defs₀ (F := F)) (Name := ℕ) (U := UU) (Lvl := ℕ) (Ix := ℕ) (Γ := .empty) 𝒱₀ (c : Thread nD τ) none Set.univ (m := Memref.whole cc0_scratch1)
    (r := (Rect.unit (s := S2x4x512x1024) ![p.val, j.val, 0, 0] S1x1x512x1024.size inb).toLoadRect) (S := slotSet p) (q := fullShare) (f := wBuf m d) (k := k) (Q := Q) (hl := hl)
    (by
      intro i hi
      obtain ⟨x, hx, rfl⟩ := Finset.mem_map.mp hi
      have h0 := (Rect.mem_set_unit.mp hx) 0
      refine (mem_slotSet p _).mpr (Fin.ext ?_)
      show (x 0).val = p.val
      simp [S1x1x512x1024] at h0
      omega)
  have e : (Memref.whole cc0_scratch1).view.readAt (Elt F) (Rect.unit (s := S2x4x512x1024) ![p.val, j.val, 0, 0] S1x1x512x1024.size inb).toLoadRect (wBuf m d)
      = wJ m d j := by
    funext i
    rw [View.readAt_apply, emb i]
    rfl
  rw [e] at h
  exact h

/-! ## Four products -/

/-- What a step makes of the output: four products, one for each expert of the device that the weights came from. -/
def accE (v35 : IVec S2048x1 32) (v106 : IVec S2048x1 1) (v108 : FVec F S2048x512 .f32) (v122 : BitVec 32) (w : Fin 4 → S1x1x512x1024.Idx → Elt F .f32)
    (acc : S2048x1024.Idx → Elt F .f32) : S2048x1024.Idx → Elt F .f32 :=
  k0_pay14 v108 (k0_pay7 v35 v106 v122) (k0_pay6 v35 v106 v108 v122
    (k0_pay5 v108 (k0_pay3 (k0_pay2 v35 v106 v108 v122 acc (w 0))) (k0_pay4 v35 v106 v122) (w 1)) (w 2)) (w 3)

theorem pays_odd (v35 : IVec S2048x1 32) (v106 : IVec S2048x1 1) (v108 : FVec F S2048x512 .f32) (v122 : BitVec 32) (w : Fin 4 → S1x1x512x1024.Idx → Elt F .f32)
    (acc : S2048x1024.Idx → Elt F .f32) : k0_pay1 v108 (k0_pay13 v35 v106 v122) (k0_pay12 v35 v106 v108 v122
      (k0_pay11 v108 (k0_pay9 (k0_pay8 v35 v106 v108 v122 acc (w 0))) (k0_pay10 v35 v106 v122) (w 1)) (w 2)) (w 3)
    = accE v35 v106 v108 v122 w acc := rfl

/-- A product's second half: load a matrix, and store what is made of it. -/
theorem acc_half (c d : Dev nD) (p : Fin 2) (j : Fin 4) {off : Fin 4 → ℕ} (e : off = ![p.val, j.val, 0, 0]) (acc : S2048x1024.Idx → Elt F .f32)
    {g : (S1x1x512x1024.Idx → Elt F .f32) → S2048x1024.Idx → Elt F .f32} {inb hl inb' hl' inb'' hs hm} {α : Type} {Q : α → sProp 𝕄}
    {t : Prog (TpuEff nD τ sig (Elt F) Λ₀ .tc) α} :
    iprop(slotPts c p (wBuf m d) ∗ outPts c acc)
      ⊢ iprop(((slotPts c p (wBuf m d) ∗ outPts c (g (wJ m d j))) -∗ wp frame (wpE (defs₀ (F := F)) 𝒱₀ (c : Thread nD τ) none) Set.univ t Q)
        -∗ wp frame (wpE (defs₀ (F := F)) 𝒱₀ (c : Thread nD τ) none) Set.univ
          (.op (.load (Memref.whole cc0_scratch1) (Rect.unit (s := S2x4x512x1024) off S1x1x512x1024.size inb).toLoadRect hl) fun w =>
            .op (.load (Memref.whole cc0_stg3_0) (Rect.unit (s := S2048x1024) ![0, 0] S2048x1024.size inb').toLoadRect hl') fun _ =>
              .op (.store (Memref.whole cc0_stg3_0) (Rect.unit (s := S2048x1024) ![0, 0] S2048x1024.size inb'') (g w) Finset.univ hs hm) fun _ => t) Q) := by
  iintro ⟨Hs, Ho⟩ HK
  iapply (load_slot m c d p j e) $$ Hs
  iintro Hs
  iapply (load_out c acc) $$ Ho
  iintro Ho
  iapply (store_out c acc (g (wJ m d j))) $$ Ho
  iintro Ho
  iapply HK
  isplitl [Hs]; · iexact Hs
  iexact Ho

/-! ## The two transfers of a step -/

/-- The wait for step `k`'s weights, where they are still to come. -/
theorem recv_phase (K : Dev nD → Kind → ℕ) (c : Dev nD) (k : ℕ) (hk : k < 16) (p p' : Fin 2) (hp : k % 2 = p.val) (hp' : p.val + p'.val = 1)
    {C : Prop} [Decidable C] (hC : C ↔ 0 < k)
    {sp sp' : Space} {s s' : Shape} {t t' : EltTy} {sR : DmaSem sig} {src : Memref sig .tc sp' s' t'} {dst : Memref sig .tc sp s t}
    {hsrc : src.view.WordExact} {hdst : dst.view.WordExact} (e : SemLoc.dma sR = semOf (.wr p)) (hN : dst.view.dmaCredit = NW)
    {α : Type} {Q : α → sProp 𝕄} {rest : Prog (TpuEff nD τ sig (Elt F) Λ₀ .tc) α} :
    iprop(Recs m K ∗ levAts Lix lvl ∗ RecvSt c k ∗ ArrSt m c k ∗ owed c (OW c k))
      ⊢ iprop(((RecvSt c (k + 1) ∗ slotPts c p (wBuf m (bk c k)) ∗ owed c (OW c k))
            -∗ wp frame (wpE (defs₀ (F := F)) 𝒱₀ (c : Thread nD τ) none) Set.univ rest Q)
          -∗ wp frame (wpE (defs₀ (F := F)) 𝒱₀ (c : Thread nD τ) none) Set.univ
            (if h : C then .op (.waitDma2 sR src dst hsrc hdst) fun _ => rest else rest) Q) :=
  wp_guard (iprop(Recs m K ∗ levAts Lix lvl ∗ RecvSt c k ∗ ArrSt m c k ∗ owed c (OW c k)))
    (iprop(RecvSt c (k + 1) ∗ slotPts c p (wBuf m (bk c k)) ∗ owed c (OW c k)))
    (fun h => recv_wait m K c k hk p p' hp hp' (OW c k) ((after_OW c k).mono (by omega)) (hC.mp h) e hN)
    (fun h => by
      have h0 : k = 0 := Nat.eq_zero_of_not_pos fun h' => h (hC.mpr h')
      subst h0
      have hp0 : p = 0 := Fin.ext hp.symm
      subst hp0
      iintro ⟨-, -, H⟩
      iapply (recv_zero m c (OW c 0)); iexact H)

/-- The sending of step `k`'s weights, after the right neighbour freed its slot. -/
theorem send_phase (K : Dev nD → Kind → ℕ) (J : Dev nD × Fin 2 → ℕ) (c : Dev nD) (k : ℕ) (hk : k < 15) (p p' : Fin 2) (hp : k % 2 = p.val) (hp' : p.val + p'.val = 1)
    {C : Prop} [Decidable C] (hC : C ↔ 0 < k)
    {n : Dev nD} (hn : n = nxt c) {off off' : Fin 4 → Nat} {hoff hoff'}
    (e : off = ![p.val, 0, 0, 0]) (e' : off' = ![p'.val, 0, 0, 0]) (sS sR : DmaSem sig) (eS : SemLoc.dma sS = semOf (.ws p))
    (eR : SemLoc.dma sR = semOf (.wr p'))
    {hsc : (slotM off' hoff' : Memref sig (Dev.tc n : Thread nD τ).2.kind .vmem S4x512x1024 .f32).view.ref.isScScratch = false}
    {hsrc : (slotM off hoff).view.WordExact} {hdst : (slotM off' hoff').view.WordExact}
    {hsem : DmaTarget.Typed .vmem (.dma sR) (.remote (Dev.tc n : Thread nD τ) (slotM off' hoff') (.dma sS) hsc)}
    {sp sp' : Space} {s s' : Shape} {t t' : EltTy} {src : Memref sig .tc sp' s' t'} {dst : Memref sig .tc sp s t}
    {hsrc' : src.view.WordExact} {hdst' : dst.view.WordExact} (hN : dst.view.dmaCredit = NW)
    {α : Type} {Q : α → sProp 𝕄} {rest : Prog (TpuEff nD τ sig (Elt F) Λ₀ .tc) α} :
    iprop(Recs m K ∗ levAts Lix lvl ∗ Slots J ∗ SendSt c k ∗ slotPts c p (wBuf m (bk c k)) ∗ owed c (OW c k))
      ⊢ iprop(((SendSt c (k + 1) ∗ slotPts c p (wBuf m (bk c k)) ∗ owed c (OWmid c k))
            -∗ wp frame (wpE (defs₀ (F := F)) 𝒱₀ (c : Thread nD τ) none) Set.univ rest Q)
          -∗ wp frame (wpE (defs₀ (F := F)) 𝒱₀ (c : Thread nD τ) none) Set.univ
            (if h : C then .op (.semWait cc0_scratch8.sem ((1 : ℕ) : ℤ)) fun _ =>
                .op (.enqueueDma (slotM off hoff) (.remote (Dev.tc n : Thread nD τ) (slotM off' hoff') (.dma sS) hsc)
                  (.dma sR) hsrc hdst hsem) fun _ => .op (.waitDma2 sS src dst hsrc' hdst') fun _ => rest
              else .op (.enqueueDma (slotM off hoff) (.remote (Dev.tc n : Thread nD τ) (slotM off' hoff') (.dma sS) hsc)
                  (.dma sR) hsrc hdst hsem) fun _ => .op (.waitDma2 sS src dst hsrc' hdst') fun _ => rest) Q) := by
  iintro ⟨#HR, #Hlev, #HJ, Hsd, Hs, HO⟩ HK
  iapply (wp_guard (iprop(Recs m K ∗ levAts Lix lvl ∗ SendSt c k ∗ owed c (OW c k))) (iprop(SendReady c k p' ∗ owed c (OW c k)))
    (fun h => send_wait m K c k hk p p' hp hp' (OW c k) ((after_OW c k).mono (by omega)) (hC.mp h)
      (w := .semWait cc0_scratch8.sem ((1 : ℕ) : ℤ)) (sm := .reg cc0_scratch8.sem) rfl (wpE_semWait_eq 𝒱₀ (c : Thread nD τ) none Set.univ (k := 1)))
    (fun h => by
      have h0 : k = 0 := Nat.eq_zero_of_not_pos fun h' => h (hC.mpr h')
      subst h0
      have hp1 : p' = 1 := Fin.ext (by show p'.val = 1; omega)
      subst hp1
      iintro ⟨-, -, H⟩
      iapply (send_ready_zero c (OW c 0)); iexact H)) $$ [Hsd HO]
  · isplitr; · iexact HR
    isplitr; · iexact Hlev
    isplitl [Hsd]; · iexact Hsd
    iexact HO
  iintro ⟨Hsd, HO⟩
  iapply (send_slot m K J c k hk p p' hp hp' hn e e' sS sR eS eR hN) $$ [Hsd Hs HO]
  · isplitr; · iexact HR
    isplitr; · iexact Hlev
    isplitr; · iexact HJ
    isplitl [Hsd]; · iexact Hsd
    isplitl [Hs]; · iexact Hs
    iexact HO
  iexact HK

/-! ## An even step's parts -/

/-- What a step holds before it receives. -/
def StepPre (K : Dev nD → Kind → ℕ) (J : Dev nD × Fin 2 → ℕ) (c : Dev nD) (k : ℕ) (acc : S2048x1024.Idx → Elt F .f32) : sProp 𝕄 :=
  iprop(Recs m K ∗ levAts Lix lvl ∗ Slots J ∗ RecvSt c k ∗ ArrSt m c k ∗ SendSt c k ∗ owed c (OW c k) ∗ outPts c acc)
/-- What a step holds once it received and sent. -/
def StepMid (c : Dev nD) (k : ℕ) (p : Fin 2) (acc : S2048x1024.Idx → Elt F .f32) : sProp 𝕄 :=
  iprop(RecvSt c (k + 1) ∗ SendSt c (k + 1) ∗ owed c (OWmid c k) ∗ slotPts c p (wBuf m (bk c k)) ∗ outPts c acc)

theorem part1_spec (K : Dev nD → Kind → ℕ) (J : Dev nD × Fin 2 → ℕ) (c : Dev nD) (s : Fin k0_t2_loop.trips) (h3 : k0_cond3 s = 1#1)
    (v24 : BitVec 32) (v35 : IVec S2048x1 32) (v106 : IVec S2048x1 1) (v108 : FVec F S2048x512 .f32) (v122 : BitVec 32)
    (acc : S2048x1024.Idx → Elt F .f32) (a0 h0 a1 h1 a2 h2 a4 h4 a6 a7 a10 a11) :
    StepPre m K J c s.val acc
      ⊢ wp frame (wpE (defs₀ (F := F)) 𝒱₀ (c : Thread nD τ) none) Set.univ
          (k0_part1 (F := F) a0 h0 a1 h1 a2 h2 (Memref.whole cc0_stg3_0) (Memref.isWhole_whole _) a4 h4
            (Memref.whole cc0_scratch1) (Memref.isWhole_whole _) a6 a7 cc0_scratch4 cc0_scratch5 a10 a11 cc0_scratch8
            c v24 v35 v106 v108 s (Scf.iv 0#32 1#32 s) v122 h3)
          (fun r => iprop(⌜r = ⟨k0_pay3 (k0_pay2 v35 v106 v108 v122 acc (wJ m (bk c s.val) 0)), k0_pay4 v35 v106 v122⟩⌝
            ∗ StepMid m c s.val 0 (k0_pay2 v35 v106 v108 v122 acc (wJ m (bk c s.val) 0)))) := by
  have hk : s.val < 16 := lt_of_lt_of_eq s.isLt trips2
  have hp := (cond3_iff s).mp h3
  rw [k0_part1_eq_skeleton]
  unfold k0_part1_skel StepPre StepMid
  dsimp only
  simp only [semSignalWord, semWaitWord, Prog.lift, Prog.bind_op, Prog.bind_ret, Prog.pure_eq_ret, word_one]
  iintro ⟨#HR, #Hlev, #HJ, Hrv, Har, Hsd, HO, Hout⟩
  iapply (recv_phase m K c s.val hk 0 1 hp rfl (word4_iff s) rfl (by rfl)) $$ [Hrv Har HO]
  · isplitr; · iexact HR
    isplitr; · iexact Hlev
    isplitl [Hrv]; · iexact Hrv
    isplitl [Har]; · iexact Har
    iexact HO
  iintro ⟨Hrv, Hs, HO⟩
  iapply (wp_guard' (iprop(Recs m K ∗ levAts Lix lvl ∗ Slots J ∗ SendSt c s.val ∗ slotPts c 0 (wBuf m (bk c s.val)) ∗ owed c (OW c s.val)))
    (iprop(SendSt c (s.val + 1) ∗ slotPts c 0 (wBuf m (bk c s.val)) ∗ owed c (OWmid c s.val)))
    (fun h5 => send_phase m K J c s.val ((cond5_iff s).mp h5) 0 1 hp rfl (word6_iff s) (Fin.ext (dev5_val c)) rfl rfl _ _ rfl rfl (by rfl))
    (fun h5 => by
      have hl : s.val = 15 := by
        have h15 : ¬s.val < 15 := fun h => h5 ((cond5_iff s).mpr h)
        omega
      iintro ⟨-, -, -, H⟩
      iapply (send_last c s.val hl); iexact H)) $$ [Hsd Hs HO]
  · isplitr; · iexact HR
    isplitr; · iexact Hlev
    isplitr; · iexact HJ
    isplitl [Hsd]; · iexact Hsd
    isplitl [Hs]; · iexact Hs
    iexact HO
  iintro ⟨Hsd, Hs, HO⟩
  iapply (load_out c acc) $$ Hout
  iintro Hout
  iapply (acc_half m c (bk c s.val) 0 0 rfl acc (g := fun w => k0_pay2 v35 v106 v108 v122 acc w)) $$ [Hs Hout]
  · isplitl [Hs]; · iexact Hs
    iexact Hout
  iintro ⟨Hs, Hout⟩
  iapply (load_out c _) $$ Hout
  iintro Hout
  rw [wp_ret]
  imodintro
  isplitr; · ipureintro; rfl
  isplitl [Hrv]; · iexact Hrv
  isplitl [Hsd]; · iexact Hsd
  isplitl [HO]; · iexact HO
  isplitl [Hs]; · iexact Hs
  iexact Hout

theorem part2_spec (c d : Dev nD) (v35 : IVec S2048x1 32) (v106 : IVec S2048x1 1) (v108 : FVec F S2048x512 .f32) (v122 : BitVec 32)
    (v184 : FVec F S2048x1024 .f32) (v185 : FVec F S2048x512 .f32) (acc : S2048x1024.Idx → Elt F .f32) (a0 h0 a1 h1 a2 h2 a4 h4 a6 a7 a8 a9 a10 a11 a12) :
    iprop(slotPts c 0 (wBuf m d) ∗ outPts c acc)
      ⊢ wp frame (wpE (defs₀ (F := F)) 𝒱₀ (c : Thread nD τ) none) Set.univ
          (k0_part2 (F := F) a0 h0 a1 h1 a2 h2 (Memref.whole cc0_stg3_0) (Memref.isWhole_whole _) a4 h4
            (Memref.whole cc0_scratch1) (Memref.isWhole_whole _) a6 a7 a8 a9 a10 a11 a12 v35 v106 v108 v122 v184 v185)
          (fun r => iprop(⌜r = ⟨k0_pay7 v35 v106 v122, k0_pay6 v35 v106 v108 v122 (k0_pay5 v108 v184 v185 (wJ m d 1)) (wJ m d 2)⟩⌝
            ∗ slotPts c 0 (wBuf m d) ∗ outPts c (k0_pay6 v35 v106 v108 v122 (k0_pay5 v108 v184 v185 (wJ m d 1)) (wJ m d 2)))) := by
  rw [k0_part2_eq_skeleton]
  unfold k0_part2_skel
  simp only [Prog.lift, Prog.bind_op, Prog.bind_ret, Prog.pure_eq_ret]
  iintro H
  iapply (acc_half m c d 0 1 rfl acc (g := fun w => k0_pay5 v108 v184 v185 w)) $$ H
  iintro ⟨Hs, Hout⟩
  iapply (load_out c _) $$ Hout
  iintro Hout
  iapply (acc_half m c d 0 2 rfl (k0_pay5 v108 v184 v185 (wJ m d 1)) (g := fun w => k0_pay6 v35 v106 v108 v122 (k0_pay5 v108 v184 v185 (wJ m d 1)) w)) $$ [Hs Hout]
  · isplitl [Hs]; · iexact Hs
    iexact Hout
  iintro ⟨Hs, Hout⟩
  iapply (load_out c _) $$ Hout
  iintro Hout
  rw [wp_ret]
  imodintro
  isplitr; · ipureintro; rfl
  isplitl [Hs]; · iexact Hs
  iexact Hout

/-! ## An odd step's parts -/

theorem part3_spec (K : Dev nD → Kind → ℕ) (J : Dev nD × Fin 2 → ℕ) (c : Dev nD) (s : Fin k0_t2_loop.trips) (h7 : k0_cond7 s = 1#1)
    (v24 : BitVec 32) (v35 : IVec S2048x1 32) (v106 : IVec S2048x1 1) (v108 : FVec F S2048x512 .f32) (v122 : BitVec 32)
    (acc : S2048x1024.Idx → Elt F .f32) (a0 h0 a1 h1 a2 h2 a4 h4 a6 a7 a10 a11) :
    StepPre m K J c s.val acc
      ⊢ wp frame (wpE (defs₀ (F := F)) 𝒱₀ (c : Thread nD τ) none) Set.univ
          (k0_part3 (F := F) a0 h0 a1 h1 a2 h2 (Memref.whole cc0_stg3_0) (Memref.isWhole_whole _) a4 h4
            (Memref.whole cc0_scratch1) (Memref.isWhole_whole _) a6 a7 cc0_scratch4 cc0_scratch5 a10 a11 cc0_scratch8
            c v24 v35 v106 v108 s (Scf.iv 0#32 1#32 s) v122 h7)
          (fun r => iprop(⌜r = ⟨k0_pay9 (k0_pay8 v35 v106 v108 v122 acc (wJ m (bk c s.val) 0)), k0_pay10 v35 v106 v122⟩⌝
            ∗ StepMid m c s.val 1 (k0_pay8 v35 v106 v108 v122 acc (wJ m (bk c s.val) 0)))) := by
  have hk : s.val < 16 := lt_of_lt_of_eq s.isLt trips2
  have hp := (cond7_iff s).mp h7
  rw [k0_part3_eq_skeleton]
  unfold k0_part3_skel StepPre StepMid
  dsimp only
  simp only [semSignalWord, semWaitWord, Prog.lift, Prog.bind_op, Prog.bind_ret, Prog.pure_eq_ret, word_one]
  iintro ⟨#HR, #Hlev, #HJ, Hrv, Har, Hsd, HO, Hout⟩
  iapply (recv_phase m K c s.val hk 1 0 hp rfl (word4_iff s) rfl (by rfl)) $$ [Hrv Har HO]
  · isplitr; · iexact HR
    isplitr; · iexact Hlev
    isplitl [Hrv]; · iexact Hrv
    isplitl [Har]; · iexact Har
    iexact HO
  iintro ⟨Hrv, Hs, HO⟩
  iapply (wp_guard' (iprop(Recs m K ∗ levAts Lix lvl ∗ Slots J ∗ SendSt c s.val ∗ slotPts c 1 (wBuf m (bk c s.val)) ∗ owed c (OW c s.val)))
    (iprop(SendSt c (s.val + 1) ∗ slotPts c 1 (wBuf m (bk c s.val)) ∗ owed c (OWmid c s.val)))
    (fun h9 => send_phase m K J c s.val ((cond9_iff s).mp h9) 1 0 hp rfl (word6_iff s) (Fin.ext (dev6_val c)) rfl rfl _ _ rfl rfl (by rfl))
    (fun h9 => by
      have hl : s.val = 15 := by
        have h15 : ¬s.val < 15 := fun h => h9 ((cond9_iff s).mpr h)
        omega
      iintro ⟨-, -, -, H⟩
      iapply (send_last c s.val hl); iexact H)) $$ [Hsd Hs HO]
  · isplitr; · iexact HR
    isplitr; · iexact Hlev
    isplitr; · iexact HJ
    isplitl [Hsd]; · iexact Hsd
    isplitl [Hs]; · iexact Hs
    iexact HO
  iintro ⟨Hsd, Hs, HO⟩
  iapply (load_out c acc) $$ Hout
  iintro Hout
  iapply (acc_half m c (bk c s.val) 1 0 rfl acc (g := fun w => k0_pay8 v35 v106 v108 v122 acc w)) $$ [Hs Hout]
  · isplitl [Hs]; · iexact Hs
    iexact Hout
  iintro ⟨Hs, Hout⟩
  iapply (load_out c _) $$ Hout
  iintro Hout
  rw [wp_ret]
  imodintro
  isplitr; · ipureintro; rfl
  isplitl [Hrv]; · iexact Hrv
  isplitl [Hsd]; · iexact Hsd
  isplitl [HO]; · iexact HO
  isplitl [Hs]; · iexact Hs
  iexact Hout

theorem part4_spec (c d : Dev nD) (v35 : IVec S2048x1 32) (v106 : IVec S2048x1 1) (v108 : FVec F S2048x512 .f32) (v122 : BitVec 32)
    (v184 : FVec F S2048x1024 .f32) (v185 : FVec F S2048x512 .f32) (acc : S2048x1024.Idx → Elt F .f32) (a0 h0 a1 h1 a2 h2 a4 h4 a6 a7 a8 a9 a10 a11 a12) :
    iprop(slotPts c 1 (wBuf m d) ∗ outPts c acc)
      ⊢ wp frame (wpE (defs₀ (F := F)) 𝒱₀ (c : Thread nD τ) none) Set.univ
          (k0_part4 (F := F) a0 h0 a1 h1 a2 h2 (Memref.whole cc0_stg3_0) (Memref.isWhole_whole _) a4 h4
            (Memref.whole cc0_scratch1) (Memref.isWhole_whole _) a6 a7 a8 a9 a10 a11 a12 v35 v106 v108 v122 v184 v185)
          (fun r => iprop(⌜r = ⟨k0_pay13 v35 v106 v122, k0_pay12 v35 v106 v108 v122 (k0_pay11 v108 v184 v185 (wJ m d 1)) (wJ m d 2)⟩⌝
            ∗ slotPts c 1 (wBuf m d) ∗ outPts c (k0_pay12 v35 v106 v108 v122 (k0_pay11 v108 v184 v185 (wJ m d 1)) (wJ m d 2)))) := by
  rw [k0_part4_eq_skeleton]
  unfold k0_part4_skel
  simp only [Prog.lift, Prog.bind_op, Prog.bind_ret, Prog.pure_eq_ret]
  iintro H
  iapply (acc_half m c d 1 1 rfl acc (g := fun w => k0_pay11 v108 v184 v185 w)) $$ H
  iintro ⟨Hs, Hout⟩
  iapply (load_out c _) $$ Hout
  iintro Hout
  iapply (acc_half m c d 1 2 rfl (k0_pay11 v108 v184 v185 (wJ m d 1)) (g := fun w => k0_pay12 v35 v106 v108 v122 (k0_pay11 v108 v184 v185 (wJ m d 1)) w)) $$ [Hs Hout]
  · isplitl [Hs]; · iexact Hs
    iexact Hout
  iintro ⟨Hs, Hout⟩
  iapply (load_out c _) $$ Hout
  iintro Hout
  rw [wp_ret]
  imodintro
  isplitr; · ipureintro; rfl
  isplitl [Hs]; · iexact Hs
  iexact Hout

/-! ## A whole step -/

/-- The word that names the device whose weights step `s` multiplies by. -/
theorem origin_word : ∀ (c : Dev nD) (s : Fin k0_t2_loop.trips),
    Scalar.select (Scalar.andi (Scalar.xori (Scalar.cmpi .slt (Scalar.remsi (Scalar.subi (BitVec.ofNat 32 c.val) (Scf.iv 0#32 1#32 s))
        (Scalar.select (Scalar.cmpi .eq 16#32 0#32) 1#32 16#32)) 0#32)
        (Scalar.cmpi .slt (Scalar.select (Scalar.cmpi .eq 16#32 0#32) 1#32 16#32) 0#32))
        (Scalar.cmpi .ne (Scalar.remsi (Scalar.subi (BitVec.ofNat 32 c.val) (Scf.iv 0#32 1#32 s))
          (Scalar.select (Scalar.cmpi .eq 16#32 0#32) 1#32 16#32)) 0#32))
      (Scalar.addi (Scalar.remsi (Scalar.subi (BitVec.ofNat 32 c.val) (Scf.iv 0#32 1#32 s))
        (Scalar.select (Scalar.cmpi .eq 16#32 0#32) 1#32 16#32)) (Scalar.select (Scalar.cmpi .eq 16#32 0#32) 1#32 16#32))
      (Scalar.remsi (Scalar.subi (BitVec.ofNat 32 c.val) (Scf.iv 0#32 1#32 s))
        (Scalar.select (Scalar.cmpi .eq 16#32 0#32) 1#32 16#32)) = BitVec.ofNat 32 (bk c s.val).val := by decide +kernel

theorem part5_even (K : Dev nD → Kind → ℕ) (J : Dev nD × Fin 2 → ℕ) (c : Dev nD) (s : Fin k0_t2_loop.trips) (h3 : k0_cond3 s = 1#1)
    (v24 : BitVec 32) (v35 : IVec S2048x1 32) (v106 : IVec S2048x1 1) (v108 : FVec F S2048x512 .f32)
    (acc : S2048x1024.Idx → Elt F .f32) (a0 h0 a1 h1 a2 h2 a4 h4 a6 a7 a10 a11) :
    StepPre m K J c s.val acc
      ⊢ wp frame (wpE (defs₀ (F := F)) 𝒱₀ (c : Thread nD τ) none) Set.univ
          (k0_part5 (F := F) a0 h0 a1 h1 a2 h2 (Memref.whole cc0_stg3_0) (Memref.isWhole_whole _) a4 h4
            (Memref.whole cc0_scratch1) (Memref.isWhole_whole _) a6 a7 cc0_scratch4 cc0_scratch5 a10 a11 cc0_scratch8
            c (BitVec.ofNat 32 c.val) v24 v35 v106 v108 0#32 1#32 s)
          (fun r => iprop(⌜∃ w z, r = ⟨Scf.iv 0#32 1#32 s, BitVec.ofNat 32 (bk c s.val).val, w, z⟩⌝
            ∗ StepMid m c s.val 0 (accE v35 v106 v108 (BitVec.ofNat 32 (bk c s.val).val) (wJ m (bk c s.val)) acc))) := by
  rw [k0_part5_eq_skeleton]
  unfold k0_part5_skel
  dsimp only
  simp only [origin_word, Prog.lift, Prog.bind_op, Prog.bind_ret, Prog.pure_eq_ret, dif_pos h3, Prog.bind_assoc]
  iintro H
  rw [wp_bind]
  iapply (wp_wand_r frame (wpE (defs₀ (F := F)) 𝒱₀ (c : Thread nD τ) none) Set.univ)
  isplitl [H]
  · iapply (part1_spec m K J c s h3 v24 v35 v106 v108 (BitVec.ofNat 32 (bk c s.val).val) acc a0 h0 a1 h1 a2 h2 a4 h4 a6 a7 a10 a11)
    iexact H
  iintro %r ⟨%hr, H⟩
  subst hr
  unfold StepMid
  icases H with ⟨Hrv, Hsd, HO, Hs, Hout⟩
  dsimp only
  rw [wp_bind]
  iapply (wp_wand_r frame (wpE (defs₀ (F := F)) 𝒱₀ (c : Thread nD τ) none) Set.univ)
  isplitl [Hs Hout]
  · iapply (part2_spec m c (bk c s.val))
    isplitl [Hs]; · iexact Hs
    iexact Hout
  iintro %r ⟨%hr, Hs, Hout⟩
  subst hr
  dsimp only
  iapply (acc_half m c (bk c s.val) 0 3 rfl _ (g := fun w => k0_pay14 v108 _ _ w)) $$ [Hs Hout]
  · isplitl [Hs]; · iexact Hs
    iexact Hout
  iintro ⟨Hs, Hout⟩
  rw [wp_ret]
  imodintro
  isplitr; · ipureintro; exact ⟨_, _, rfl⟩
  isplitl [Hrv]; · iexact Hrv
  isplitl [Hsd]; · iexact Hsd
  isplitl [HO]; · iexact HO
  isplitl [Hs]; · iexact Hs
  iexact Hout

theorem part5_odd (c : Dev nD) (s : Fin k0_t2_loop.trips) (h3 : ¬k0_cond3 s = 1#1) (P : sProp 𝕄)
    (v24 : BitVec 32) (v35 : IVec S2048x1 32) (v106 : IVec S2048x1 1) (v108 : FVec F S2048x512 .f32)
    (a0 h0 a1 h1 a2 h2 a3 h3' a4 h4 a5 h5 a6 a7 a8 a9 a10 a11 a12) :
    P ⊢ wp frame (wpE (defs₀ (F := F)) 𝒱₀ (c : Thread nD τ) none) Set.univ
          (k0_part5 (F := F) a0 h0 a1 h1 a2 h2 a3 h3' a4 h4 a5 h5 a6 a7 a8 a9 a10 a11 a12
            c (BitVec.ofNat 32 c.val) v24 v35 v106 v108 0#32 1#32 s)
          (fun r => iprop(⌜∃ w z, r = ⟨Scf.iv 0#32 1#32 s, BitVec.ofNat 32 (bk c s.val).val, w, z⟩⌝ ∗ P)) := by
  rw [k0_part5_eq_skeleton]
  unfold k0_part5_skel
  dsimp only
  simp only [origin_word, Prog.lift, Prog.bind_op, Prog.bind_ret, Prog.pure_eq_ret, dif_neg h3]
  iintro H
  rw [wp_ret]
  imodintro
  isplitr; · ipureintro; exact ⟨_, _, rfl⟩
  iexact H

end Cert.Moe
-- ==== Proof.WLoop.lean ====
/-
  The weight ring's steps: what a device holds before step `k`, and that a step takes it from `k` to `k + 1`.
-/
module

public import proofs.«01_k».proof.Proof.WTrip

@[expose] public section

set_option maxRecDepth 16384

noncomputable section

namespace Cert.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Pipeline (Dat Cfg Window BodyObligation cellOf)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)

/-- What a device holds before step `k`, `acc` being the output so far. -/
def WSt (c : Dev nD) (k : ℕ) (acc : S2048x1024.Idx → Elt F .f32) : sProp 𝕄 :=
  iprop(RecvSt c k ∗ ArrSt m c k ∗ SendSt c k ∗ FreeSt m c k ∗ owed c (OW c k) ∗ outPts c acc)

/-- The end of a step: the slot is given back, or kept. -/
theorem step_end (K : Dev nD → Kind → ℕ) (J : Dev nD × Fin 2 → ℕ) (c : Dev nD) (s : Fin k0_t2_loop.trips) (p p' : Fin 2)
    (hp : s.val % 2 = p.val) (hp' : p.val + p'.val = 1) (acc : S2048x1024.Idx → Elt F .f32) :
    iprop(Recs m K ∗ Slots J ∗ FreeSt m c s.val ∗ StepMid m c s.val p acc)
      ⊢ wp frame (wpE (defs₀ (F := F)) 𝒱₀ (c : Thread nD τ) none) Set.univ
          (if h : k0_cond11 s = 1#1 then .op (.semSignal ((⟨k0_dev7 c, k0_dev7_lt c s h⟩ : Dev nD) : Thread nD τ) cc0_scratch8.sem (1 : ℕ)) fun _ => .ret PUnit.unit
            else .ret PUnit.unit)
          (fun _ => WSt m c (s.val + 1) acc) := by
  have hk : s.val < 16 := lt_of_lt_of_eq s.isLt trips2
  unfold StepMid WSt ArrSt
  rw [Ico_done (show 1 ≤ s.val + 1 by omega)]
  iintro ⟨#HR, #HJ, Hfr, Hrv, Hsd, HO, Hs, Hout⟩
  iapply (wp_wand_r frame (wpE (defs₀ (F := F)) 𝒱₀ (c : Thread nD τ) none) Set.univ
    (Q := fun _ => iprop(RecvSt c (s.val + 1) ∗ FreeSt m c (s.val + 1) ∗ owed c (OW c (s.val + 1)))))
  isplitl [Hfr Hrv HO Hs]
  · iapply (free_signal m K J c s.val hk p p' hp hp' (cond11_iff s) (n := fun h => ⟨k0_dev7 c, k0_dev7_lt c s h⟩) (fun h => Fin.ext (dev7_val c)))
    isplitr; · iexact HR
    isplitr; · iexact HJ
    isplitl [Hrv]; · iexact Hrv
    isplitl [Hfr]; · iexact Hfr
    isplitl [Hs]; · iexact Hs
    iexact HO
  iintro %_ ⟨Hrv, Hfr, HO⟩
  isplitl [Hrv]; · iexact Hrv
  isplitr; · iempintro
  isplitl [Hsd]; · iexact Hsd
  isplitl [Hfr]; · iexact Hfr
  isplitl [HO]; · iexact HO
  iexact Hout

theorem w_trip (K : Dev nD → Kind → ℕ) (J : Dev nD × Fin 2 → ℕ) (c : Dev nD) (s : Fin k0_t2_loop.trips)
    (v24 : BitVec 32) (v35 : IVec S2048x1 32) (v106 : IVec S2048x1 1) (v108 : FVec F S2048x512 .f32)
    (acc : S2048x1024.Idx → Elt F .f32) (a0 h0 a1 h1 a2 h2 a4 h4 a6 a7 a10 a11) :
    iprop(Recs m K ∗ levAts Lix lvl ∗ Slots J ∗ WSt m c s.val acc)
      ⊢ wp frame (wpE (defs₀ (F := F)) 𝒱₀ (c : Thread nD τ) none) Set.univ
          (k0_t2_body (F := F) a0 h0 a1 h1 a2 h2 (Memref.whole cc0_stg3_0) (Memref.isWhole_whole _) a4 h4
            (Memref.whole cc0_scratch1) (Memref.isWhole_whole _) a6 a7 cc0_scratch4 cc0_scratch5 a10 a11 cc0_scratch8
            c (BitVec.ofNat 32 c.val) v24 v35 v106 v108 s ⟨⟩)
          (fun _ => WSt m c (s.val + 1) (accE v35 v106 v108 (BitVec.ofNat 32 (bk c s.val).val) (wJ m (bk c s.val)) acc)) := by
  have hpre : iprop(Recs m K ∗ levAts Lix lvl ∗ Slots J ∗ WSt m c s.val acc)
      ⊢ iprop(StepPre m K J c s.val acc ∗ Recs m K ∗ Slots J ∗ FreeSt m c s.val) := by
    unfold WSt StepPre
    iintro ⟨#HR, #Hlev, #HJ, Hrv, Har, Hsd, Hfr, HO, Hout⟩
    isplitr [Hfr]
    · isplitr; · iexact HR
      isplitr; · iexact Hlev
      isplitr; · iexact HJ
      isplitl [Hrv]; · iexact Hrv
      isplitl [Har]; · iexact Har
      isplitl [Hsd]; · iexact Hsd
      isplitl [HO]; · iexact HO
      iexact Hout
    isplitr; · iexact HR
    isplitr; · iexact HJ
    iexact Hfr
  unfold k0_t2_body
  dsimp only
  simp only [semSignalWord, semWaitWord, Prog.lift, Prog.bind_op, Prog.bind_ret, Prog.pure_eq_ret, word_one]
  by_cases h3 : k0_cond3 s = 1#1
  · have hp := (cond3_iff s).mp h3
    have h7 : ¬k0_cond7 s = 1#1 := fun h => by have := (cond7_iff s).mp h; omega
    iintro H
    ihave H := hpre $$ H
    icases H with ⟨H, HF⟩
    rw [wp_bind]
    iapply (wp_wand_r frame (wpE (defs₀ (F := F)) 𝒱₀ (c : Thread nD τ) none) Set.univ)
    isplitl [H]
    · iapply (part5_even m K J c s h3 v24 v35 v106 v108 acc a0 h0 a1 h1 a2 h2 a4 h4 a6 a7 a10 a11)
      iexact H
    iintro %r ⟨%hr, H⟩
    obtain ⟨w, z, rfl⟩ := hr
    dsimp only
    rw [dif_neg h7]
    icases HF with ⟨#HR, #HJ, Hfr⟩
    iapply (step_end m K J c s 0 1 hp rfl)
    isplitr; · iexact HR
    isplitr; · iexact HJ
    isplitl [Hfr]; · iexact Hfr
    iexact H
  · have h7 : k0_cond7 s = 1#1 := (cond7_iff s).mpr (by
        have h2 : ¬s.val % 2 = 0 := fun h => h3 ((cond3_iff s).mpr h)
        omega)
    have hp := (cond7_iff s).mp h7
    iintro H
    ihave H := hpre $$ H
    icases H with ⟨H, HF⟩
    rw [wp_bind]
    iapply (wp_wand_r frame (wpE (defs₀ (F := F)) 𝒱₀ (c : Thread nD τ) none) Set.univ)
    isplitl [H]
    · iapply (part5_odd c s h3 (StepPre m K J c s.val acc) v24 v35 v106 v108 a0 h0 a1 h1 a2 h2)
      iexact H
    iintro %r ⟨%hr, H⟩
    obtain ⟨w, z, rfl⟩ := hr
    dsimp only
    rw [dif_pos h7, wp_bind]
    iapply (wp_wand_r frame (wpE (defs₀ (F := F)) 𝒱₀ (c : Thread nD τ) none) Set.univ)
    isplitl [H]
    · iapply (part3_spec m K J c s h7 v24 v35 v106 v108 (BitVec.ofNat 32 (bk c s.val).val) acc a0 h0 a1 h1 a2 h2 a4 h4 a6 a7 a10 a11)
      iexact H
    iintro %r ⟨%hr, H⟩
    subst hr
    unfold StepMid
    icases H with ⟨Hrv, Hsd, HO, Hs, Hout⟩
    dsimp only
    rw [wp_bind]
    iapply (wp_wand_r frame (wpE (defs₀ (F := F)) 𝒱₀ (c : Thread nD τ) none) Set.univ)
    isplitl [Hs Hout]
    · iapply (part4_spec m c (bk c s.val))
      isplitl [Hs]; · iexact Hs
      iexact Hout
    iintro %r ⟨%hr, Hs, Hout⟩
    subst hr
    dsimp only
    iapply (acc_half m c (bk c s.val) 1 3 rfl _ (g := fun w => k0_pay1 v108 _ _ w)) $$ [Hs Hout]
    · isplitl [Hs]; · iexact Hs
      iexact Hout
    rw [pays_odd]
    iintro ⟨Hs, Hout⟩
    icases HF with ⟨#HR, #HJ, Hfr⟩
    iapply (step_end m K J c s 1 0 hp rfl)
    unfold StepMid
    isplitr; · iexact HR
    isplitr; · iexact HJ
    isplitl [Hfr]; · iexact Hfr
    isplitl [Hrv]; · iexact Hrv
    isplitl [Hsd]; · iexact Hsd
    isplitl [HO]; · iexact HO
    isplitl [Hs]; · iexact Hs
    iexact Hout

/-- The output after `k` steps. -/
def accW (c : Dev nD) (v35 : IVec S2048x1 32) (v106 : IVec S2048x1 1) (v108 : FVec F S2048x512 .f32) : ℕ → S2048x1024.Idx → Elt F .f32
  | 0 => k0_pay24
  | k + 1 => accE v35 v106 v108 (BitVec.ofNat 32 (bk c k).val) (wJ m (bk c k)) (accW c v35 v106 v108 k)

end Cert.Moe
-- ==== Proof.Hist.lean ====
/-
  The histogram ring, one trip: wait for the right neighbour's go-ahead (from the second trip on), send the newest row to
  the right, wait for the sending to end and for the row from the left, and give the left neighbour the go-ahead.
-/
module

public import proofs.«01_k».proof.Proof.Steps

@[expose] public section

set_option maxRecDepth 16384

noncomputable section

namespace Cert.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Pipeline (Dat Cfg Window BodyObligation cellOf)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)

/-- What device `c` owes the histogram ring from trip `k` on. -/
def OH (c : Dev nD) (k : ℕ) : CellTallies nD τ sig ℕ :=
  (∑ j ∈ Finset.Ico k 15, tallyAt (cell (nxt c) .hr) j NH) + ∑ j ∈ Finset.Ico k 14, tallyAt (cell (prv c) .hcr) j 1
/-- The same once trip `k`'s row is sent. -/
def OHmid (c : Dev nD) (k : ℕ) : CellTallies nD τ sig ℕ :=
  (∑ j ∈ Finset.Ico (k + 1) 15, tallyAt (cell (nxt c) .hr) j NH) + ∑ j ∈ Finset.Ico k 14, tallyAt (cell (prv c) .hcr) j 1

theorem OH_send (c : Dev nD) (k : ℕ) (h : k < 15) : OH c k = OHmid c k + tallyAt (cell (nxt c) .hr) k NH := by
  unfold OH OHmid; rw [Ring.sum_Ico_succ h, add_comm (tallyAt _ _ _), add_right_comm]
theorem OHmid_signal (c : Dev nD) (k : ℕ) (h : k < 14) : OHmid c k = OH c (k + 1) + tallyAt (cell (prv c) .hcr) k 1 := by
  unfold OH OHmid; rw [Ring.sum_Ico_succ h, add_comm (tallyAt _ _ _), add_assoc]
theorem OHmid_last (c : Dev nD) (k : ℕ) (h : 14 ≤ k) : OHmid c k = OH c (k + 1) := by
  unfold OH OHmid; rw [Finset.Ico_eq_empty_of_le h, Finset.Ico_eq_empty_of_le (show 14 ≤ k + 1 by omega)]

theorem after_OH (c : Dev nD) (k : ℕ) : After (4 * k + 1) (OH c k) := by
  unfold OH
  refine (After.sum _ fun j hj => ?_).add (After.sum _ fun j hj => ?_) <;> rw [Finset.mem_Ico] at hj <;>
    refine After.tally ?_ (by omega) <;> rw [lvl_cell] <;> dsimp only <;> omega
theorem after_OHmid (c : Dev nD) (k : ℕ) : After (4 * k + 2) (OHmid c k) := by
  unfold OHmid
  refine (After.sum _ fun j hj => ?_).add (After.sum _ fun j hj => ?_) <;> rw [Finset.mem_Ico] at hj <;>
    refine After.tally ?_ (by omega) <;> rw [lvl_cell] <;> dsimp only <;> omega

/-- Before trip `k`: the positions at the three cells, the rows that arrived, the right neighbour's rows still to be
    written, the tokens of the payments still to be made, the credits of the payments still to come. -/
def HistSt (c : Dev nD) (O' : CellTallies nD τ sig ℕ) (k : ℕ) : sProp 𝕄 :=
  iprop(atPos ER (cell c .hs) k ∅ 0 ∗ atPos ER (cell c .hr) k ∅ 0 ∗ atPos ER (cell c .hcr) (k - 1) ∅ 0
    ∗ reached ER (cell c .hs) k ∗ reached ER (cell (nxt c) .hr) 0 ∗ reached ER (cell c .hcr) 0
    ∗ (bigSep (Finset.range (k + 1)) fun j => rowPts c (bk c j) (tab m))
    ∗ (bigSep (Finset.Ico k 15) fun j => iprop(∃ f, rowPts (nxt c) (bk c j) f))
    ∗ (bigSep (Finset.Ico k 15) fun j => dutyTok ER (cell c .hs) j 0)
    ∗ (bigSep (Finset.Ico k 15) fun j => dutyTok ER (cell (nxt c) .hr) j 0)
    ∗ (bigSep (Finset.Ico k 14) fun j => dutyTok ER (cell (prv c) .hcr) j 0)
    ∗ (bigSep (Finset.Ico k 15) fun j => cred (tallyAt (cell c .hr) j NH))
    ∗ (bigSep (Finset.Ico (k - 1) 14) fun j => cred (tallyAt (cell c .hcr) j 1))
    ∗ owed c (OH c k + O'))

/-- Trip `k` once the right neighbour has given its go-ahead. -/
def HistReady (c : Dev nD) (O' : CellTallies nD τ sig ℕ) (k : ℕ) : sProp 𝕄 :=
  iprop(atPos ER (cell c .hs) k ∅ 0 ∗ atPos ER (cell c .hr) k ∅ 0 ∗ atPos ER (cell c .hcr) k ∅ 0
    ∗ reached ER (cell c .hs) k ∗ reached ER (cell (nxt c) .hr) k ∗ reached ER (cell c .hcr) k
    ∗ (bigSep (Finset.range (k + 1)) fun j => rowPts c (bk c j) (tab m))
    ∗ (bigSep (Finset.Ico k 15) fun j => iprop(∃ f, rowPts (nxt c) (bk c j) f))
    ∗ (bigSep (Finset.Ico k 15) fun j => dutyTok ER (cell c .hs) j 0)
    ∗ (bigSep (Finset.Ico k 15) fun j => dutyTok ER (cell (nxt c) .hr) j 0)
    ∗ (bigSep (Finset.Ico k 14) fun j => dutyTok ER (cell (prv c) .hcr) j 0)
    ∗ (bigSep (Finset.Ico k 15) fun j => cred (tallyAt (cell c .hr) j NH))
    ∗ (bigSep (Finset.Ico k 14) fun j => cred (tallyAt (cell c .hcr) j 1))
    ∗ reached ER (cell (nxt c) .hr) 0 ∗ reached ER (cell c .hcr) 0
    ∗ owed c (OH c k + O'))

theorem hist_ready_zero (c : Dev nD) (O' : CellTallies nD τ sig ℕ) : HistSt m c O' 0 ⊢ HistReady m c O' 0 := by
  unfold HistSt HistReady
  iintro ⟨H1, H2, H3, H4, #H5, #H6, H7, H8, H9, H10, H11, H12, H13, H14⟩
  isplitl [H1]; · iexact H1
  isplitl [H2]; · iexact H2
  isplitl [H3]; · iexact H3
  isplitl [H4]; · iexact H4
  isplitr; · iexact H5
  isplitr; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitr; · iexact H5
  isplitr; · iexact H6
  iexact H14

/-- The go-ahead waited for. -/
theorem hist_wait (K : Dev nD → Kind → ℕ) (c : Dev nD) (O' : CellTallies nD τ sig ℕ) (hO' : After 62 O') (k : ℕ) (hk : 0 < k) (hk' : k < 15)
    {w : TpuEff nD τ sig (Elt F) Λ₀ .tc PUnit} {sm : SemLoc sig} (e : sm = semOf .hcr)
    (hw : ∀ R : PUnit → sProp 𝕄, wpE (defs₀ (F := F)) 𝒱₀ (c : Thread nD τ) none Set.univ w R
      = waitSpec (c : Thread nD τ) Set.univ sm (amountK .hcr) R)
    {α : Type} {Q : α → sProp 𝕄} {t : Prog (TpuEff nD τ sig (Elt F) Λ₀ .tc) α} :
    iprop(Recs m K ∗ levAts Lix lvl ∗ HistSt m c O' k)
      ⊢ iprop((HistReady m c O' k -∗ wp frame (wpE (defs₀ (F := F)) 𝒱₀ (c : Thread nD τ) none) Set.univ t Q)
        -∗ wp frame (wpE (defs₀ (F := F)) 𝒱₀ (c : Thread nD τ) none) Set.univ (.op w fun _ => t) Q) := by
  obtain ⟨j, rfl⟩ : ∃ j, k = j + 1 := ⟨k - 1, by omega⟩
  unfold HistSt HistReady
  rw [Nat.add_sub_cancel, Ico_peel (show j < 14 by omega) fun j => cred (tallyAt (cell c .hcr) j 1)]
  iintro ⟨#HR, #Hlev, H1, H2, H3, H4, #H5, #H6, H7, H8, H9, H10, H11, H12, ⟨H13, H13'⟩, H14⟩ HK
  iapply (step_wait m K c .hcr j j (OH c (j + 1) + O') (by simp [dutiesK]; omega) (by omega)
    (by
      rw [lvl_cell]; dsimp only
      exact ((after_OH c (j + 1)).mono (by omega)).add (hO'.mono (by omega))) e hw) $$ [H13 H14 H3]
  · isplitr; · iexact HR
    isplitr; · iexact Hlev
    isplitl [H13]; · iexact H13
    isplitl [H14]; · iexact H14
    iexact H3
  iintro ⟨H14, H3, #Hr, Hp⟩
  ihave #Hp := (Entails.of_eq (show payK m c .hcr j 0 = reached ER (cell (nxt c) .hr) (j + 1) from rfl)) $$ Hp
  iapply HK
  isplitl [H1]; · iexact H1
  isplitl [H2]; · iexact H2
  isplitl [H3]; · iexact H3
  isplitl [H4]; · iexact H4
  isplitr; · iexact Hp
  isplitr; · iexact Hr
  isplitl [H7]; · iexact H7
  isplitl [H8]; · iexact H8
  isplitl [H9]; · iexact H9
  isplitl [H10]; · iexact H10
  isplitl [H11]; · iexact H11
  isplitl [H12]; · iexact H12
  isplitl [H13']; · iexact H13'
  isplitr; · iexact H5
  isplitr; · iexact H6
  iexact H14

/-- The go-ahead given, while there is a row to come. -/
theorem hist_signal (K : Dev nD → Kind → ℕ) (c : Dev nD) (O' : CellTallies nD τ sig ℕ) (k : ℕ) (hk : k < 15) {C : Prop} [Decidable C]
    (hC : C ↔ k < 14) {n : C → Dev nD} (hn : ∀ h, n h = prv c) :
    iprop(Recs m K ∗ owed c (OHmid c k + O') ∗ (bigSep (Finset.Ico k 14) fun j => dutyTok ER (cell (prv c) .hcr) j 0)
        ∗ reached ER (cell c .hr) (k + 1) ∗ reached ER (cell (prv c) .hcr) k)
      ⊢ wp frame (wpE (defs₀ (F := F)) 𝒱₀ (c : Thread nD τ) none) Set.univ
          (if h : C then .op (.semSignal (n h : Thread nD τ) cc0_scratch7.sem (1 : ℕ)) fun _ => .ret PUnit.unit else .ret PUnit.unit)
          (fun _ => iprop(owed c (OH c (k + 1) + O') ∗ bigSep (Finset.Ico (k + 1) 14) fun j => dutyTok ER (cell (prv c) .hcr) j 0)) := by
  by_cases hc : k < 14
  · rw [dif_pos (hC.mpr hc), Ico_peel hc fun j => dutyTok ER (cell (prv c) .hcr) j 0]
    iintro ⟨#HR, HO, ⟨Ht, Hts⟩, #Hr2, #Hq⟩
    iapply (step_signal m K c (prv c) .hcr k 0 k (OHmid c k + O') (OH c (k + 1) + O') (by simp [dutiesK, hc]) rfl
      (by rw [OHmid_signal c k hc, add_right_comm]) (sm := cc0_scratch7.sem) rfl (hn _)) $$ [HO Ht]
    · isplitr; · iexact HR
      isplitl [HO]; · iexact HO
      isplitl [Ht]; · iexact Ht
      isplitr
      · iapply (Entails.of_eq (show reached ER (cell c .hr) (k + 1) = payK m (prv c) .hcr k 0 from by
          rw [show payK m (prv c) .hcr k 0 = reached ER (cell (nxt (prv c)) .hr) (k + 1) from rfl, nxt_prv]))
        iexact Hr2
      iexact Hq
    iintro HO
    rw [wp_ret]
    imodintro
    isplitl [HO]; · iexact HO
    iexact Hts
  · rw [dif_neg fun h' => hc (hC.mp h'), OHmid_last c k (by omega), Ico_done (show 14 ≤ k by omega),
      Ico_done (show 14 ≤ k + 1 by omega), wp_ret]
    iintro ⟨-, HO, H, -, -⟩
    imodintro
    isplitl [HO]; · iexact HO
    iempintro

theorem hist_trip (K : Dev nD → Kind → ℕ) (c : Dev nD) (O' : CellTallies nD τ sig ℕ) (hO' : After 62 O')
    (v2 v13 v24 : BitVec 32) (h : Fin k0_t1_loop.trips) (a0 h0 a1 h1 a2 h2 a3 h3 a8 a9) :
    iprop(Recs m K ∗ levAts Lix lvl ∗ HistSt m c O' h.val)
      ⊢ wp frame (wpE (defs₀ (F := F)) 𝒱₀ (c : Thread nD τ) none) Set.univ
          (k0_t1_body (F := F) a0 h0 a1 h1 a2 h2 a3 h3 (Memref.whole cc0_scratch0) (Memref.isWhole_whole _)
            (Memref.whole cc0_scratch1) (Memref.isWhole_whole _) cc0_scratch2 cc0_scratch3 a8 a9 cc0_scratch6 cc0_scratch7 cc0_scratch8 c v2 v13 v24 h ⟨⟩)
          (fun _ => HistSt m c O' (h.val + 1)) := by
  have hk : h.val < 15 := lt_of_lt_of_eq h.isLt trips1
  unfold k0_t1_body
  dsimp only
  simp only [semSignalWord, semWaitWord, Prog.lift, Prog.bind_op, Prog.bind_ret, Prog.pure_eq_ret, word_one]
  iintro ⟨#HR, #Hlev, H⟩
  iapply (wp_guard (iprop(Recs m K ∗ levAts Lix lvl ∗ HistSt m c O' h.val)) (HistReady m c O' h.val)
    (fun hc => hist_wait m K c O' hO' h.val ((word1_iff h).mp hc) hk (w := .semWait cc0_scratch7.sem ((1 : ℕ) : ℤ))
      (sm := .reg cc0_scratch7.sem) rfl (wpE_semWait_eq 𝒱₀ (c : Thread nD τ) none Set.univ (k := 1)))
    (fun hc => by
      have h0 : h.val = 0 := Nat.eq_zero_of_not_pos fun h => hc ((word1_iff _).mpr h)
      rw [h0]
      iintro ⟨-, -, H⟩
      iapply (hist_ready_zero m c O'); iexact H)) $$ [H]
  · isplitr; · iexact HR
    isplitr; · iexact Hlev
    iexact H
  unfold HistReady
  rw [range_grow h.val fun j => rowPts c (bk c j) (tab m), Ico_peel hk fun j => iprop(∃ f, rowPts (nxt c) (bk c j) f),
    Ico_peel hk fun j => dutyTok ER (cell c .hs) j 0, Ico_peel hk fun j => dutyTok ER (cell (nxt c) .hr) j 0,
    Ico_peel hk fun j => cred (tallyAt (cell c .hr) j NH)]
  unfold owed
  iintro ⟨H1, H2, H3, #H4, #H5, #H6, ⟨Hrow, Hrows⟩, ⟨⟨%fd, Hd⟩, Hds⟩, ⟨Ht, Hts⟩, ⟨Hu, Hus⟩, H11, ⟨Hc, Hcs⟩, H13, #Hz1, #Hz2, ⟨%W, HO⟩⟩
  iapply (wp_send_row m K c _ (dev3_eq c) h.val hk (off2_val c h) cc0_scratch2.sem cc0_scratch3.sem rfl rfl fd (OH c h.val + O') (OHmid c h.val + O')
    (by rw [OH_send c h.val hk, add_right_comm]) W) $$ [Hrow Hd HO Ht Hu]
  · isplitr; · iexact HR
    isplitl [Hrow]; · iexact Hrow
    isplitl [Hd]
    · isplitl [Hd]; · iexact Hd
      iexact H6
    isplitl [HO]; · iexact HO
    isplitl [Ht]; · iexact Ht
    isplitr; · iexact H4
    isplitl [Hu]; · iexact Hu
    iexact H5
  iintro ⟨Hcs', HO⟩
  ihave HO := (show (iprop(owes (c : Thread nD τ) (OHmid c h.val + O') W) : sProp 𝕄) ⊢ owed c (OHmid c h.val + O') from by
    unfold owed; iintro HO; iexists W; iexact HO) $$ HO
  iapply (step_dma m K c .hs h.val h.val (OHmid c h.val + O') (by simp [dutiesK]; omega) (by omega)
    (by
      rw [lvl_cell]; dsimp only
      exact ((after_OHmid c h.val).mono (by omega)).add (hO'.mono (by omega))) (sS := cc0_scratch2.sem) rfl (by rfl)) $$ [Hcs' HO H1]
  · isplitr; · iexact HR
    isplitr; · iexact Hlev
    isplitl [Hcs']; · iexact Hcs'
    isplitl [HO]; · iexact HO
    iexact H1
  iintro ⟨HO, H1, #Hr1, Hrow⟩
  ihave Hrow := (Entails.of_eq (show payK m c .hs h.val 0 = rowPts c (bk c h.val) (tab m) from rfl)) $$ Hrow
  iapply (step_dma m K c .hr h.val h.val (OHmid c h.val + O') (by simp [dutiesK]; omega) (by omega)
    (by
      rw [lvl_cell]; dsimp only
      exact (after_OHmid c h.val).add (hO'.mono (by omega))) (sS := cc0_scratch3.sem) rfl (by rfl)) $$ [Hc HO H2]
  · isplitr; · iexact HR
    isplitr; · iexact Hlev
    isplitl [Hc]; · iexact Hc
    isplitl [HO]; · iexact HO
    iexact H2
  iintro ⟨HO, H2, #Hr2, Hnew⟩
  ihave Hnew := (Entails.of_eq (show payK m c .hr h.val 0 = iprop(rowPts c (bk c (h.val + 1)) (tab m) ∗ reached ER (cell (prv c) .hcr) h.val)
    from rfl)) $$ Hnew
  icases Hnew with ⟨Hnew, #Hq⟩
  iapply (wp_wand_r frame (wpE (defs₀ (F := F)) 𝒱₀ (c : Thread nD τ) none) Set.univ
    (Q := fun _ => iprop(owed c (OH c (h.val + 1) + O') ∗ bigSep (Finset.Ico (h.val + 1) 14) fun j => dutyTok ER (cell (prv c) .hcr) j 0)))
  isplitl [HO H11]
  · iapply (hist_signal m K c O' h.val hk (cond2_iff h) (fun h2 => Fin.ext (dev4_val c)))
    isplitr; · iexact HR
    isplitl [HO]; · iexact HO
    isplitl [H11]; · iexact H11
    isplitr; · iexact Hr2
    iexact Hq
  iintro %_ ⟨HO, H11⟩
  unfold HistSt
  rw [Nat.add_sub_cancel, range_grow (h.val + 1) fun j => rowPts c (bk c j) (tab m), range_grow h.val fun j => rowPts c (bk c j) (tab m)]
  isplitl [H1]; · iexact H1
  isplitl [H2]; · iexact H2
  isplitl [H3]; · iexact H3
  isplitr; · iexact Hr1
  isplitr; · iexact Hz1
  isplitr; · iexact Hz2
  isplitl [Hnew Hrow Hrows]
  · isplitl [Hnew]; · iexact Hnew
    isplitl [Hrow]; · iexact Hrow
    iexact Hrows
  isplitl [Hds]; · iexact Hds
  isplitl [Hts]; · iexact Hts
  isplitl [Hus]; · iexact Hus
  isplitl [H11]; · iexact H11
  isplitl [Hcs]; · iexact Hcs
  isplitl [H13]; · iexact H13
  iexact HO

end Cert.Moe
-- ==== Proof.Start.lean ====
/-
  Before the rings turn: the two neighbours greet each other, a device's own weights are copied into slot 0 of its buffer,
  and its own row of the table is written. The greeting hands the left neighbour the rows of the table that it will write,
  and tells it that slot 1 is free.
-/
module

public import proofs.«01_k».proof.Proof.WLoop
public import proofs.«01_k».proof.Proof.Hist

@[expose] public section

set_option maxRecDepth 16384

noncomputable section

namespace Cert.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Pipeline (Dat Cfg Window BodyObligation cellOf)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)

/-! ## The uses counted -/

instance : Fintype Kind where
  elems := {.hs, .hr, .ws 0, .ws 1, .wr 0, .wr 1, .prime, .hcr, .wcr, .bar}
  complete := by
    intro k
    cases k with
    | ws p => fin_cases p <;> decide
    | wr p => fin_cases p <;> decide
    | _ => decide

/-- Every cell is at its first round. -/
def Reach0 : sProp 𝕄 := bigSep (Finset.univ : Finset (Dev nD × Kind)) fun x => reached ER (cell x.1 x.2) 0
instance Reach0_persistent : BI.Persistent (Reach0 (F := F)) := by unfold Reach0; infer_instance
theorem reach_at (c : Dev nD) (k : Kind) : Reach0 (F := F) ⊢ reached ER (cell c k) 0 := by
  have h : (bigSep (Finset.univ : Finset (Dev nD × Kind)) (fun x => reached ER (cell x.1 x.2) 0) : sProp 𝕄) ⊢ reached ER (cell c k) 0 :=
    bigSep_elim (Finset.mem_univ (c, k))
  exact h

/-! ## Rows and slots of a whole buffer -/

theorem range_shift (n : ℕ) (Φ : ℕ → sProp 𝕄) :
    bigSep (Finset.range (n + 1)) Φ = iprop(Φ 0 ∗ bigSep (Finset.range n) fun j => Φ (j + 1)) := by
  rw [Finset.range_add_one', bigSep_insert (by simp), BI.bigSep_map]; rfl

/-- The table is its sixteen rows. -/
theorem rows_whole (c : Dev nD) (f : (cc0_scratch0 : Ref sig .tc).ty.Contents (Elt F)) :
    (((c : Thread nD τ).loc cc0_scratch0) ↦{fullShare} f : sProp 𝕄) = bigSep (Finset.range 16) fun j => rowPts c (bk c j) f := by
  refine Eq.trans ?_ (pointsTo_biUnion (ℓ := (c : Thread nD τ).loc cc0_scratch0) (q := fullShare) (f := f) (Finset.range 16) (fun j => rowSet (bk c j)) (by
    intro t ht t' ht' hne
    rw [Finset.mem_range] at ht ht'
    refine Finset.disjoint_left.mpr fun i hi hi' => hne (bk_inj c ht ht' ?_)
    rw [← (mem_rowSet _ i).mp hi, (mem_rowSet _ i).mp hi']))
  congr 1
  symm
  refine Finset.eq_univ_of_forall fun i => Finset.mem_biUnion.mpr ?_
  have hi := (i 0).isLt
  have hc := c.isLt
  simp only [nD] at hc
  refine ⟨(c.val + 16 - (i 0).val) % 16, Finset.mem_range.mpr (Nat.mod_lt _ (by decide)), (mem_rowSet _ i).mpr (Fin.ext ?_)⟩
  have hi' : (i 0).val < 16 := hi
  simp only [bk]
  omega

/-- The weight buffer is its two slots. -/
theorem slots_whole (c : Dev nD) (f : (cc0_scratch1 : Ref sig .tc).ty.Contents (Elt F)) :
    (((c : Thread nD τ).loc cc0_scratch1) ↦{fullShare} f : sProp 𝕄) = iprop(slotPts c 0 f ∗ slotPts c 1 f) := by
  have hu : (Finset.univ : Finset (Fin 2)).biUnion slotSet = Finset.univ :=
    Finset.eq_univ_of_forall fun i => Finset.mem_biUnion.mpr ⟨i 0, Finset.mem_univ _, (mem_slotSet _ i).mpr rfl⟩
  have h := pointsTo_biUnion (Ix := ℕ) (Name := ℕ) (U := UU) (Lvl := ℕ) (ℓ := (c : Thread nD τ).loc cc0_scratch1) (q := fullShare) (f := f) Finset.univ slotSet (by
    intro t _ t' _ hne
    refine Finset.disjoint_left.mpr fun i hi hi' => hne ?_
    rw [← (mem_slotSet _ i).mp hi, (mem_slotSet _ i).mp hi'])
  rw [hu] at h
  refine h.trans ?_
  exact two_split (p := 0) (p' := 1) rfl (fun p => slotPts c p f)

/-- Contents of the two slots put together. -/
def slotMix (f g : (cc0_scratch1 : Ref sig .tc).ty.Contents (Elt F)) : (cc0_scratch1 : Ref sig .tc).ty.Contents (Elt F) :=
  fun (i : S2x4x512x1024.Idx) => if (i 0).val = 0 then f i else g i

/-- Two slots with contents of their own are the buffer at some contents. -/
theorem slots_join (c : Dev nD) (f g : (cc0_scratch1 : Ref sig .tc).ty.Contents (Elt F)) :
    iprop(slotPts c 0 f ∗ slotPts c 1 g) ⊢ (iprop(∃ h, ((c : Thread nD τ).loc cc0_scratch1) ↦{fullShare} h) : sProp 𝕄) := by
  have e0 : slotPts c 0 f = slotPts (F := F) c 0 (slotMix f g) := by
    unfold slotPts
    exact pointsTo_congr fun i hi => (if_pos (congrArg Fin.val ((mem_slotSet 0 i).mp hi))).symm
  have e1 : slotPts c 1 g = slotPts (F := F) c 1 (slotMix f g) := by
    unfold slotPts
    exact pointsTo_congr fun i hi => (if_neg fun h0 => absurd ((congrArg Fin.val ((mem_slotSet 1 i).mp hi)).symm.trans h0) Nat.one_ne_zero).symm
  rw [e0, e1, ← slots_whole]
  iintro H
  iexists _
  iexact H

/-! ## The greeting -/

/-- What a device owes at the start: its two greetings, and both rings' payments. -/
def O₀ (c : Dev nD) : CellTallies nD τ sig ℕ :=
  (OH c 0 + OW c 0) + tallyAt (cell (nxt c) .bar) 0 1 + tallyAt (cell (prv c) .bar) 0 1

theorem me_word : ∀ c : Dev nD, Scalar.remsi (Scalar.divsi (Dev.word c) 1#32) 16#32 = BitVec.ofNat 32 c.val := by decide +kernel

theorem expect_bar (c : Dev nD) : (ringRd (F := F) m).expect (cell c .bar) 0 = 2 := by
  unfold Rounds.Schedule.expect Rounds.Schedule.amountOf
  rw [duties_cell, show dutiesK .bar 0 = Finset.range 2 from rfl]
  have : ∀ d ∈ Finset.range 2, (ringRd (F := F) m).amount (cell c .bar) 0 d = 1 := fun d _ => amount_cell m c .bar 0 d
  rw [Finset.sum_congr rfl this]; rfl

theorem rest_bar (c : Dev nD) :
    bigSep ((ringRd (F := F) m).duties (cell c .bar) 0 \ ∅) (fun d => (ringRd (F := F) m).payload (cell c .bar) 0 d)
      ⊢ iprop((bigSep (Finset.range 15) fun j => iprop(∃ f, rowPts (nxt c) (bk c j) f)) ∗ released ES (nxt c, (1 : Fin 2)) 1) := by
  rw [duties_cell, Finset.sdiff_empty, show dutiesK .bar 0 = Finset.range 2 from rfl, bigSep_congr (fun d _ => payload_cell m c .bar 0 d)]
  refine (Entails.of_eq (range_shift 1 fun d => payK m c .bar 0 d)).trans ?_
  rw [show payK m c .bar 0 0 = iprop((bigSep (Finset.range 15) fun j => iprop(∃ f, rowPts (nxt c) (bk c j) f)) ∗ released ES (nxt c, (1 : Fin 2)) 1) from rfl]
  iintro ⟨H, -⟩
  iexact H

/-- What the greeting takes. -/
def GreetPre (K : Dev nD → Kind → ℕ) (J : Dev nD × Fin 2 → ℕ) (c : Dev nD) : sProp 𝕄 :=
  iprop(Recs m K ∗ levAts Lix lvl ∗ Slots J ∗ Reach0 ∗ atPos ER (cell c .bar) 0 ∅ 0
    ∗ dutyTok ER (cell (prv c) .bar) 0 0 ∗ dutyTok ER (cell (nxt c) .bar) 0 1 ∗ cred (tallyAt (cell c .bar) 0 2)
    ∗ readerAt ES (c, (1 : Fin 2)) 0 ∗ slotRes (c, (1 : Fin 2))
    ∗ (bigSep (Finset.range 15) fun j => iprop(∃ f, rowPts c (bk (prv c) j) f)) ∗ owed c (O₀ c))

/-- What the greeting leaves. -/
def GreetPost (c : Dev nD) : sProp 𝕄 :=
  iprop(atPos ER (cell c .bar) 1 ∅ 0 ∗ readerAt ES (c, (1 : Fin 2)) 1 ∗ released ES (c, (1 : Fin 2)) 1
    ∗ (bigSep (Finset.range 15) fun j => iprop(∃ f, rowPts (nxt c) (bk c j) f)) ∗ released ES (nxt c, (1 : Fin 2)) 1
    ∗ owed c (OH c 0 + OW c 0))

theorem greet (K : Dev nD → Kind → ℕ) (J : Dev nD × Fin 2 → ℕ) (c : Dev nD) (a0 h0 a1 h1 a2 h2 a3 h3 a4 h4 a5 h5 a6 a7 a8 a9 a10 a11 a12) :
    GreetPre m K J c ⊢ wp frame (wpE (defs₀ (F := F)) 𝒱₀ (c : Thread nD τ) none) Set.univ
      (k0_part6 (F := F) a0 h0 a1 h1 a2 h2 a3 h3 a4 h4 a5 h5 a6 a7 a8 a9 a10 a11 a12)
      (fun r => iprop(⌜∃ v13 v24, r = ⟨c, BitVec.ofNat 32 c.val, v13, v24⟩⌝ ∗ GreetPost c)) := by
  rw [k0_part6_eq_skeleton]
  unfold k0_part6_skel GreetPre GreetPost
  simp only [semSignalWord, semWaitWord, Prog.lift, Prog.bind_op, Prog.bind_ret, Prog.pure_eq_ret, wp_deviceId, word_one, word_two]
  iintro ⟨#HR, #Hlev, #HJ, #Hz, Hat, Ht0, Ht1, Hc, Hrd, Hs, Hrows, HO⟩
  ihave #HJ1 := (slots_at J (c, (1 : Fin 2))) $$ HJ
  imod (slot_release ES (Set.mem_univ (J (c, (1 : Fin 2)))) (slotRes_twice (c, (1 : Fin 2))) 0) $$ [Hrd Hs] with ⟨Hrd, #Hrel⟩
  · isplitr; · iexact HJ1
    isplitl [Hrd]; · iexact Hrd
    iexact Hs
  iapply (step_signal m K c (prv c) .bar 0 0 0 (O₀ c) ((OH c 0 + OW c 0) + tallyAt (cell (nxt c) .bar) 0 1) (by simp [dutiesK]) rfl rfl rfl (dev1_eq c)) $$ [HO Ht0 Hrows]
  · isplitr; · iexact HR
    isplitl [HO]; · iexact HO
    isplitl [Ht0]; · iexact Ht0
    isplitl [Hrows]
    · iapply (Entails.of_eq (show iprop((bigSep (Finset.range 15) fun j => iprop(∃ f, rowPts c (bk (prv c) j) f)) ∗ released ES (c, (1 : Fin 2)) 1) = payK m (prv c) .bar 0 0 from by
        rw [show payK m (prv c) .bar 0 0 = iprop((bigSep (Finset.range 15) fun j => iprop(∃ f, rowPts (nxt (prv c)) (bk (prv c) j) f)) ∗ released ES (nxt (prv c), (1 : Fin 2)) 1) from rfl, nxt_prv]))
      isplitl [Hrows]; · iexact Hrows
      iexact Hrel
    iapply (reach_at (prv c) .bar); iexact Hz
  iintro HO
  iapply (step_signal m K c (nxt c) .bar 0 1 0 ((OH c 0 + OW c 0) + tallyAt (cell (nxt c) .bar) 0 1) (OH c 0 + OW c 0) (by simp [dutiesK]) rfl rfl rfl (dev2_eq c)) $$ [HO Ht1]
  · isplitr; · iexact HR
    isplitl [HO]; · iexact HO
    isplitl [Ht1]; · iexact Ht1
    isplitr
    · iapply (Entails.of_eq (show iprop(emp) = payK m (nxt c) .bar 0 1 from rfl)); iempintro
    iapply (reach_at (nxt c) .bar); iexact Hz
  unfold owed
  iintro ⟨%W, HO⟩
  iapply (Rounds.wp_wait_rest_token 𝒱₀ ER (ringRd m) (c : Thread nD τ) none (κ := K c .bar)
      (wpE_semWait_eq 𝒱₀ (c : Thread nD τ) none Set.univ (k := 2)) (Set.mem_univ _) 0 (O := OH c 0 + OW c 0) (W := W) (R := 0) (m := 0) (T := ∅)
      (by rw [Nat.zero_add]; exact (expect_bar m c).symm)) $$ [Hc HO Hat]
  · isplitr; · iapply (inv_at m K c .bar); iexact HR
    isplitl [Hc]; · iexact Hc
    isplitl [HO]; · iexact HO
    isplitr
    · iapply (mayWait c (semOf .bar) 0 (by omega) (OH c 0 + OW c 0) (by
        have h1 := (after_OH c 0).add ((after_OW c 0).mono (show 4 * 0 + 1 ≤ 4 * 0 + 102 by omega))
        exact h1))
      iexact Hlev
    iexact Hat
  iintro ⟨HO, Hat, -, Hp⟩
  ihave Hp := (show (bigSep ((ringRd m).duties ((c : Thread nD τ), SemLoc.reg (SemArray.scalar (sig.barrier 0 rfl) : SemArray (Sem sig) S_).sem) 0 \ ∅)
      (fun d => (ringRd m).payload ((c : Thread nD τ), SemLoc.reg (SemArray.scalar (sig.barrier 0 rfl) : SemArray (Sem sig) S_).sem) 0 d) : sProp 𝕄) ⊢ _ from rest_bar m c) $$ Hp
  icases Hp with ⟨Hrows, #Hreln⟩
  rw [wp_ret]
  imodintro
  isplitr
  · ipureintro; exact ⟨_, _, by rw [me_word]⟩
  isplitl [Hat]; · iexact Hat
  isplitl [Hrd]; · iexact Hrd
  isplitr; · iexact Hrel
  isplitl [Hrows]; · iexact Hrows
  isplitr; · iexact Hreln
  iexists _; iexact HO

end Cert.Moe
-- ==== Proof.Prime.lean ====
/-
  After the greeting: a device's own weights go into slot 0 of its buffer, its own row into the table, and the histogram
  ring brings the other fifteen rows.
-/
module

public import proofs.«01_k».proof.Proof.Start

@[expose] public section

set_option maxRecDepth 16384

noncomputable section

namespace Cert.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Pipeline (Dat Cfg Window BodyObligation cellOf)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)

/-- The windows that the kernel reads, as fetched. -/
def xPts (c : Dev nD) : sProp 𝕄 := ((c : Thread nD τ).loc cc0_stg0_0) ↦{fullShare} (xB m c)
def ridxPts (c : Dev nD) : sProp 𝕄 := ((c : Thread nD τ).loc cc0_stg1_0) ↦{fullShare} (ridxB m c)
/-- The table, complete. -/
def tabPts (c : Dev nD) : sProp 𝕄 := ((c : Thread nD τ).loc cc0_scratch0) ↦{fullShare} (tab m)

theorem tab_rows (c : Dev nD) : (bigSep (Finset.range 16) fun j => rowPts c (bk c j) (tab m)) = tabPts m c :=
  (rows_whole c (tab m)).symm

/-! ## The copy into slot 0 -/

theorem prime_copy (K : Dev nD → Kind → ℕ) (c : Dev nD) {off : Fin 4 → Nat} {hoff} (e : off = ![0, 0, 0, 0])
    (f : (cc0_scratch1 : Ref sig .tc).ty.Contents (Elt F))
    {hsrc : (Memref.whole cc0_stg2_0).view.WordExact} {hdst : (slotM off hoff).view.WordExact}
    {hsem : DmaTarget.Typed (nD := nD) .vmem (.dma cc0_scratch6.sem) (DmaTarget.here (p := (.tc : Proc τ)) (slotM off hoff))}
    {α : Type} {Q : α → sProp 𝕄} {k' : PUnit → Prog (TpuEff nD τ sig (Elt F) Λ₀ .tc) α} :
    iprop(Recs m K ∗ Reach0 ∗ ewPts m c ∗ slotPts c 0 f ∗ dutyTok ER (cell c .prime) 0 0)
      ⊢ iprop((cred (tallyAt (cell c .prime) 0 NW) -∗ wp frame (wpE (defs₀ (F := F)) 𝒱₀ (c : Thread nD τ) none) Set.univ (k' ⟨⟩) Q)
          -∗ wp frame (wpE (defs₀ (F := F)) 𝒱₀ (c : Thread nD τ) none) Set.univ
            (.op (.enqueueDma (Memref.whole cc0_stg2_0) (.here (slotM off hoff)) (.dma cc0_scratch6.sem) hsrc hdst hsem) k') Q) := by
  have hset : (slotM off hoff).view.set = slotSet 0 := slotM_set (h := hoff) 0 e
  have hpay : iprop((((slotM off hoff).view.loc (c : Thread nD τ)) ↦[(slotM off hoff).view.set]{fullShare}
        ((slotM off hoff).view.write (Elt F) f ((Memref.whole cc0_stg2_0).view.read (Elt F) (ewB m c)) Finset.univ) : sProp 𝕄)
        ∗ ((Memref.whole cc0_stg2_0).view.loc (c : Thread nD τ) ↦[(Memref.whole cc0_stg2_0).view.set]{fullShare} ewB m c))
      ⊢ (ringRd m).payload ((c : Thread nD τ), SemLoc.dma cc0_scratch6.sem) 0 0 := by
    rw [show ((c : Thread nD τ), SemLoc.dma cc0_scratch6.sem) = cell c .prime from rfl, payload_cell]
    dsimp only [payK]
    unfold slotPts ewPts
    rw [hset, show (Memref.whole cc0_stg2_0).view.read (Elt F) (ewB m c) = ewB m c from View.read_whole _ _,
      pointsTo_congr (g := wBuf m c) fun i hi => slotM_write m 0 e c f i hi,
      show (Memref.whole cc0_stg2_0).view.set = Finset.univ from View.set_whole _]
  have rule := Rounds.wp_copy_pointsTo (α := α) (src := Memref.whole cc0_stg2_0) (dst := slotM off hoff) (sem := .dma cc0_scratch6.sem)
    (hsrc := hsrc) (hdst := hdst) (hsem := hsem) (k := k') (Q := Q) (defs := defs₀ (F := F)) (Es := Set.univ) (Γ := .empty)
    𝒱₀ ER (ringRd m) (c : Thread nD τ) none (κ := K c .prime) (r := 0) (d := 0) (fs := ewB m c) (fd := f) (q := fullShare)
    (by rw [show ((c : Thread nD τ), SemLoc.dma cc0_scratch6.sem) = cell c .prime from rfl, duties_cell]; simp [dutiesK])
    0 NW (slotM_amount (off := off) (h := hoff) cc0_scratch6.sem)
    (by rw [show ((c : Thread nD τ), SemLoc.dma cc0_scratch6.sem) = cell c .prime from rfl, amount_cell] <;> rfl) hpay
  rw [hset, show (Memref.whole cc0_stg2_0).view.set = Finset.univ from View.set_whole _] at rule
  unfold ewPts slotPts
  iintro ⟨#HR, #Hz, He, Hs, Ht⟩
  iapply rule
  isplitr; · iapply (inv_at m K c .prime); iexact HR
  isplitl [He]; · iexact He
  isplitl [Hs]; · iexact Hs
  isplitl [Ht]; · iexact Ht
  iapply (reach_at c .prime); iexact Hz

/-! ## The reads and the own row -/

theorem load_ridx (c : Dev nD) {inb hl} {α : Type} {Q : α → sProp 𝕄}
    {k : (S2048x1.Idx → Elt F .i32) → Prog (TpuEff nD τ sig (Elt F) Λ₀ .tc) α} :
    ridxPts m c ⊢ iprop((ridxPts m c -∗ wp frame (wpE (defs₀ (F := F)) 𝒱₀ (c : Thread nD τ) none) Set.univ (k (ridxB m c)) Q)
      -∗ wp frame (wpE (defs₀ (F := F)) 𝒱₀ (c : Thread nD τ) none) Set.univ
        (.op (.load (Memref.whole cc0_stg1_0) (Rect.unit (s := S2048x1) ![0, 0] S2048x1.size inb).toLoadRect hl) k) Q) := by
  have e : (Memref.whole cc0_stg1_0).view.readAt (Elt F) (Rect.unit (s := S2048x1) ![0, 0] S2048x1.size inb).toLoadRect (ridxB m c) = ridxB m c :=
    Memref.readAt_unit_zero (Elt F) cc0_stg1_0 zero2 _ _
  have h := wp_load (defs := defs₀ (F := F)) (Name := ℕ) (U := UU) (Lvl := ℕ) (Ix := ℕ) (Γ := .empty) 𝒱₀ (c : Thread nD τ) none Set.univ (m := Memref.whole cc0_stg1_0)
    (r := (Rect.unit (s := S2048x1) ![0, 0] S2048x1.size inb).toLoadRect) (S := Finset.univ) (q := fullShare) (f := ridxB m c) (k := k) (Q := Q) (hl := hl)
    (Finset.subset_univ _)
  rw [e] at h
  exact h

theorem load_x (c : Dev nD) {inb hl} {α : Type} {Q : α → sProp 𝕄}
    {k : (S2048x512.Idx → Elt F .f32) → Prog (TpuEff nD τ sig (Elt F) Λ₀ .tc) α} :
    xPts m c ⊢ iprop((xPts m c -∗ wp frame (wpE (defs₀ (F := F)) 𝒱₀ (c : Thread nD τ) none) Set.univ (k (xB m c)) Q)
      -∗ wp frame (wpE (defs₀ (F := F)) 𝒱₀ (c : Thread nD τ) none) Set.univ
        (.op (.load (Memref.whole cc0_stg0_0) (Rect.unit (s := S2048x512) ![0, 0] S2048x512.size inb).toLoadRect hl) k) Q) := by
  have e : (Memref.whole cc0_stg0_0).view.readAt (Elt F) (Rect.unit (s := S2048x512) ![0, 0] S2048x512.size inb).toLoadRect (xB m c) = xB m c :=
    Memref.readAt_unit_zero (Elt F) cc0_stg0_0 zero2 _ _
  have h := wp_load (defs := defs₀ (F := F)) (Name := ℕ) (U := UU) (Lvl := ℕ) (Ix := ℕ) (Γ := .empty) 𝒱₀ (c : Thread nD τ) none Set.univ (m := Memref.whole cc0_stg0_0)
    (r := (Rect.unit (s := S2048x512) ![0, 0] S2048x512.size inb).toLoadRect) (S := Finset.univ) (q := fullShare) (f := xB m c) (k := k) (Q := Q) (hl := hl)
    (Finset.subset_univ _)
  rw [e] at h
  exact h

theorem load_tab (c : Dev nD) {inb hl} {α : Type} {Q : α → sProp 𝕄}
    {k : (S16x64.Idx → Elt F .i32) → Prog (TpuEff nD τ sig (Elt F) Λ₀ .tc) α} :
    tabPts m c ⊢ iprop((tabPts m c -∗ wp frame (wpE (defs₀ (F := F)) 𝒱₀ (c : Thread nD τ) none) Set.univ (k (tab m)) Q)
      -∗ wp frame (wpE (defs₀ (F := F)) 𝒱₀ (c : Thread nD τ) none) Set.univ
        (.op (.load (Memref.whole cc0_scratch0) (Rect.unit (s := S16x64) ![0, 0] S16x64.size inb).toLoadRect hl) k) Q) := by
  have e : (Memref.whole cc0_scratch0).view.readAt (Elt F) (Rect.unit (s := S16x64) ![0, 0] S16x64.size inb).toLoadRect (tab m) = tab m :=
    Memref.readAt_unit_zero (Elt F) cc0_scratch0 zero2 _ _
  have h := wp_load (defs := defs₀ (F := F)) (Name := ℕ) (U := UU) (Lvl := ℕ) (Ix := ℕ) (Γ := .empty) 𝒱₀ (c : Thread nD τ) none Set.univ (m := Memref.whole cc0_scratch0)
    (r := (Rect.unit (s := S16x64) ![0, 0] S16x64.size inb).toLoadRect) (S := Finset.univ) (q := fullShare) (f := tab m) (k := k) (Q := Q) (hl := hl)
    (Finset.subset_univ _)
  rw [e] at h
  exact h

/-- The own row: a read whose value is not used, then the write of the column sums. -/
theorem own_row (c : Dev nD) {off : Fin 2 → Nat} (e : off = ![c.val, 0]) (f : (cc0_scratch0 : Ref sig .tc).ty.Contents (Elt F)) {inb inb' hl hx hm}
    {α : Type} {Q : α → sProp 𝕄} {k : PUnit → Prog (TpuEff nD τ sig (Elt F) Λ₀ .tc) α} :
    rowPts c c f ⊢ iprop((rowPts c c (tab m) -∗ wp frame (wpE (defs₀ (F := F)) 𝒱₀ (c : Thread nD τ) none) Set.univ (k ⟨⟩) Q)
      -∗ wp frame (wpE (defs₀ (F := F)) 𝒱₀ (c : Thread nD τ) none) Set.univ
        (.op (.load (Memref.whole cc0_scratch0) (Rect.unit (s := S16x64) off S1x64.size inb).toLoadRect hl) fun _ =>
          .op (.store (Memref.whole cc0_scratch0) (Rect.unit (s := S16x64) off S1x64.size inb') (k0_pay17 (ridxB m c)) Finset.univ hx hm) k) Q) := by
  subst e
  have hin : ∀ x ∈ (Rect.unit (s := S16x64) ![c.val, 0] S1x64.size inb).set, x ∈ rowSet c := by
    intro x hx
    have h0 := (Rect.mem_set_unit.mp hx) 0
    refine (mem_rowSet c _).mpr (Fin.ext ?_)
    simp [S1x64] at h0
    omega
  have h := wp_load (defs := defs₀ (F := F)) (Name := ℕ) (U := UU) (Lvl := ℕ) (Ix := ℕ) (Γ := .empty) 𝒱₀ (c : Thread nD τ) none Set.univ (m := Memref.whole cc0_scratch0)
    (r := (Rect.unit (s := S16x64) ![c.val, 0] S1x64.size inb).toLoadRect) (S := rowSet c) (q := fullShare) (f := f)
    (k := fun _ => .op (.store (Memref.whole cc0_scratch0) (Rect.unit (s := S16x64) ![c.val, 0] S1x64.size inb') (k0_pay17 (ridxB m c)) Finset.univ hx hm) k) (Q := Q) (hl := hl)
    (by
      intro i hi
      obtain ⟨x, hx, rfl⟩ := Finset.mem_map.mp hi
      exact hin x hx)
  have h2 := wp_store (defs := defs₀ (F := F)) (Name := ℕ) (U := UU) (Lvl := ℕ) (Ix := ℕ) (Γ := .empty) 𝒱₀ (c : Thread nD τ) none Set.univ (m := Memref.whole cc0_scratch0)
    (r := Rect.unit (s := S16x64) ![c.val, 0] S1x64.size inb') (Mk := Finset.univ) (S := rowSet c) (f := f) (w := k0_pay17 (ridxB m c)) (k := k) (Q := Q) (hx := hx) (hm := hm)
    (by
      intro i hi
      obtain ⟨x, hx, rfl⟩ := Finset.mem_map.mp hi
      refine (mem_rowSet c _).mpr (Fin.ext ?_)
      show c.val + 1 * (x 0).val = c.val
      have := (x 0).isLt
      simp [S1x64] at this
      omega)
  have hw : ((((Memref.whole cc0_scratch0).access (Rect.unit (s := S16x64) ![c.val, 0] S1x64.size inb')).loc (c : Thread nD τ)) ↦[rowSet c]{fullShare}
      (((Memref.whole cc0_scratch0).access (Rect.unit (s := S16x64) ![c.val, 0] S1x64.size inb')).write (Elt F) f (k0_pay17 (ridxB m c)) Finset.univ) : sProp 𝕄)
      = (((c : Thread nD τ).loc cc0_scratch0) ↦[rowSet c]{fullShare} (tab m)) := by
    refine pointsTo_congr ?_
    intro i hi
    have hset : rowSet c = ((Memref.whole cc0_scratch0).access (Rect.unit (s := S16x64) ![c.val, 0] S1x64.size inb')).set := by
      unfold rowSet; exact (View.set_slice_whole _ _).symm
    rw [hset] at hi
    obtain ⟨x, -, rfl⟩ := Finset.mem_map.mp hi
    rw [View.write_emb_of_mem _ _ (Finset.mem_univ _)]
    have h0 : (x 0).val = 0 := by have := (x 0).isLt; simp [S1x64] at this; omega
    have e0 : (((Memref.whole cc0_scratch0).access (Rect.unit (s := S16x64) ![c.val, 0] S1x64.size inb')).emb x : S16x64.Idx) 0 = c := by
      apply Fin.ext
      show c.val + 1 * (x 0).val = c.val
      omega
    have e1 : (((Memref.whole cc0_scratch0).access (Rect.unit (s := S16x64) ![c.val, 0] S1x64.size inb')).emb x : S16x64.Idx) 1 = x 1 := by
      apply Fin.ext
      show 0 + 1 * (x 1).val = (x 1).val
      omega
    unfold tab
    rw [e0, e1]
    have hx' : ∀ y : S1x64.Idx, (y 0).val = 0 → y = ValueIdx.ix2 0 (y 1) := fun y hy =>
      funext fun a => match a with
        | ⟨0, _⟩ => Fin.ext hy
        | ⟨1, _⟩ => rfl
    exact (cast_eq _ _).trans (congrArg (k0_pay17 (F := F) (ridxB m c)) (hx' x h0))
  rw [hw] at h2
  unfold rowPts
  iintro H HK
  iapply h $$ H
  iintro H
  iapply h2 $$ H
  iexact HK

/-! ## The whole part -/

/-- What the part starts from. -/
def PrimePre (K : Dev nD → Kind → ℕ) (c : Dev nD) : sProp 𝕄 :=
  iprop(Recs m K ∗ levAts Lix lvl ∗ Reach0 ∗ (∃ f, slotPts c 0 f) ∗ ewPts m c ∗ atPos ER (cell c .prime) 0 ∅ 0
    ∗ dutyTok ER (cell c .prime) 0 0 ∗ ridxPts m c ∗ (∃ f, rowPts c c f)
    ∗ atPos ER (cell c .hs) 0 ∅ 0 ∗ atPos ER (cell c .hr) 0 ∅ 0 ∗ atPos ER (cell c .hcr) 0 ∅ 0
    ∗ (bigSep (Finset.range 15) fun j => iprop(∃ f, rowPts (nxt c) (bk c j) f))
    ∗ (bigSep (Finset.range 15) fun j => dutyTok ER (cell c .hs) j 0)
    ∗ (bigSep (Finset.range 15) fun j => dutyTok ER (cell (nxt c) .hr) j 0)
    ∗ (bigSep (Finset.range 14) fun j => dutyTok ER (cell (prv c) .hcr) j 0)
    ∗ (bigSep (Finset.range 15) fun j => cred (tallyAt (cell c .hr) j NH))
    ∗ (bigSep (Finset.range 14) fun j => cred (tallyAt (cell c .hcr) j 1))
    ∗ owed c (OH c 0 + OW c 0))

/-- What it ends with. -/
def PrimePost (c : Dev nD) : sProp 𝕄 :=
  iprop(slotPts c 0 (wBuf m c) ∗ ewPts m c ∗ atPos ER (cell c .prime) 1 ∅ 0 ∗ ridxPts m c ∗ tabPts m c
    ∗ atPos ER (cell c .hs) 15 ∅ 0 ∗ atPos ER (cell c .hr) 15 ∅ 0 ∗ atPos ER (cell c .hcr) 14 ∅ 0
    ∗ owed c (OH c 15 + OW c 0))

theorem prime_part (K : Dev nD → Kind → ℕ) (c : Dev nD) (v13 v24 : BitVec 32) (a0 h0 a3 h3 a8 a9) :
    PrimePre m K c ⊢ wp frame (wpE (defs₀ (F := F)) 𝒱₀ (c : Thread nD τ) none) Set.univ
      (k0_part7 (F := F) a0 h0 (Memref.whole cc0_stg1_0) (Memref.isWhole_whole _) (Memref.whole cc0_stg2_0) (Memref.isWhole_whole _) a3 h3
        (Memref.whole cc0_scratch0) (Memref.isWhole_whole _) (Memref.whole cc0_scratch1) (Memref.isWhole_whole _)
        cc0_scratch2 cc0_scratch3 a8 a9 cc0_scratch6 cc0_scratch7 cc0_scratch8 c (BitVec.ofNat 32 c.val) v13 v24)
      (fun r => iprop(⌜r = ⟨k0_pay15 (ridxB m c), k0_pay16 (ridxB m c), k0_pay18 (BitVec.ofNat 32 c.val) (tab m), k0_pay19 (ridxB m c),
          k0_pay20, k0_pay21 (ridxB m c)⟩⌝ ∗ PrimePost m c)) := by
  rw [k0_part7_eq_skeleton]
  unfold k0_part7_skel
  dsimp only
  simp only [Prog.lift, Prog.bind_op, Prog.bind_ret, Prog.pure_eq_ret]
  unfold PrimePre
  iintro ⟨#HR, #Hlev, #Hz, ⟨%f1, Hs0⟩, Hew, Hap, Htp, Hridx, ⟨%f0, Hrow⟩, Hahs, Hahr, Hahc, Hdst, Hths, Hthr, Hthc, Hchr, Hchc, HO⟩
  iapply (prime_copy m K c rfl f1) $$ [Hew Hs0 Htp]
  · isplitr; · iexact HR
    isplitr; · iexact Hz
    isplitl [Hew]; · iexact Hew
    isplitl [Hs0]; · iexact Hs0
    iexact Htp
  iintro Hcp
  iapply (step_dma m K c .prime 0 0 (OH c 0 + OW c 0) (by simp [dutiesK]) (by omega) (by
      have h1 := (after_OH c 0).add ((after_OW c 0).mono (show 4 * 0 + 1 ≤ 4 * 0 + 102 by omega))
      exact h1.mono (by rw [lvl_cell]; simp)) (sS := cc0_scratch6.sem) rfl (by rfl)) $$ [Hcp HO Hap]
  · isplitr; · iexact HR
    isplitr; · iexact Hlev
    isplitl [Hcp]; · iexact Hcp
    isplitl [HO]; · iexact HO
    iexact Hap
  iintro ⟨HO, Hap, -, Hp⟩
  ihave Hp := (show payK m c .prime 0 0 ⊢ iprop(slotPts c 0 (wBuf m c) ∗ ewPts m c) from .rfl) $$ Hp
  icases Hp with ⟨Hs0, Hew⟩
  iapply (load_ridx m c) $$ Hridx
  iintro Hridx
  iapply (own_row m c (off1_val c) f0) $$ Hrow
  iintro Hrow
  iapply (Scf.wp_for_bind (I := fun k _ => iprop(Recs m K ∗ levAts Lix lvl ∗ HistSt m c (OW c 0) k)) (hbody := by
    intro k acc
    iintro ⟨#HR, #Hlev, H⟩
    iapply (wp_wand_r frame (wpE (defs₀ (F := F)) 𝒱₀ (c : Thread nD τ) none) Set.univ)
    isplitl [H]
    · iapply (hist_trip m K c (OW c 0) ((after_OW c 0).mono (by omega)))
      isplitr; · iexact HR
      isplitr; · iexact Hlev
      iexact H
    iintro %_ H
    isplitr; · iexact HR
    isplitr; · iexact Hlev
    iexact H)) $$ [Hahs Hahr Hahc Hdst Hths Hthr Hthc Hchr Hchc HO Hrow]
  · isplitr; · iexact HR
    isplitr; · iexact Hlev
    unfold HistSt
    isplitl [Hahs]; · iexact Hahs
    isplitl [Hahr]; · iexact Hahr
    isplitl [Hahc]; · iexact Hahc
    isplitr; · iapply (reach_at c .hs); iexact Hz
    isplitr; · iapply (reach_at (nxt c) .hr); iexact Hz
    isplitr; · iapply (reach_at c .hcr); iexact Hz
    isplitl [Hrow]
    · iapply (Entails.of_eq (show rowPts c c (tab m) = bigSep (Finset.range (0 + 1)) fun j => rowPts c (bk c j) (tab m) by
        rw [Finset.range_one, bigSep_singleton, bk_zero]))
      iexact Hrow
    rw [← Finset.range_eq_Ico, ← Finset.range_eq_Ico]
    isplitl [Hdst]; · iexact Hdst
    isplitl [Hths]; · iexact Hths
    isplitl [Hthr]; · iexact Hthr
    isplitl [Hthc]; · iexact Hthc
    isplitl [Hchr]; · iexact Hchr
    isplitl [Hchc]; · iexact Hchc
    iexact HO
  iintro %_ ⟨-, -, H⟩
  ihave H := (show HistSt m c (OW c 0) k0_t1_loop.trips ⊢ HistSt m c (OW c 0) 15 from Entails.of_eq (by rw [trips1])) $$ H
  unfold HistSt
  icases H with ⟨Hahs, Hahr, Hahc, -, -, -, Hrows, -, -, -, -, -, -, HO⟩
  ihave Ht := (Entails.of_eq (tab_rows m c)) $$ Hrows
  iapply (load_tab m c) $$ Ht
  iintro Ht
  rw [wp_ret]
  imodintro
  isplitr; · ipureintro; rfl
  unfold PrimePost
  isplitl [Hs0]; · iexact Hs0
  isplitl [Hew]; · iexact Hew
  isplitl [Hap]; · iexact Hap
  isplitl [Hridx]; · iexact Hridx
  isplitl [Ht]; · iexact Ht
  isplitl [Hahs]; · iexact Hahs
  isplitl [Hahr]; · iexact Hahr
  isplitl [Hahc]; · iexact Hahc
  iexact HO

end Cert.Moe
-- ==== Proof.Body.lean ====
/-
  One device's kernel from its first statement to its last: what it starts from, what it ends with, and the values it
  leaves in its result window.
-/
module

public import proofs.«01_k».proof.Proof.Prime
public import proofs.«01_k».proof.Proof.WLoop

@[expose] public section

set_option maxRecDepth 16384

noncomputable section

namespace Cert.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Pipeline (Dat Cfg Window BodyObligation cellOf)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)

/-- A family over the uses of semaphores, written out. -/
theorem kind_split (Φ : Kind → sProp 𝕄) :
    bigSep (Finset.univ : Finset Kind) Φ = iprop(Φ .hs ∗ Φ .hr ∗ Φ (.ws 0) ∗ Φ (.ws 1) ∗ Φ (.wr 0) ∗ Φ (.wr 1) ∗ Φ .prime ∗ Φ .hcr ∗ Φ .wcr ∗ Φ .bar) :=
  bigSep_univ_eq_bigSepL [Kind.hs, Kind.hr, Kind.ws 0, Kind.ws 1, Kind.wr 0, Kind.wr 1, Kind.prime, Kind.hcr, Kind.wcr, Kind.bar] (by decide) (by decide) Φ

/-- A persistent resource beside a family serves every member. -/
theorem serve_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-! ## The cells at the end -/

/-- How many rounds a cell of a use runs through. -/
def total : Kind → ℕ
  | .hs => 15
  | .hr => 15
  | .ws p => 8 - p.val
  | .wr p => 7 + p.val
  | .prime => 1
  | .hcr => 14
  | .wcr => 1
  | .bar => 1

theorem duties_past (k : Kind) (r : ℕ) (h : total k ≤ r) : dutiesK k r = ∅ := by
  cases k <;> simp [dutiesK, total] at * <;> omega

theorem close_one (K : Dev nD → Kind → ℕ) (c : Dev nD) (k : Kind) :
    iprop(Recs m K ∗ atPos ER (cell c k) (total k) ∅ 0) ⊢ iprop(|={Set.univ}=> semVal (cell c k) 0) := by
  iintro ⟨#HR, H⟩
  iapply (Rounds.cell_close ER (ringRd m) (Set.mem_univ (K c k)) (fun h => h) (R := total k)
    (fun r hr => by rw [duties_cell]; exact duties_past k r hr))
  isplitr; · iapply (inv_at m K c k); iexact HR
  iexact H

/-- Every cell of a device closes: its counters are zero. -/
theorem close_all (K : Dev nD → Kind → ℕ) (c : Dev nD) :
    iprop(Recs m K ∗ bigSep (Finset.univ : Finset Kind) fun k => atPos ER (cell c k) (total k) ∅ 0)
      ⊢ iprop(|={Set.univ}=> bigSep (Finset.univ : Finset Kind) fun k => semVal (cell c k) 0) :=
  (serve_all (R := Recs m K) (fun k _ => close_one m K c k)).trans (bigSep_fupd _ _)

/-! ## The weight ring's start and end -/

/-- What the weight ring starts from. -/
def RingPre (c : Dev nD) (f : S2048x1024.Idx → Elt F .f32) : sProp 𝕄 :=
  iprop(Reach0 ∗ atPos ER (cell c (.ws 0)) 0 ∅ 0 ∗ atPos ER (cell c (.ws 1)) 0 ∅ 0 ∗ atPos ER (cell c (.wr 0)) 0 ∅ 0 ∗ atPos ER (cell c (.wr 1)) 0 ∅ 0
    ∗ atPos ER (cell c .wcr) 0 ∅ 0
    ∗ (bigSep (Finset.range 15) fun s => iprop(dutyTok ER (cell c (.ws (par s))) (s / 2) 0
        ∗ dutyTok ER (cell (nxt c) (.wr (par (s + 1)))) (s / 2) 0 ∗ writeTok ES (nxt c, par (s + 1)) (s / 2 + 1)))
    ∗ (bigSep (Finset.range 14) fun s => dutyTok ER (cell (prv c) .wcr) 0 s)
    ∗ (bigSep (Finset.range 15) fun j => cred (tallyAt (cell c (.wr (par (j + 1)))) (j + 1) NW))
    ∗ (bigSep (Finset.range 14) fun j => cred (tallyAt (cell c .wcr) j 1))
    ∗ readerAt ES (c, (0 : Fin 2)) 0 ∗ readerAt ES (c, (1 : Fin 2)) 1 ∗ released ES (c, (1 : Fin 2)) 1 ∗ released ES (nxt c, (1 : Fin 2)) 1
    ∗ slotPts c 0 (wBuf m c) ∗ owed c (OW c 0) ∗ outPts c f)

theorem ring_intro (c : Dev nD) (f : S2048x1024.Idx → Elt F .f32) : RingPre m c f ⊢ WSt m c 0 f := by
  unfold RingPre WSt RecvSt ArrSt SendSt FreeSt
  rw [two_split (p := 0) (p' := 1) rfl, two_split (p := 0) (p' := 1) rfl, two_split (p := 0) (p' := 1) rfl, show (0 - 1 : ℕ) = 0 from rfl, ← Finset.range_eq_Ico, ← Finset.range_eq_Ico, ← Finset.range_eq_Ico,
    show Finset.Ico 14 0 = ∅ from rfl, bigSep_empty, Finset.range_one, bigSep_singleton, bk_zero]
  iintro ⟨#Hz, Has0, Has1, Har0, Har1, Haw, Htok, Htw, Hcr, Hcw, Hrd0, Hrd1, #Hrel, #Hreln, Hs, HO, Hout⟩
  isplitl [Har0 Har1 Hcr]
  · isplitl [Har0 Har1]
    · isplitl [Har0]
      · isplitl [Har0]; · iexact Har0
        iapply (reach_at c (.wr 0)); iexact Hz
      · isplitl [Har1]; · iexact Har1
        iapply (reach_at c (.wr 1)); iexact Hz
    iexact Hcr
  isplitl [Hs]; · iexact Hs
  isplitl [Has0 Has1 Htok Hcw Haw]
  · isplitl [Has0 Has1]
    · isplitl [Has0]
      · isplitl [Has0]; · iexact Has0
        iapply (reach_at c (.ws 0)); iexact Hz
      · isplitl [Has1]; · iexact Has1
        iapply (reach_at c (.ws 1)); iexact Hz
    isplitl [Htok]; · iexact Htok
    isplitl [Hcw]; · iexact Hcw
    isplitl [Haw]
    · unfold wcrAt
      iexists ∅
      isplitr; · ipureintro; exact ⟨Finset.empty_subset _, Nat.zero_le _⟩
      isplitl [Haw]; · iexact Haw
      rw [bigSep_empty]
      iempintro
    isplitr; · iexact Hreln
    iapply (reach_at (nxt c) (.wr 1)); iexact Hz
  isplitl [Hrd0 Hrd1 Htw]
  · isplitl [Hrd0 Hrd1]
    · isplitl [Hrd0]
      · isplitl [Hrd0]; · iexact Hrd0
        iapply (show (iprop(emp) : sProp 𝕄) ⊢ relK c 0 0 from .rfl)
        iempintro
      · isplitl [Hrd1]; · iexact Hrd1
        iapply (show released ES (c, (1 : Fin 2)) 1 ⊢ relK (F := F) c 1 1 from .rfl)
        iexact Hrel
    isplitl [Htw]; · iexact Htw
    isplitr; · iapply (reach_at (prv c) .wcr); iexact Hz
    iempintro
  isplitl [HO]; · iexact HO
  iexact Hout

theorem keep_split (Φ : ℕ → sProp 𝕄) : bigSep (Finset.Ico 14 16) Φ = iprop(Φ 14 ∗ Φ 15) := by
  rw [show Finset.Ico 14 16 = {14, 15} from rfl, bigSep_insert (by decide), bigSep_singleton]; rfl

theorem wcr_end (K : Dev nD → Kind → ℕ) (c : Dev nD) :
    iprop(Recs m K ∗ wcrAt c 14) ⊢ iprop(|={Set.univ}=> atPos ER (cell c .wcr) 1 ∅ 0) := by
  unfold wcrAt
  iintro ⟨#HR, ⟨%T, %hT, Hat, -⟩⟩
  have hTe : T = Finset.range 14 := Finset.eq_of_subset_of_card_le hT.1 (by rw [Finset.card_range]; exact hT.2)
  subst hTe
  ihave #Hi := (inv_at m K c .wcr) $$ HR
  imod (Rounds.fupd_skip ER (ringRd m) (κ := K c .wcr) (g := cell c .wcr) (R := 0) (m := 14) (T := Finset.range 14)
    (by rw [duties_cell]; exact fun x hx => hx) (expect_wcr m c).symm (Set.mem_univ (K c .wcr))) $$ [Hat] with ⟨Hat, -⟩
  · isplitr; · iexact Hi
    iexact Hat
  imodintro
  iexact Hat

/-- What the weight ring ends with. -/
theorem ring_elim (K : Dev nD → Kind → ℕ) (c : Dev nD) (f : S2048x1024.Idx → Elt F .f32) :
    iprop(Recs m K ∗ WSt m c 16 f) ⊢ iprop(|={Set.univ}=> ((atPos ER (cell c (.ws 0)) 8 ∅ 0 ∗ atPos ER (cell c (.ws 1)) 7 ∅ 0
      ∗ atPos ER (cell c (.wr 0)) 7 ∅ 0 ∗ atPos ER (cell c (.wr 1)) 8 ∅ 0 ∗ atPos ER (cell c .wcr) 1 ∅ 0)
      ∗ (∃ h, ((c : Thread nD τ).loc cc0_scratch1) ↦{fullShare} h) ∗ owed c 0 ∗ outPts c f)) := by
  unfold WSt RecvSt SendSt FreeSt
  rw [two_split (p := 0) (p' := 1) rfl, two_split (p := 0) (p' := 1) rfl, two_split (p := 0) (p' := 1) rfl, keep_split,
    show OW c 16 = 0 from by simp [OW], show par 14 = 0 from rfl, show par 15 = 1 from rfl]
  iintro ⟨#HR, ⟨⟨⟨Har0, -⟩, ⟨Har1, -⟩⟩, -⟩, -, ⟨⟨⟨Has0, -⟩, ⟨Has1, -⟩⟩, -, -, Hw, -⟩, ⟨-, -, -, Hs0, Hs1⟩, HO, Hout⟩
  imod (wcr_end m K c) $$ [Hw] with Hw
  · isplitr; · iexact HR
    iexact Hw
  imodintro
  isplitl [Has0 Has1 Har0 Har1 Hw]
  · isplitl [Has0]; · iexact Has0
    isplitl [Has1]; · iexact Has1
    isplitl [Har0]; · iexact Har0
    isplitl [Har1]; · iexact Har1
    iexact Hw
  isplitl [Hs0 Hs1]
  · iapply (slots_join c (wBuf m (bk c 14)) (wBuf m (bk c 15)))
    isplitl [Hs0]; · iexact Hs0
    iexact Hs1
  isplitl [HO]; · iexact HO
  iexact Hout

/-! ## What a device starts from -/

/-- The tokens of the payments that device `c` makes. -/
def payToks (c : Dev nD) : sProp 𝕄 :=
  iprop((bigSep (Finset.range 15) fun j => dutyTok ER (cell c .hs) j 0)
    ∗ (bigSep (Finset.range 15) fun j => dutyTok ER (cell (nxt c) .hr) j 0)
    ∗ (bigSep (Finset.range 14) fun j => dutyTok ER (cell (prv c) .hcr) j 0)
    ∗ (bigSep (Finset.range 15) fun s => iprop(dutyTok ER (cell c (.ws (par s))) (s / 2) 0
        ∗ dutyTok ER (cell (nxt c) (.wr (par (s + 1)))) (s / 2) 0 ∗ writeTok ES (nxt c, par (s + 1)) (s / 2 + 1)))
    ∗ (bigSep (Finset.range 14) fun s => dutyTok ER (cell (prv c) .wcr) 0 s)
    ∗ dutyTok ER (cell c .prime) 0 0 ∗ dutyTok ER (cell (prv c) .bar) 0 0 ∗ dutyTok ER (cell (nxt c) .bar) 0 1)

/-- The credits of the payments that others make to device `c`. -/
def creds (c : Dev nD) : sProp 𝕄 :=
  iprop((bigSep (Finset.range 15) fun j => cred (tallyAt (cell c .hr) j NH))
    ∗ (bigSep (Finset.range 14) fun j => cred (tallyAt (cell c .hcr) j 1))
    ∗ (bigSep (Finset.range 15) fun j => cred (tallyAt (cell c (.wr (par (j + 1)))) (j + 1) NW))
    ∗ (bigSep (Finset.range 14) fun j => cred (tallyAt (cell c .wcr) j 1))
    ∗ cred (tallyAt (cell c .bar) 0 2))

/-- Device `c`'s share of the records of the run. -/
def linear (c : Dev nD) : sProp 𝕄 :=
  iprop((bigSep (Finset.univ : Finset Kind) fun k => atPos ER (cell c k) 0 ∅ 0) ∗ payToks c
    ∗ readerAt ES (c, (0 : Fin 2)) 0 ∗ readerAt ES (c, (1 : Fin 2)) 0)

/-- The scratch buffers, at some contents. -/
def scrAny (c : Dev nD) : sProp 𝕄 :=
  iprop((∃ f, ((c : Thread nD τ).loc cc0_scratch0) ↦{fullShare} f) ∗ (∃ f, ((c : Thread nD τ).loc cc0_scratch1) ↦{fullShare} f))

/-- The result that device `c` computes. -/
def outV (c : Dev nD) : S2048x1024.Idx → Elt F .f32 :=
  accW m c (k0_pay15 (ridxB m c))
    (k0_pay22 (k0_pay16 (ridxB m c)) (k0_pay18 (BitVec.ofNat 32 c.val) (tab m)) (k0_pay19 (ridxB m c)) k0_pay20 (k0_pay21 (ridxB m c)))
    (k0_pay23 (xB m c)) 16

/-- Everything a device holds when its kernel starts. -/
def BodyPre (K : Dev nD → Kind → ℕ) (J : Dev nD × Fin 2 → ℕ) (c : Dev nD) : sProp 𝕄 :=
  iprop(Recs m K ∗ levAts Lix lvl ∗ Slots J ∗ Reach0 ∗ linear c ∗ creds c ∗ scrAny c
    ∗ owed c (O₀ c) ∗ xPts m c ∗ ridxPts m c ∗ ewPts m c ∗ (∃ f, outPts c f))

/-- Everything it holds when its kernel ends. -/
def BodyPost (c : Dev nD) : sProp 𝕄 :=
  iprop((bigSep (Finset.univ : Finset Kind) fun k => semVal (cell c k) 0) ∗ scrAny c
    ∗ owed c 0 ∗ xPts m c ∗ ridxPts m c ∗ ewPts m c ∗ outPts c (outV m c))

theorem rows_apart (c : Dev nD) (f : (cc0_scratch0 : Ref sig .tc).ty.Contents (Elt F)) :
    (((c : Thread nD τ).loc cc0_scratch0) ↦{fullShare} f : sProp 𝕄)
      ⊢ iprop((∃ f, rowPts c c f) ∗ bigSep (Finset.range 15) fun j => iprop(∃ f, rowPts c (bk (prv c) j) f)) := by
  rw [rows_whole, range_shift, bk_zero]
  iintro ⟨H0, H⟩
  isplitl [H0]; · iexists f; iexact H0
  iapply (show (bigSep (Finset.range 15) fun j => rowPts c (bk c (j + 1)) f)
      ⊢ (bigSep (Finset.range 15) fun j => iprop(∃ f, rowPts c (bk (prv c) j) f) : sProp 𝕄) from
    bigSep_mono fun j _ => by
      rw [bk_prv]
      show rowPts c (bk c (j + 1)) f ⊢ iprop(∃ f, rowPts c (bk c (j + 1)) f)
      iintro H; iexists f; iexact H)
  iexact H

theorem sound_body (K : Dev nD → Kind → ℕ) (J : Dev nD × Fin 2 → ℕ) (c : Dev nD) :
    BodyPre m K J c ⊢ wp frame (wpE (defs₀ (F := F)) 𝒱₀ (c : Thread nD τ) none) Set.univ
      (cc0_body (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _)
        (Memref.whole cc0_scratch0) (Memref.isWhole_whole _) (Memref.whole cc0_scratch1) (Memref.isWhole_whole _)
        cc0_scratch2 cc0_scratch3 cc0_scratch4 cc0_scratch5 cc0_scratch6 cc0_scratch7 cc0_scratch8)
      (fun _ => BodyPost m c) := by
  rw [cc0_body_eq_skeleton]
  unfold cc0_body_skel
  unfold BodyPre linear payToks creds scrAny
  rw [kind_split]
  iintro ⟨#HR, #Hlev, #HJ, #Hz, ⟨⟨Ahs, Ahr, As0, As1, Ar0, Ar1, Ap, Ahc, Aw, Ab⟩, ⟨Ths, Thr, Thc, Tw, Twc, Tp, Tb0, Tb1⟩, Rd0, Rd1⟩,
    ⟨Chr, Chc, Cwr, Cwc, Cb⟩, ⟨⟨%f0, Hsc0⟩, ⟨%f1, Hsc1⟩⟩, HO, Hx, Hri, Hew, ⟨%fo, Hout⟩⟩
  ihave Hrows := (rows_apart c f0) $$ Hsc0
  icases Hrows with ⟨Hown, Hrows⟩
  ihave Hslots := (Entails.of_eq (slots_whole c f1)) $$ Hsc1
  icases Hslots with ⟨Hs0, Hs1⟩
  ihave Hs1 := (slotRes_intro c 1 f1) $$ Hs1
  -- the greeting
  rw [wp_bind]
  iapply (wp_wand_r frame (wpE (defs₀ (F := F)) 𝒱₀ (c : Thread nD τ) none) Set.univ)
  isplitl [Ab Tb0 Tb1 Cb Rd1 Hs1 Hrows HO]
  · iapply (greet m K J c)
    unfold GreetPre
    isplitr; · iexact HR
    isplitr; · iexact Hlev
    isplitr; · iexact HJ
    isplitr; · iexact Hz
    isplitl [Ab]; · iexact Ab
    isplitl [Tb0]; · iexact Tb0
    isplitl [Tb1]; · iexact Tb1
    isplitl [Cb]; · iexact Cb
    isplitl [Rd1]; · iexact Rd1
    isplitl [Hs1]; · iexact Hs1
    isplitl [Hrows]; · iexact Hrows
    iexact HO
  iintro %r ⟨%hr, H⟩
  obtain ⟨v13, v24, rfl⟩ := hr
  dsimp only
  unfold GreetPost
  icases H with ⟨Ab, Rd1, #Hrel, Hdst, #Hreln, HO⟩
  -- the histogram ring
  rw [wp_bind]
  iapply (wp_wand_r frame (wpE (defs₀ (F := F)) 𝒱₀ (c : Thread nD τ) none) Set.univ)
  isplitl [Hs0 Hew Ap Tp Hri Hown Ahs Ahr Ahc Hdst Ths Thr Thc Chr Chc HO]
  · iapply (prime_part m K c v13 v24)
    unfold PrimePre
    isplitr; · iexact HR
    isplitr; · iexact Hlev
    isplitr; · iexact Hz
    isplitl [Hs0]; · iexists f1; iexact Hs0
    isplitl [Hew]; · iexact Hew
    isplitl [Ap]; · iexact Ap
    isplitl [Tp]; · iexact Tp
    isplitl [Hri]; · iexact Hri
    isplitl [Hown]; · iexact Hown
    isplitl [Ahs]; · iexact Ahs
    isplitl [Ahr]; · iexact Ahr
    isplitl [Ahc]; · iexact Ahc
    isplitl [Hdst]; · iexact Hdst
    isplitl [Ths]; · iexact Ths
    isplitl [Thr]; · iexact Thr
    isplitl [Thc]; · iexact Thc
    isplitl [Chr]; · iexact Chr
    isplitl [Chc]; · iexact Chc
    iexact HO
  iintro %r ⟨%hr, H⟩
  subst hr
  dsimp only
  unfold PrimePost
  icases H with ⟨Hs0, Hew, Ap, Hri, Htab, Ahs, Ahr, Ahc, HO⟩
  ihave HO := (Entails.of_eq (show owed (F := F) c (OH c 15 + OW c 0) = owed c (OW c 0) by rw [show OH c 15 = 0 from by simp [OH], zero_add])) $$ HO
  -- the ranks, and the zero result
  rw [k0_part8_eq_skeleton]
  unfold k0_part8_skel
  simp only [Prog.lift, Prog.bind_op, Prog.bind_ret, Prog.pure_eq_ret]
  iapply (load_x m c) $$ Hx
  iintro Hx
  iapply (load_out c fo) $$ Hout
  iintro Hout
  iapply (store_out c fo k0_pay24) $$ Hout
  iintro Hout
  -- the weight ring
  iapply (Scf.wp_for_bind (I := fun k _ => iprop(Recs m K ∗ levAts Lix lvl ∗ Slots J ∗ WSt m c k
      (accW m c (k0_pay15 (ridxB m c))
        (k0_pay22 (k0_pay16 (ridxB m c)) (k0_pay18 (BitVec.ofNat 32 c.val) (tab m)) (k0_pay19 (ridxB m c)) k0_pay20 (k0_pay21 (ridxB m c)))
        (k0_pay23 (xB m c)) k))) (hbody := by
    intro k acc
    iintro ⟨#HR, #Hlev, #HJ, H⟩
    iapply (wp_wand_r frame (wpE (defs₀ (F := F)) 𝒱₀ (c : Thread nD τ) none) Set.univ)
    isplitl [H]
    · iapply (w_trip m K J c k)
      isplitr; · iexact HR
      isplitr; · iexact Hlev
      isplitr; · iexact HJ
      iexact H
    iintro %_ H
    isplitr; · iexact HR
    isplitr; · iexact Hlev
    isplitr; · iexact HJ
    iexact H)) $$ [As0 As1 Ar0 Ar1 Aw Tw Twc Cwr Cwc Rd0 Rd1 Hs0 HO Hout]
  · isplitr; · iexact HR
    isplitr; · iexact Hlev
    isplitr; · iexact HJ
    iapply (ring_intro m c k0_pay24)
    unfold RingPre
    isplitr; · iexact Hz
    isplitl [As0]; · iexact As0
    isplitl [As1]; · iexact As1
    isplitl [Ar0]; · iexact Ar0
    isplitl [Ar1]; · iexact Ar1
    isplitl [Aw]; · iexact Aw
    isplitl [Tw]; · iexact Tw
    isplitl [Twc]; · iexact Twc
    isplitl [Cwr]; · iexact Cwr
    isplitl [Cwc]; · iexact Cwc
    isplitl [Rd0]; · iexact Rd0
    isplitl [Rd1]; · iexact Rd1
    isplitr; · iexact Hrel
    isplitr; · iexact Hreln
    isplitl [Hs0]; · iexact Hs0
    isplitl [HO]; · iexact HO
    iexact Hout
  iintro %_ ⟨-, -, -, H⟩
  ihave H := (show WSt m c k0_t2_loop.trips (accW m c (k0_pay15 (ridxB m c))
        (k0_pay22 (k0_pay16 (ridxB m c)) (k0_pay18 (BitVec.ofNat 32 c.val) (tab m)) (k0_pay19 (ridxB m c)) k0_pay20 (k0_pay21 (ridxB m c)))
        (k0_pay23 (xB m c)) k0_t2_loop.trips) ⊢ WSt m c 16 (outV m c) from Entails.of_eq (by unfold outV; rw [trips2])) $$ H
  imod (ring_elim m K c (outV m c)) $$ [H] with ⟨⟨As0, As1, Ar0, Ar1, Aw⟩, Hsc1, HO, Hout⟩
  · isplitr; · iexact HR
    iexact H
  imod (close_all m K c) $$ [Ahs Ahr As0 As1 Ar0 Ar1 Ap Ahc Aw Ab] with Hv
  · isplitr; · iexact HR
    rw [kind_split]
    isplitl [Ahs]; · iexact Ahs
    isplitl [Ahr]; · iexact Ahr
    isplitl [As0]; · iexact As0
    isplitl [As1]; · iexact As1
    isplitl [Ar0]; · iexact Ar0
    isplitl [Ar1]; · iexact Ar1
    isplitl [Ap]; · iexact Ap
    isplitl [Ahc]; · iexact Ahc
    isplitl [Aw]; · iexact Aw
    iexact Ab
  rw [wp_ret]
  imodintro
  unfold BodyPost scrAny
  isplitl [Hv]; · iexact Hv
  isplitl [Htab Hsc1]
  · isplitl [Htab]; · unfold tabPts; iexists (tab m); iexact Htab
    iexact Hsc1
  isplitl [HO]; · iexact HO
  isplitl [Hx]; · iexact Hx
  isplitl [Hri]; · iexact Hri
  isplitl [Hew]; · iexact Hew
  iexact Hout

end Cert.Moe
-- ==== Proof.Deal.lean ====
/-
  Before the run: the records of the rounds are made, one invariant per cell and per slot, and every device is dealt its
  positions, its readers' records and the tokens of the payments it will make. A token minted at a cell goes to whoever
  pays there: to the left neighbour for what arrives on the ring, to the right neighbour for what frees a buffer.
-/
module

public import proofs.«01_k».proof.Proof.Body

@[expose] public section

set_option maxRecDepth 16384

noncomputable section

namespace Cert.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Pipeline (Dat Cfg Window BodyObligation cellOf)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)

/-! ## Names of cells, of tokens and of writes -/

def cellAt (x : Dev nD × Kind) : GSem nD τ sig := cell x.1 x.2
theorem cellAt_injective : Function.Injective cellAt := by
  rintro ⟨c, k⟩ ⟨c', k'⟩ h
  obtain ⟨rfl, rfl⟩ := cell_inj h
  rfl
def ringCells : Finset (GSem nD τ sig) := Finset.univ.map ⟨cellAt, cellAt_injective⟩

/-- Token number `n` of the eight kinds: its cell's use, its round, its number in the round. -/
def tokK : Fin 8 → ℕ → Kind × ℕ × ℕ
  | 0, n => (.hs, n, 0)
  | 1, n => (.hr, n, 0)
  | 2, n => (.hcr, n, 0)
  | 3, n => (.ws (par n), n / 2, 0)
  | 4, n => (.wr (par (n + 1)), n / 2, 0)
  | 5, n => (.wcr, 0, n)
  | 6, n => (.prime, n, 0)
  | 7, n => (.bar, 0, n)

/-- Where a token came from. -/
def tokBack : Kind × ℕ × ℕ → Fin 8 × ℕ
  | (.hs, a, _) => (0, a)
  | (.hr, a, _) => (1, a)
  | (.hcr, a, _) => (2, a)
  | (.ws p, a, _) => (3, 2 * a + p.val)
  | (.wr p, a, _) => (4, 2 * a + 1 - p.val)
  | (.wcr, _, b) => (5, b)
  | (.prime, a, _) => (6, a)
  | (.bar, _, b) => (7, b)

theorem tokBack_tokK (j : Fin 8) (n : ℕ) : tokBack (tokK j n) = (j, n) := by
  fin_cases j <;> simp [tokK, tokBack, par] <;> omega

def tokAt (x : Dev nD × Fin 8 × Fin 16) : GSem nD τ sig × ℕ × ℕ :=
  (cell x.1 (tokK x.2.1 x.2.2.val).1, (tokK x.2.1 x.2.2.val).2)
theorem tokAt_injective : Function.Injective tokAt := by
  rintro ⟨c, j, n⟩ ⟨c', j', n'⟩ h
  obtain ⟨rfl, hk⟩ := cell_inj (congrArg Prod.fst h)
  have h2 : tokK j n.val = tokK j' n'.val := Prod.ext hk (congrArg (fun y : GSem nD τ sig × ℕ × ℕ => y.2) h)
  have h3 := congrArg tokBack h2
  rw [tokBack_tokK, tokBack_tokK] at h3
  obtain ⟨rfl, hn⟩ := Prod.mk.inj h3
  obtain rfl := Fin.ext hn
  rfl
def ringToks : Finset (GSem nD τ sig × ℕ × ℕ) := Finset.univ.map ⟨tokAt, tokAt_injective⟩

/-- The write of step `s` by device `c`: the slot it goes to, and its number there. -/
def writeAt (x : Dev nD × Fin 15) : (Dev nD × Fin 2) × ℕ := ((nxt x.1, par (x.2.val + 1)), x.2.val / 2)
theorem writeAt_injective : Function.Injective writeAt := by
  rintro ⟨c, s⟩ ⟨c', s'⟩ h
  have h1 : nxt c = nxt c' := congrArg (fun y : (Dev nD × Fin 2) × ℕ => y.1.1) h
  have h2 : (s.val + 1) % 2 = (s'.val + 1) % 2 := congrArg (fun y : (Dev nD × Fin 2) × ℕ => y.1.2.val) h
  have h3 : s.val / 2 = s'.val / 2 := congrArg (fun y : (Dev nD × Fin 2) × ℕ => y.2) h
  have hc : c = c' := by rw [← prv_nxt c, h1, prv_nxt]
  have hs : s = s' := Fin.ext (by omega)
  rw [hc, hs]

/-- The launch's ghost state. -/
def u₀ : UU :=
  (initOf (Pipeline.cells cfgs cellOf_inj) (Pipeline.launchToks cfgs cellOf_inj), (initOf ringCells ringToks, initSlots Finset.univ 8))

/-! ## The tokens, dealt -/

/-- One turn of the ring, as a renaming of the devices. -/
def turn : Dev nD ≃ Dev nD := ⟨nxt, fun c => prv c, prv_nxt, nxt_prv⟩

/-- The tokens of a kind minted at device `c`, the first `n` of them. -/
def minted (j : Fin 8) (n : ℕ) (c : Dev nD) : sProp 𝕄 :=
  bigSep (Finset.range n) fun i => dutyTok ER (cell c (tokK j i).1) (tokK j i).2.1 (tokK j i).2.2

theorem minted_mono (j : Fin 8) {n n' : ℕ} (h : n ≤ n') (c : Dev nD) : minted (F := F) j n' c ⊢ minted j n c := by
  unfold minted
  have h1 := BI.bigSep_subset (Φ := fun i => (dutyTok ER (cell c (tokK j i).1) (tokK j i).2.1 (tokK j i).2.2 : sProp 𝕄)) (Finset.range_mono h)
  exact h1

/-- Every device's tokens of a kind, and the same dealt to the neighbour on either side. -/
theorem minted_right (j : Fin 8) (n : ℕ) :
    bigSep (Finset.univ : Finset (Dev nD)) (minted (F := F) j n) = bigSep Finset.univ fun c => minted j n (nxt c) :=
  bigSep_univ_equiv turn _
theorem minted_left (j : Fin 8) (n : ℕ) :
    bigSep (Finset.univ : Finset (Dev nD)) (minted (F := F) j n) = bigSep Finset.univ fun c => minted j n (prv c) :=
  bigSep_univ_equiv turn.symm _

theorem fin8_split (Φ : Fin 8 → sProp 𝕄) :
    bigSep (Finset.univ : Finset (Fin 8)) Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ

theorem toks_minted :
    (bigSep ringToks fun x => (dutyTok ER x.1 x.2.1 x.2.2 : sProp 𝕄)) = bigSep (Finset.univ : Finset (Dev nD)) fun c =>
      iprop(minted 0 16 c ∗ minted 1 16 c ∗ minted 2 16 c ∗ minted 3 16 c ∗ minted 4 16 c ∗ minted 5 16 c ∗ minted 6 16 c ∗ minted 7 16 c) := by
  unfold ringToks
  rw [BI.bigSep_map, bigSep_univ_prod]
  refine bigSep_congr fun c _ => ?_
  rw [bigSep_univ_prod, ← fin8_split (fun j => minted j 16 c)]
  refine bigSep_congr fun j _ => ?_
  unfold minted
  exact Ring.bigSep_fin_eq_range 16 _ _ fun t h => rfl

/-- The writes' records, dealt to the writers. -/
theorem writes_dealt :
    (bigSep ((Finset.univ : Finset (Dev nD × Fin 2)) ×ˢ Finset.range 8) fun x => (writeTok ES x.1 (x.2 + 1) : sProp 𝕄))
      ⊢ bigSep (Finset.univ : Finset (Dev nD)) fun c => bigSep (Finset.range 15) fun s => writeTok ES (nxt c, par (s + 1)) (s / 2 + 1) := by
  have hsub : Finset.univ.map ⟨writeAt, writeAt_injective⟩ ⊆ (Finset.univ : Finset (Dev nD × Fin 2)) ×ˢ Finset.range 8 := by
    intro y hy
    obtain ⟨x, -, rfl⟩ := Finset.mem_map.mp hy
    refine Finset.mem_product.mpr ⟨Finset.mem_univ _, Finset.mem_range.mpr ?_⟩
    show x.2.val / 2 < 8
    omega
  have h1 := BI.bigSep_subset (Φ := fun x : (Dev nD × Fin 2) × ℕ => (writeTok ES x.1 (x.2 + 1) : sProp 𝕄)) hsub
  have h2 : (bigSep (Finset.univ.map ⟨writeAt, writeAt_injective⟩) fun x => (writeTok ES x.1 (x.2 + 1) : sProp 𝕄))
      = bigSep (Finset.univ : Finset (Dev nD)) fun c => bigSep (Finset.range 15) fun s => writeTok ES (nxt c, par (s + 1)) (s / 2 + 1) := by
    rw [BI.bigSep_map, bigSep_univ_prod]
    refine bigSep_congr fun c _ => ?_
    exact Ring.bigSep_fin_eq_range 15 _ _ fun t h => rfl
  rw [h2] at h1
  exact h1

/-- Devices' shares, apart. -/
theorem dev_sep (Φ Ψ : Dev nD → sProp 𝕄) :
    (bigSep (Finset.univ : Finset (Dev nD)) fun c => iprop(Φ c ∗ Ψ c)) = iprop(bigSep Finset.univ Φ ∗ bigSep Finset.univ Ψ) :=
  bigSep_sep' _ _ _

/-- A barrier's token. -/
def greets (i : ℕ) (c : Dev nD) : sProp 𝕄 := dutyTok ER (cell c .bar) 0 i
theorem greets_right (i : ℕ) : bigSep (Finset.univ : Finset (Dev nD)) (greets (F := F) i) = bigSep Finset.univ fun c => greets i (nxt c) :=
  bigSep_univ_equiv turn _
theorem greets_left (i : ℕ) : bigSep (Finset.univ : Finset (Dev nD)) (greets (F := F) i) = bigSep Finset.univ fun c => greets i (prv c) :=
  bigSep_univ_equiv turn.symm _

theorem minted_bar (c : Dev nD) : minted (F := F) 7 2 c = iprop(greets 0 c ∗ greets 1 c) := by
  unfold minted greets
  rw [show Finset.range 2 = {0, 1} from rfl, bigSep_insert (by decide), bigSep_singleton]; rfl
theorem minted_prime (c : Dev nD) : minted (F := F) 6 1 c = dutyTok ER (cell c .prime) 0 0 := by
  unfold minted
  rw [Finset.range_one, bigSep_singleton]; rfl

theorem minted_trim (c : Dev nD) :
    iprop(minted (F := F) 0 16 c ∗ minted 1 16 c ∗ minted 2 16 c ∗ minted 3 16 c ∗ minted 4 16 c ∗ minted 5 16 c ∗ minted 6 16 c ∗ minted 7 16 c)
      ⊢ iprop(minted (F := F) 0 15 c ∗ minted 1 15 c ∗ minted 2 14 c ∗ minted 3 15 c ∗ minted 4 15 c ∗ minted 5 14 c ∗ minted 6 1 c
        ∗ greets 0 c ∗ greets 1 c) := by
  rw [← minted_bar]
  iintro ⟨H0, H1, H2, H3, H4, H5, H6, H7⟩
  isplitl [H0]; · iapply (minted_mono 0 (show 15 ≤ 16 by omega) c); iexact H0
  isplitl [H1]; · iapply (minted_mono 1 (show 15 ≤ 16 by omega) c); iexact H1
  isplitl [H2]; · iapply (minted_mono 2 (show 14 ≤ 16 by omega) c); iexact H2
  isplitl [H3]; · iapply (minted_mono 3 (show 15 ≤ 16 by omega) c); iexact H3
  isplitl [H4]; · iapply (minted_mono 4 (show 15 ≤ 16 by omega) c); iexact H4
  isplitl [H5]; · iapply (minted_mono 5 (show 14 ≤ 16 by omega) c); iexact H5
  isplitl [H6]; · iapply (minted_mono 6 (show 1 ≤ 16 by omega) c); iexact H6
  iapply (minted_mono 7 (show 2 ≤ 16 by omega) c); iexact H7

/-- A device's payments, from the tokens dealt to it. -/
theorem payToks_eq (c : Dev nD) :
    payToks (F := F) c = iprop(minted 0 15 c ∗ minted 1 15 (nxt c) ∗ minted 2 14 (prv c)
      ∗ (minted 3 15 c ∗ minted 4 15 (nxt c) ∗ bigSep (Finset.range 15) fun s => writeTok ES (nxt c, par (s + 1)) (s / 2 + 1))
      ∗ minted 5 14 (prv c) ∗ minted 6 1 c ∗ greets 0 (prv c) ∗ greets 1 (nxt c)) := by
  rw [minted_prime]
  unfold payToks minted greets
  rw [bigSep_sep', bigSep_sep']
  rfl

/-- All tokens and writes' records, dealt to whoever pays and writes. -/
theorem pay_dealt :
    iprop((bigSep (Finset.univ : Finset (Dev nD)) fun c =>
        iprop(minted (F := F) 0 16 c ∗ minted 1 16 c ∗ minted 2 16 c ∗ minted 3 16 c ∗ minted 4 16 c ∗ minted 5 16 c ∗ minted 6 16 c ∗ minted 7 16 c))
      ∗ bigSep (Finset.univ : Finset (Dev nD)) fun c => bigSep (Finset.range 15) fun s => writeTok ES (nxt c, par (s + 1)) (s / 2 + 1))
      ⊢ bigSep (Finset.univ : Finset (Dev nD)) payToks := by
  have hpay : bigSep (Finset.univ : Finset (Dev nD)) (payToks (F := F)) = iprop(bigSep Finset.univ (minted 0 15) ∗ bigSep Finset.univ (minted 1 15)
      ∗ bigSep Finset.univ (minted 2 14)
      ∗ (bigSep Finset.univ (minted 3 15) ∗ bigSep Finset.univ (minted 4 15)
        ∗ bigSep Finset.univ fun c : Dev nD => bigSep (Finset.range 15) fun s => writeTok ES (nxt c, par (s + 1)) (s / 2 + 1))
      ∗ bigSep Finset.univ (minted 5 14) ∗ bigSep Finset.univ (minted 6 1) ∗ bigSep Finset.univ (greets 0) ∗ bigSep Finset.univ (greets 1)) := by
    rw [bigSep_congr (s := (Finset.univ : Finset (Dev nD))) fun c _ => payToks_eq c]
    rw [dev_sep, dev_sep, dev_sep, dev_sep, dev_sep, dev_sep, dev_sep, dev_sep, dev_sep]
    rw [← minted_right 1 15, ← minted_left 2 14, ← minted_right 4 15, ← minted_left 5 14, ← greets_left 0, ← greets_right 1]
  have hcut : (bigSep (Finset.univ : Finset (Dev nD)) fun c =>
        iprop(minted (F := F) 0 15 c ∗ minted 1 15 c ∗ minted 2 14 c ∗ minted 3 15 c ∗ minted 4 15 c ∗ minted 5 14 c ∗ minted 6 1 c
          ∗ greets 0 c ∗ greets 1 c))
      = iprop(bigSep Finset.univ (minted 0 15) ∗ bigSep Finset.univ (minted 1 15) ∗ bigSep Finset.univ (minted 2 14) ∗ bigSep Finset.univ (minted 3 15)
        ∗ bigSep Finset.univ (minted 4 15) ∗ bigSep Finset.univ (minted 5 14) ∗ bigSep Finset.univ (minted 6 1)
        ∗ bigSep Finset.univ (greets 0) ∗ bigSep Finset.univ (greets 1)) := by
    rw [dev_sep, dev_sep, dev_sep, dev_sep, dev_sep, dev_sep, dev_sep, dev_sep]
  rw [hpay]
  iintro ⟨H, Hw⟩
  ihave H := (show (bigSep (Finset.univ : Finset (Dev nD)) fun c =>
        iprop(minted (F := F) 0 16 c ∗ minted 1 16 c ∗ minted 2 16 c ∗ minted 3 16 c ∗ minted 4 16 c ∗ minted 5 16 c ∗ minted 6 16 c ∗ minted 7 16 c))
      ⊢ iprop(bigSep Finset.univ (minted 0 15) ∗ bigSep Finset.univ (minted 1 15) ∗ bigSep Finset.univ (minted 2 14) ∗ bigSep Finset.univ (minted 3 15)
        ∗ bigSep Finset.univ (minted 4 15) ∗ bigSep Finset.univ (minted 5 14) ∗ bigSep Finset.univ (minted 6 1)
        ∗ bigSep Finset.univ (greets 0) ∗ bigSep Finset.univ (greets 1)) from
    (bigSep_mono fun c _ => minted_trim c).trans (Entails.of_eq hcut)) $$ H
  icases H with ⟨H0, H1, H2, H3, H4, H5, H6, H7, H8⟩
  isplitl [H0]; · iexact H0
  isplitl [H1]; · iexact H1
  isplitl [H2]; · iexact H2
  isplitl [H3 H4 Hw]
  · isplitl [H3]; · iexact H3
    isplitl [H4]; · iexact H4
    iexact Hw
  isplitl [H5]; · iexact H5
  isplitl [H6]; · iexact H6
  isplitl [H7]; · iexact H7
  iexact H8

/-! ## The records made -/

/-- What a device is dealt before the semaphores' counters are known to be zero. -/
def G (c : Dev nD) : sProp 𝕄 :=
  iprop((bigSep (Finset.univ : Finset Kind) fun k => roundState ER (ringRd m) (cell c k) 0) ∗ linear c ∗ Reach0 ∗ (∃ J, Slots J))

/-- What it holds once every cell stands under its invariant. -/
def G' (c : Dev nD) : sProp 𝕄 := iprop(∃ K J, Recs m K ∗ Slots J ∗ Reach0 ∗ linear c)

theorem cells_kinds (Φ : GSem nD τ sig → sProp 𝕄) :
    bigSep ringCells Φ = bigSep (Finset.univ : Finset (Dev nD)) fun c => bigSep (Finset.univ : Finset Kind) fun k => Φ (cell c k) := by
  unfold ringCells; rw [BI.bigSep_map, bigSep_univ_prod]; rfl

theorem readers_split :
    (bigSep (Finset.univ : Finset (Dev nD × Fin 2)) fun x => (readerAt ES x 0 : sProp 𝕄))
      = bigSep (Finset.univ : Finset (Dev nD)) fun c => iprop(readerAt ES (c, (0 : Fin 2)) 0 ∗ readerAt ES (c, (1 : Fin 2)) 0) := by
  rw [bigSep_univ_prod]
  exact bigSep_congr fun c _ => two_split (p := 0) (p' := 1) rfl _

theorem fund : iprop(BI.own (ER (initOf ringCells ringToks)) ∗ BI.own (ES (initSlots Finset.univ 8)))
    ⊢ (|={Set.univ}=> bigSep (Finset.univ : Finset (Dev nD)) (G m) : sProp 𝕄) := by
  iintro ⟨HX, HS⟩
  imod (Rounds.fund ER (ringRd m) ringCells ringToks) $$ HX with ⟨Hst, Hr, Hat, Htok⟩
  imod (slots_init (Es := Set.univ) ES (Finset.univ : Finset (Dev nD × Fin 2)) 8 (slotRes (F := F)) ∅) $$ HS with ⟨%J, -, HJ, Hrd, Hw⟩
  imodintro
  ihave Hst := (Entails.of_eq (cells_kinds fun g => roundState ER (ringRd m) g 0)) $$ Hst
  ihave Hat := (Entails.of_eq (cells_kinds (F := F) fun g => atPos ER g 0 ∅ 0)) $$ Hat
  ihave #Hr := (show (bigSep ringCells fun g => (reached ER g 0 : sProp 𝕄)) ⊢ Reach0 from Entails.of_eq (by
    unfold ringCells Reach0; rw [BI.bigSep_map]; rfl)) $$ Hr
  ihave #HJ := (show (bigSep Finset.univ fun k => slotInv ES (J k) k (slotRes (F := F) k)) ⊢ (iprop(∃ J, Slots J) : sProp 𝕄) from by
    iintro H; iexists J; iapply (Entails.of_eq (show (bigSep Finset.univ fun k => slotInv ES (J k) k (slotRes (F := F) k)) = Slots J from rfl)); iexact H) $$ HJ
  ihave Htok := (Entails.of_eq (toks_minted (F := F))) $$ Htok
  ihave Hw := (writes_dealt (F := F)) $$ Hw
  ihave Hrd := (Entails.of_eq (readers_split (F := F))) $$ Hrd
  ihave Hpay := (pay_dealt (F := F)) $$ [Htok Hw]
  · isplitl [Htok]; · iexact Htok
    iexact Hw
  iapply (serve_all (R := iprop(Reach0 ∗ ∃ J, Slots (F := F) J)) (S := (Finset.univ : Finset (Dev nD)))
    (Φ := fun c => iprop((bigSep (Finset.univ : Finset Kind) fun k => roundState ER (ringRd m) (cell c k) 0) ∗ linear c))
    (Ψ := G m) (fun c _ => by
      unfold G
      iintro ⟨⟨#Hr, #HJ⟩, Hst, Hl⟩
      isplitl [Hst]; · iexact Hst
      isplitl [Hl]; · iexact Hl
      isplitr; · iexact Hr
      iexact HJ))
  isplitr
  · isplitr; · iexact Hr
    iexact HJ
  iapply (show iprop((bigSep (Finset.univ : Finset (Dev nD)) fun c => bigSep (Finset.univ : Finset Kind) fun k => roundState ER (ringRd m) (cell c k) 0)
      ∗ (bigSep (Finset.univ : Finset (Dev nD)) fun c => bigSep (Finset.univ : Finset Kind) fun k => atPos ER (cell c k) 0 ∅ 0)
      ∗ bigSep (Finset.univ : Finset (Dev nD)) payToks
      ∗ bigSep (Finset.univ : Finset (Dev nD)) fun c => iprop(readerAt ES (c, (0 : Fin 2)) 0 ∗ readerAt ES (c, (1 : Fin 2)) 0))
      ⊢ bigSep (Finset.univ : Finset (Dev nD)) fun c =>
        iprop((bigSep (Finset.univ : Finset Kind) fun k => roundState ER (ringRd m) (cell c k) 0) ∗ linear c) from
    Entails.of_eq (by unfold linear; rw [dev_sep, dev_sep, dev_sep, dev_sep, dev_sep]))
  isplitl [Hst]; · iexact Hst
  isplitl [Hat]; · iexact Hat
  isplitl [Hpay]; · iexact Hpay
  iexact Hrd

/-- Every cell of a device under an invariant. -/
theorem cells_alloc (c : Dev nD) :
    iprop((bigSep (Finset.univ : Finset Kind) fun k => semVal (cell c k) 0)
        ∗ bigSep (Finset.univ : Finset Kind) fun k => roundState ER (ringRd m) (cell c k) 0)
      ⊢ (|={Set.univ}=> bigSep (Finset.univ : Finset Kind) fun k => iprop(∃ κ : ℕ, cellInv ER (ringRd m) κ (cell c k)) : sProp 𝕄) := by
  rw [← bigSep_sep']
  exact (bigSep_mono fun k _ => (Rounds.body_intro ER (ringRd m) (cell c k)).trans inv_alloc).trans (bigSep_fupd _ _)

theorem recs_intro :
    (bigSep (Finset.univ : Finset (Dev nD)) fun c => bigSep (Finset.univ : Finset Kind) fun k => iprop(∃ κ : ℕ, cellInv ER (ringRd m) κ (cell c k)))
      ⊢ (iprop(∃ K, Recs m K) : sProp 𝕄) := by
  rw [← bigSep_univ_prod (fun x : Dev nD × Kind => iprop(∃ κ : ℕ, cellInv ER (ringRd m) κ (cell x.1 x.2)))]
  iintro H
  ihave H := (BI.bigSep_exists_pi Finset.univ (fun (x : Dev nD × Kind) (κ : ℕ) => (cellInv ER (ringRd m) κ (cell x.1 x.2) : sProp 𝕄))) $$ H
  icases H with ⟨%K, H⟩
  iexists fun c k => K (c, k)
  iapply (show (bigSep Finset.univ fun x : Dev nD × Kind => (cellInv ER (ringRd m) (K x) (cell x.1 x.2) : sProp 𝕄)) ⊢ Recs m (fun c k => K (c, k)) from
    Entails.of_eq (by
      unfold Recs
      rw [bigSep_univ_prod]
      exact bigSep_congr fun c _ => kind_split _))
  iexact H

/-- The step of all devices at once: with their counters at zero, every cell comes under its invariant. -/
theorem glob_of (V : Dev nD → sProp 𝕄) (hV : ∀ c, V c ⊢ bigSep (Finset.univ : Finset Kind) fun k => semVal (cell c k) 0) :
    (bigSep (Finset.univ : Finset (Dev nD)) fun c => iprop(V c ∗ G m c)) ⊢ (|={Set.univ}=> bigSep (Finset.univ : Finset (Dev nD)) (G' m) : sProp 𝕄) := by
  have h1 : ∀ c : Dev nD, iprop(V c ∗ G m c) ⊢ (|={Set.univ}=> iprop((bigSep (Finset.univ : Finset Kind) fun k => iprop(∃ κ : ℕ, cellInv ER (ringRd m) κ (cell c k)))
      ∗ (linear c ∗ Reach0 ∗ (∃ J, Slots J))) : sProp 𝕄) := by
    intro c
    unfold G
    iintro ⟨Hv, Hst, Hl⟩
    ihave Hv := (hV c) $$ Hv
    imod (cells_alloc m c) $$ [Hv Hst] with Hi
    · isplitl [Hv]; · iexact Hv
      iexact Hst
    imodintro
    isplitl [Hi]; · iexact Hi
    iexact Hl
  iintro H
  imod (show (bigSep (Finset.univ : Finset (Dev nD)) fun c => iprop(V c ∗ G m c)) ⊢ (|={Set.univ}=> iprop((bigSep (Finset.univ : Finset (Dev nD)) fun c =>
        bigSep (Finset.univ : Finset Kind) fun k => iprop(∃ κ : ℕ, cellInv ER (ringRd m) κ (cell c k)))
      ∗ bigSep (Finset.univ : Finset (Dev nD)) fun c => iprop(linear c ∗ Reach0 ∗ (∃ J, Slots J))) : sProp 𝕄) from by
    rw [← dev_sep]
    exact (bigSep_mono fun c _ => h1 c).trans (bigSep_fupd _ _)) $$ H with ⟨Hi, Hl⟩
  imodintro
  ihave #Hi := (recs_intro m) $$ Hi
  iapply (serve_all (R := iprop(∃ K, Recs m K)) (S := (Finset.univ : Finset (Dev nD)))
    (Φ := fun c => iprop(linear c ∗ Reach0 ∗ (∃ J, Slots J))) (Ψ := G' m) (fun c _ => by
      unfold G'
      iintro ⟨⟨%K, #HR⟩, Hl, #Hr, ⟨%J, #HJ⟩⟩
      iexists K; iexists J
      isplitr; · iexact HR
      isplitr; · iexact HJ
      isplitr; · iexact Hr
      iexact Hl))
  isplitr; · iexact Hi
  iexact Hl

/-! ## The credits of the launch -/

theorem credit_right (k : Kind) (ι n : ℕ) (c : Dev nD) :
    (Pipeline.launchCred (fun d => tallyAt (cell (nxt d) k) ι n) c : sProp 𝕄) ⊢ cred (tallyAt (cell c k) ι n) :=
  Pipeline.launchCred_tallyAt (semOf k) nxt (fun d => prv d) nxt_prv prv_nxt ι n c
theorem credit_left (k : Kind) (ι n : ℕ) (c : Dev nD) :
    (Pipeline.launchCred (fun d => tallyAt (cell (prv d) k) ι n) c : sProp 𝕄) ⊢ cred (tallyAt (cell c k) ι n) :=
  Pipeline.launchCred_tallyAt (semOf k) (fun d => prv d) nxt prv_nxt nxt_prv ι n c

theorem creds_intro (c : Dev nD) : (Pipeline.launchCred O₀ c : sProp 𝕄) ⊢ creds c := by
  have e : (Pipeline.launchCred O₀ c : sProp 𝕄) = iprop(((((bigSep (Finset.range 15) fun j => Pipeline.launchCred (fun d => tallyAt (cell (nxt d) .hr) j NH) c)
        ∗ bigSep (Finset.range 14) fun j => Pipeline.launchCred (fun d => tallyAt (cell (prv d) .hcr) j 1) c)
      ∗ ((bigSep (Finset.range 15) fun j => Pipeline.launchCred (fun d => tallyAt (cell (nxt d) (.wr (par (j + 1)))) (j + 1) NW) c)
        ∗ bigSep (Finset.range 14) fun j => Pipeline.launchCred (fun d => tallyAt (cell (prv d) .wcr) j 1) c))
      ∗ Pipeline.launchCred (fun d => tallyAt (cell (nxt d) .bar) 0 1) c)
      ∗ Pipeline.launchCred (fun d => tallyAt (cell (prv d) .bar) 0 1) c) := by
    rw [← Pipeline.launchCred_sum, ← Pipeline.launchCred_sum, ← Pipeline.launchCred_sum, ← Pipeline.launchCred_sum,
      ← Pipeline.launchCred_add, ← Pipeline.launchCred_add, ← Pipeline.launchCred_add, ← Pipeline.launchCred_add, ← Pipeline.launchCred_add]
    refine congrArg (fun O => (Pipeline.launchCred O c : sProp 𝕄)) (funext fun d => ?_)
    unfold O₀ OH OW
    rw [← Finset.range_eq_Ico, ← Finset.range_eq_Ico]
  rw [e]
  unfold creds
  iintro ⟨⟨⟨⟨H0, H1⟩, ⟨H2, H3⟩⟩, H4⟩, H5⟩
  ihave H4 := (credit_right .bar 0 1 c) $$ H4
  ihave H5 := (credit_left .bar 0 1 c) $$ H5
  isplitl [H0]
  · iapply (show (bigSep (Finset.range 15) fun j => Pipeline.launchCred (fun d => tallyAt (cell (nxt d) .hr) j NH) c)
      ⊢ (bigSep (Finset.range 15) fun j => cred (tallyAt (cell c .hr) j NH) : sProp 𝕄) from bigSep_mono fun j _ => credit_right .hr j NH c)
    iexact H0
  isplitl [H1]
  · iapply (show (bigSep (Finset.range 14) fun j => Pipeline.launchCred (fun d => tallyAt (cell (prv d) .hcr) j 1) c)
      ⊢ (bigSep (Finset.range 14) fun j => cred (tallyAt (cell c .hcr) j 1) : sProp 𝕄) from bigSep_mono fun j _ => credit_left .hcr j 1 c)
    iexact H1
  isplitl [H2]
  · iapply (show (bigSep (Finset.range 15) fun j => Pipeline.launchCred (fun d => tallyAt (cell (nxt d) (.wr (par (j + 1)))) (j + 1) NW) c)
      ⊢ (bigSep (Finset.range 15) fun j => cred (tallyAt (cell c (.wr (par (j + 1)))) (j + 1) NW) : sProp 𝕄) from
        bigSep_mono fun j _ => credit_right (.wr (par (j + 1))) (j + 1) NW c)
    iexact H2
  isplitl [H3]
  · iapply (show (bigSep (Finset.range 14) fun j => Pipeline.launchCred (fun d => tallyAt (cell (prv d) .wcr) j 1) c)
      ⊢ (bigSep (Finset.range 14) fun j => cred (tallyAt (cell c .wcr) j 1) : sProp 𝕄) from bigSep_mono fun j _ => credit_left .wcr j 1 c)
    iexact H3
  iapply (show iprop(cred (tallyAt (cell c .bar) 0 1) ∗ cred (tallyAt (cell c .bar) 0 1)) ⊢ (cred (tallyAt (cell c .bar) 0 2) : sProp 𝕄) from by
    rw [show (tallyAt (cell c .bar) 0 2 : CellTallies nD τ sig ℕ) = tallyAt (cell c .bar) 0 1 + tallyAt (cell c .bar) 0 1 from by rw [tallyAt_add]]
    exact (cred_add _ _).2)
  isplitl [H4]; · iexact H4
  iexact H5

end Cert.Moe
-- ==== Proof.Run.lean ====
/-
  The whole run: the kernel's windows as the pipeline stages them, the body of the one point under them, and the launch
  on all sixteen devices. `run_main` says how memory and semaphores stand at the end.
-/
module

public import proofs.«01_k».proof.Proof.Deal
public import Idealize.ShloMosaic.Lib.Pipeline.CollectiveSegs

@[expose] public section

set_option maxRecDepth 16384

noncomputable section

namespace Cert.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Pipeline (Dat Cfg Window BodyObligation cellOf)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg)

/-! ## The semaphores by name -/

/-- The kernel's own semaphores: every use but the barrier. -/
def ownKind : Fin 9 → Kind
  | 0 => .hs | 1 => .hr | 2 => .ws 0 | 3 => .ws 1 | 4 => .wr 0 | 5 => .wr 1 | 6 => .prime | 7 => .hcr | 8 => .wcr
def osem (i : Fin 9) : SemLoc sig := semOf (ownKind i)

theorem ownSemFacts : Pipeline.OwnSemFacts cfg0.spec osem := by decide +kernel

theorem ownSems0_eq (c : Dev nD) : (Pipeline.ownSems0 (Ix := ℕ) (Name := ℕ) (U := UU) (Lvl := ℕ) (Val := Elt F) (τ := τ) osem c : sProp 𝕄)
    = iprop(semVal (cell c .hs) 0 ∗ semVal (cell c .hr) 0 ∗ semVal (cell c (.ws 0)) 0 ∗ semVal (cell c (.ws 1)) 0 ∗ semVal (cell c (.wr 0)) 0
      ∗ semVal (cell c (.wr 1)) 0 ∗ semVal (cell c .prime) 0 ∗ semVal (cell c .hcr) 0 ∗ semVal (cell c .wcr) 0) := by
  rw [Pipeline.ownSems0_eq_of_list c osem [0, 1, 2, 3, 4, 5, 6, 7, 8] (by decide) (by decide)]; rfl

theorem unscopedSems0_eq (c : Dev nD) : (unscopedSems0 c : sProp 𝕄) = semVal (cell c .bar) 0 := by
  unfold unscopedSems0; rw [bigSep_eq_bigSepL_of_eq [semOf .bar] (by decide) (by decide)]; rfl

/-- All ten counters of a device, as the launch deals them. -/
theorem sems_eq (c : Dev nD) :
    iprop(Pipeline.ownSems0 (Ix := ℕ) (Name := ℕ) (U := UU) (Lvl := ℕ) (Val := Elt F) (τ := τ) osem c ∗ unscopedSems0 c)
      ⊢ (bigSep (Finset.univ : Finset Kind) fun k => semVal (cell c k) 0 : sProp 𝕄) := by
  rw [ownSems0_eq, unscopedSems0_eq, kind_split]
  iintro ⟨⟨H0, H1, H2, H3, H4, H5, H6, H7, H8⟩, H9⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The same, handed back. -/
theorem sems_back (c : Dev nD) :
    (bigSep (Finset.univ : Finset Kind) fun k => semVal (cell c k) 0 : sProp 𝕄)
      ⊢ iprop(unscopedSems0 c ∗ Pipeline.ownSems0 (Ix := ℕ) (Name := ℕ) (U := UU) (Lvl := ℕ) (Val := Elt F) (τ := τ) osem c) := by
  rw [ownSems0_eq, unscopedSems0_eq, kind_split]
  iintro ⟨H0, H1, H2, H3, H4, H5, H6, H7, H8, H9⟩
  isplitl [H9]; · iexact H9
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-! ## The pipeline's data -/

/-- Held by a device at the region's entry, beside its scratch buffers. -/
def Entry (c : Dev nD) : sProp 𝕄 := iprop(levAts Lix lvl ∗ creds c ∗ G' m c)
/-- Held by a device at the region's end: its counters at zero, and its scratch buffers. -/
def Exit (c : Dev nD) : sProp 𝕄 := iprop((bigSep (Finset.univ : Finset Kind) fun k => semVal (cell c k) 0) ∗ scrAny c)

/-- The windows' contents, what the body carries, and what a device owes: everything at the entry, nothing at the end. -/
def dats (_ : Fin 1) (c : Dev nD) : Dat τ (Elt F) ℕ ℕ UU ℕ cfg0 c where
  A w := m ((cfg0.win w).arr.view.loc (c : Thread nD τ))
  after w _ := match w with
    | ⟨0, _⟩ => xB m c
    | ⟨1, _⟩ => ridxB m c
    | ⟨2, _⟩ => ewB m c
    | ⟨3, _⟩ => outV m c
  Φ t := match t with
    | ⟨0, _⟩ => iprop(Entry m c ∗ scrAny c)
    | ⟨_ + 1, _⟩ => Exit c
  q _ := fullShare
  owed t := match t with
    | ⟨0, _⟩ => O₀ c
    | ⟨_ + 1, _⟩ => 0

theorem share_eq (c : Dev nD) (w : Fin cfg0.W) : (dats m 0 c).share w = fullShare := by unfold Dat.share; split <;> rfl

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at given contents. -/
def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem before_x (c : Dev nD) (d) : (dats m 0 c).before (0 : Fin 4) t0_0 d = xB m c := by
  unfold Dat.before; rw [if_pos (fetch0_0 t0_0)]; rfl
theorem before_ridx (c : Dev nD) (d) : (dats m 0 c).before (1 : Fin 4) t0_0 d = ridxB m c := by
  unfold Dat.before; rw [if_pos (fetch0_1 t0_0)]; rfl
theorem before_ew (c : Dev nD) (d) : (dats m 0 c).before (2 : Fin 4) t0_0 d = ewB m c := by
  unfold Dat.before; rw [if_pos (fetch0_2 t0_0)]; rfl

def PointPre (c : Dev nD) : sProp 𝕄 :=
  iprop((Entry m c ∗ scrAny c) ∗ (dats m 0 c).owesAt 0 t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))

def PointPost (c : Dev nD) : sProp 𝕄 :=
  iprop(Exit c ∗ (dats m 0 c).owesAt 0 t0_0.succ
    ∗ stg c cc0_stg0_0 (xB m c) ∗ stg c cc0_stg1_0 (ridxB m c) ∗ stg c cc0_stg2_0 (ewB m c) ∗ stg c cc0_stg3_0 (outV m c))

theorem point (c : Dev nD) :
    PointPre m c ⊢ wp frame (wpE (defs₀ (F := F)) 𝒱₀ (c : Thread nD τ) none) Set.univ
      (cc0_body (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _)
        (Memref.whole cc0_scratch0) (Memref.isWhole_whole _) (Memref.whole cc0_scratch1) (Memref.isWhole_whole _)
        cc0_scratch2 cc0_scratch3 cc0_scratch4 cc0_scratch5 cc0_scratch6 cc0_scratch7 cc0_scratch8)
      (fun _ => PointPost m c) := by
  unfold PointPre Entry G'
  iintro ⟨⟨⟨Hlev, Hcr, ⟨%K, %J, HR, HJ, Hz, Hl⟩⟩, Hscr⟩, Ho, ⟨%d0, H0⟩, ⟨%d1, H1⟩, ⟨%d2, H2⟩, ⟨%d3, H3⟩⟩
  ihave H0 := (Entails.of_eq (congrArg (stg (F := F) c cc0_stg0_0) (before_x m c d0))) $$ H0
  ihave H1 := (Entails.of_eq (congrArg (stg (F := F) c cc0_stg1_0) (before_ridx m c d1))) $$ H1
  ihave H2 := (Entails.of_eq (congrArg (stg (F := F) c cc0_stg2_0) (before_ew m c d2))) $$ H2
  unfold stg
  icases H0 with ⟨%f0, %e0, H0⟩
  icases H1 with ⟨%f1, %e1, H1⟩
  icases H2 with ⟨%f2, %e2, H2⟩
  icases H3 with ⟨%f3, -, H3⟩
  subst e0 e1 e2
  ihave Ho := (show (dats m 0 c).owesAt 0 t0_0.castSucc ⊢ owed c (O₀ c) from by
    unfold Dat.owesAt Pipeline.owesWithin owed
    iintro ⟨%W, -, HO⟩
    iexists W; iexact HO) $$ Ho
  iapply (wp_wand_r frame (wpE (defs₀ (F := F)) 𝒱₀ (c : Thread nD τ) none) Set.univ)
  isplitr []
  · iapply (sound_body m K J c)
    unfold BodyPre
    isplitl [HR]; · iexact HR
    isplitl [Hlev]; · iexact Hlev
    isplitl [HJ]; · iexact HJ
    isplitl [Hz]; · iexact Hz
    isplitl [Hl]; · iexact Hl
    isplitl [Hcr]; · iexact Hcr
    isplitl [Hscr]; · iexact Hscr
    isplitl [Ho]; · iexact Ho
    isplitl [H0]; · unfold xPts; iexact H0
    isplitl [H1]; · unfold ridxPts; iexact H1
    isplitl [H2]; · unfold ewPts; iexact H2
    iexists f3; unfold outPts; iexact H3
  · iintro %a H
    unfold BodyPost PointPost Exit stg
    icases H with ⟨Hv, Hscr, Ho, H0, H1, H2, H3⟩
    isplitl [Hv Hscr]
    · isplitl [Hv]; · iexact Hv
      iexact Hscr
    isplitl [Ho]
    · iapply (show owed c 0 ⊢ (dats m 0 c).owesAt 0 t0_0.succ from by
        unfold Dat.owesAt Pipeline.owesWithin owed
        iintro ⟨%W, HO⟩
        iexists W
        isplitr; · ipureintro; exact fun _ _ => Or.inl trivial
        iexact HO)
      iexact Ho
    isplitl [H0]; · iexists _; isplitr; · (ipureintro; rfl)
                    unfold xPts; iexact H0
    isplitl [H1]; · iexists _; isplitr; · (ipureintro; rfl)
                    unfold ridxPts; iexact H1
    isplitl [H2]; · iexists _; isplitr; · (ipureintro; rfl)
                    unfold ewPts; iexact H2
    iexists _; isplitr; · (ipureintro; rfl)
    unfold outPts; iexact H3

set_option maxRecDepth 40000 in
/-- The body's obligation at the one point. -/
theorem body_obligation (c : Dev nD) : BodyObligation (dats (F := F) m 0 c) (defs₀ (F := F)) 𝒱₀ 0 Set.univ := fun t => by
  rw [fin_N0 t]
  rw [bigSep_W0, bigSep_W0]
  simp only [owns_whole_eq]
  exact point m c

/-! ## The launch -/

theorem after_O₀ (c : Dev nD) : After 0 (O₀ c) := by
  unfold O₀
  refine ((((after_OH c 0).mono (by omega)).add ((after_OW c 0).mono (by omega))).add (After.tally ?_ (by omega))).add (After.tally ?_ (by omega)) <;>
    rw [lvl_cell] <;> decide

theorem stage_lvl (c : Dev nD) (w : Fin 4) (s : Fin (cfg0.win w).nbuf) (i : ℕ) : lvl ((c : Thread nD τ), .dma ((cfg0.win w).sem s)) i = 0 := by
  unfold lvl
  rw [show kindOf (SemLoc.dma ((cfg0.win w).sem s)) = none from by revert s; revert w; decide]

theorem waits (c : Dev nD) : (levAts Lix lvl : sProp 𝕄) ⊢ Pipeline.cellsWaits cfgs (dats m) 0 0 c :=
  Pipeline.cellsWaits_intro cfgs (dats m) 0 0 c fun w s t =>
    mayWait c _ 0 (by omega) _ (by
      rw [stage_lvl c w s 0]
      rcases t with ⟨_ | _, ht⟩
      · exact after_O₀ c
      · exact After.zero 0)

/-- The argument that no window stages, as it was. -/
def idle (c : Dev nD) : sProp 𝕄 := ((c : Thread nD τ).loc main_arg1) ↦{fullShare} m ((c : Thread nD τ).loc main_arg1)

theorem rest_eq (c : Dev nD) :
    (Pipeline.unscopedRestP (Ix := ℕ) (Name := ℕ) (U := UU) (Lvl := ℕ) Pipeline.Prefetch.none cfg0.spec c (fun b => m ((c : Thread nD τ).loc b)) : sProp 𝕄) = idle m c :=
  (congrArg (fun f => f) (Pipeline.unscopedRestP_none cfg0.spec c (fun b => m ((c : Thread nD τ).loc b)))).trans (unscopedRest0_eq c _)

theorem entry_intro (c : Dev nD) :
    iprop(Pipeline.unscopedRestP Pipeline.Prefetch.none cfg0.spec c (fun b => m ((c : Thread nD τ).loc b)) ∗ levAts Lix lvl
        ∗ Pipeline.launchCred O₀ c ∗ prngReg c (ρ c) ∗ G' m c)
      ⊢ (|={Set.univ}=> iprop(Entry m c ∗ idle m c) : sProp 𝕄) := by
  rw [rest_eq]
  unfold Entry
  iintro ⟨Hr, Hlev, Hcr, -, HG⟩
  ihave Hcr := (creds_intro (F := F) c) $$ Hcr
  imodintro
  isplitr [Hr]
  · isplitl [Hlev]; · iexact Hlev
    isplitl [Hcr]; · iexact Hcr
    iexact HG
  iexact Hr

theorem phi_intro (c : Dev nD) :
    iprop(Entry m c ∗ Pipeline.prefHeld Pipeline.Prefetch.none c (fun _ => fullShare.right) (fun k => k.elim0) ∗ Pipeline.scopedRest cfg0.spec c)
      ⊢ ((dats m 0 c).Φ 0 : sProp 𝕄) := by
  rw [show (dats m 0 c).Φ 0 = iprop(Entry m c ∗ scrAny c) from rfl, scopedRest0_eq]
  unfold scrAny
  iintro ⟨He, -, Hs⟩
  isplitl [He]; · iexact He
  iexact Hs

theorem phi_exit (c : Dev nD) :
    ((dats m 0 c).Φ (Fin.last cfg0.N) : sProp 𝕄) ⊢ iprop(unscopedSems0 c ∗ Pipeline.ownSems0 osem c ∗ Pipeline.scopedRest cfg0.spec c) := by
  rw [show (dats m 0 c).Φ (Fin.last cfg0.N) = Exit c from rfl, scopedRest0_eq]
  unfold Exit scrAny
  iintro ⟨Hv, Hs⟩
  ihave Hv := (sems_back (F := F) c) $$ Hv
  icases Hv with ⟨Hb, Ho⟩
  isplitl [Hb]; · iexact Hb
  isplitl [Ho]; · iexact Ho
  iexact Hs

theorem glob :
    (bigSep (Finset.univ : Finset (Dev nD)) fun c =>
        iprop(Pipeline.ownSems0 (Ix := ℕ) (Name := ℕ) (U := UU) (Lvl := ℕ) (Val := Elt F) (τ := τ) osem c ∗ unscopedSems0 c ∗ G m c) : sProp 𝕄)
      ⊢ |={Set.univ}=> bigSep (Finset.univ : Finset (Dev nD)) (G' m) := by
  iintro H
  iapply (glob_of m (fun c => iprop(Pipeline.ownSems0 (Ix := ℕ) (Name := ℕ) (U := UU) (Lvl := ℕ) (Val := Elt F) (τ := τ) osem c ∗ unscopedSems0 c))
    fun c => sems_eq c)
  iapply (show (bigSep (Finset.univ : Finset (Dev nD)) fun c =>
        iprop(Pipeline.ownSems0 (Ix := ℕ) (Name := ℕ) (U := UU) (Lvl := ℕ) (Val := Elt F) (τ := τ) osem c ∗ unscopedSems0 c ∗ G m c) : sProp 𝕄)
      ⊢ (bigSep (Finset.univ : Finset (Dev nD)) fun c =>
        iprop((Pipeline.ownSems0 (Ix := ℕ) (Name := ℕ) (U := UU) (Lvl := ℕ) (Val := Elt F) (τ := τ) osem c ∗ unscopedSems0 c) ∗ G m c)) from
    bigSep_mono fun c _ => by
      show iprop(Pipeline.ownSems0 (Ix := ℕ) (Name := ℕ) (U := UU) (Lvl := ℕ) (Val := Elt F) (τ := τ) osem c ∗ unscopedSems0 c ∗ G m c)
        ⊢ iprop((Pipeline.ownSems0 (Ix := ℕ) (Name := ℕ) (U := UU) (Lvl := ℕ) (Val := Elt F) (τ := τ) osem c ∗ unscopedSems0 c) ∗ G m c)
      iintro ⟨H1, H2, H3⟩
      isplitr [H3]
      · isplitl [H1]; · iexact H1
        iexact H2
      iexact H3)
  iexact H

/-- The ghost state of the launch, divided. -/
theorem launch_own : (ownU u₀ : sProp 𝕄) ⊢ |={Set.univ}=> iprop(
    BI.own (EP (initOf (Pipeline.cells cfgs cellOf_inj) (Pipeline.launchToks cfgs cellOf_inj))) ∗ bigSep (Finset.univ : Finset (Dev nD)) (G m)) := by
  unfold u₀
  iintro Hu
  ihave H := (ownU_pair _ _) $$ Hu
  icases H with ⟨HP, HX⟩
  ihave H := (show BI.own (embR (initOf ringCells ringToks, initSlots (Finset.univ : Finset (Dev nD × Fin 2)) 8))
      ⊢ (iprop(BI.own (ER (initOf ringCells ringToks)) ∗ BI.own (ES (initSlots Finset.univ 8))) : sProp 𝕄) from own_pair_emb _ _ _) $$ HX
  imod (fund m) $$ H with HG
  imodintro
  isplitl [HP]; · iexact HP
  iexact HG

/-- What is read off the final state beside the windows: the barrier's counter, and the argument no window stages. -/
def Seen (c : Dev nD) (s : MemSt nD τ sig (Elt F)) : Prop :=
  (∀ sm : SemLoc sig, sm.isScoped .tc = false → s.sem ((c.tc : Thread nD τ), sm) = 0)
    ∧ s.mem ((c : Thread nD τ).loc main_arg1) = m ((c : Thread nD τ).loc main_arg1)

theorem seen (c : Dev nD) (s : Phys nD τ sig (Elt F)) :
    iprop(unscopedSems0 c ∗ idle m c ∗ SI s) ⊢ (|={Set.univ}=> iprop(⌜Seen m c s.mem⌝ ∗ SI s) : sProp 𝕄) := by
  unfold idle
  iintro ⟨Hu, Hp, HSI⟩
  icombine HSI Hp gives %h
  imod (Pipeline.unscopedSems0_read (X := unscopedSems0 c) (c := c) fupd_intro s) $$ [Hu HSI] with ⟨%hs, HSI⟩
  · isplitl [Hu] <;> iassumption
  imodintro
  isplitr
  · ipureintro; exact ⟨hs, Buf.eq_of_forall_mem_univ h⟩
  iexact HSI

set_option maxRecDepth 40000 in
/-- From any memory with all counters at zero, every fair execution on the sixteen devices terminates; at its end the
    result of each device is what its windows compute, its arguments are as they were, and every counter is zero. -/
theorem run_main : θ_run defs (onTc (τ := τ) (main (F := F))) (s₀ m ρ) (fun r =>
    ((∀ c : Dev nD, ∀ w : Fin cfg0.W, r.2.mem ((cfg0.win w).arr.view.loc (c : Thread nD τ)) = (dats m 0 c).arrAt w cfg0.N)
      ∧ (∀ c : Dev nD, r.2.mem ((c : Thread nD τ).loc main_arg1) = m ((c : Thread nD τ).loc main_arg1)))
    ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0)
    (hshare := share_eq m) (hdistinct := winFacts0.arr_inj)
    (O₀ := O₀) (howed₀ := fun _ => rfl) (howedN := fun _ => rfl)
    (L := Lix) (lv := lvl) (hL := Lix_of_ne) (hwaits := waits m)
    (G := G m) (G' := G' m) (u₀ := u₀) (hu₀ := launch_own m) (hglob := glob m)
    (hA := fun _ _ => rfl) (hpf := fun _ k => k.elim0)
    (X := Entry m) (Y := fun c => unscopedSems0 c) (Z := idle m)
    (hX := entry_intro m ρ) (hin := phi_intro m) (hout := phi_exit m)
    (QY := Seen m) (hY := seen m)
    (hQ := fun _ h hs => ⟨⟨fun c w => (h c).1 w, fun c => (h c).2.2.2⟩, sem_eq_zero hs fun c => (h c).2.2.1⟩)

end Cert.Moe
-- ==== Proof.Frames.lean ====
/-
  That every program ends, with its arguments as they were and every counter at zero.
-/
module

public import proofs.«01_k».proof.Defs
public import proofs.«01_k».proof.Proof.Gen.Kernel
public import proofs.«01_k».proof.Proof.RefRun
public import proofs.«01_k».proof.Proof.Run

@[expose] public section

set_option maxRecDepth 16384

noncomputable section

namespace Cert.Moe

open Idealize.ShloMosaic Idealize.ShloMosaic.TcCoe Idealize.SL.Sem

/-- The kernel's run, with its result named and its arguments as they were. -/
theorem run_named {F : FTy → Type} [FloatOps F] (m : (ℓ : Loc KernelIdeal.nD KernelIdeal.τ KernelIdeal.sig) → Buf (Elt F) ℓ)
    (ρ : Dev KernelIdeal.nD → PrngReg) :
    θ_run (KernelIdeal.defs (F := F)) (onTc (τ := KernelIdeal.τ) (KernelIdeal.main (F := F))) ⟨m, fun _ => 0, ρ⟩ (fun r =>
      (∀ c : Dev KernelIdeal.nD,
        r.2.mem ((c.tc : Thread KernelIdeal.nD KernelIdeal.τ).loc KernelIdeal.main_v1) = (dats m 0 c).arrAt (3 : Fin 4) KernelIdeal.cfg0.N
        ∧ r.2.mem ((c.tc : Thread KernelIdeal.nD KernelIdeal.τ).loc KernelIdeal.main_arg0) = m ((c.tc : Thread KernelIdeal.nD KernelIdeal.τ).loc KernelIdeal.main_arg0)
        ∧ r.2.mem ((c.tc : Thread KernelIdeal.nD KernelIdeal.τ).loc KernelIdeal.main_arg1) = m ((c.tc : Thread KernelIdeal.nD KernelIdeal.τ).loc KernelIdeal.main_arg1)
        ∧ r.2.mem ((c.tc : Thread KernelIdeal.nD KernelIdeal.τ).loc KernelIdeal.main_arg2) = m ((c.tc : Thread KernelIdeal.nD KernelIdeal.τ).loc KernelIdeal.main_arg2)
        ∧ r.2.mem ((c.tc : Thread KernelIdeal.nD KernelIdeal.τ).loc KernelIdeal.main_arg3) = m ((c.tc : Thread KernelIdeal.nD KernelIdeal.τ).loc KernelIdeal.main_arg3))
      ∧ r.2.sem = fun _ => 0) :=
  (θ_run KernelIdeal.defs _ _).mono (fun _ h => ⟨fun c => ⟨h.1.1 c (3 : Fin 4),
      (h.1.1 c (0 : Fin 4)).trans ((dats m 0 c).arrAt_in (0 : Fin 4) rfl _), h.1.2 c,
      (h.1.1 c (1 : Fin 4)).trans ((dats m 0 c).arrAt_in (1 : Fin 4) rfl _),
      (h.1.1 c (2 : Fin 4)).trans ((dats m 0 c).arrAt_in (2 : Fin 4) rfl _)⟩, h.2⟩)
    (run_main m ρ)

/-- The frame of the idealized kernel. -/
theorem frame_ideal : Cert.quiescent_KernelIdeal := fun m ρ _ =>
  (θ_run Cert.KernelIdeal.defs _ _).mono (fun _ h => ⟨fun c => (h.1 c).2, h.2⟩) (run_named (F := Ideal) m ρ)

/-- No operation having been replaced, the kernel's body table as written and as idealized are one: -/
theorem bodies_eq {F : FTy → Type} [FloatOps F] : Kernel.defs₀ (F := F) = KernelIdeal.defs₀ := by
  unfold Kernel.defs₀ KernelIdeal.defs₀
  refine congrArg Defs.onTc ?_
  funext l i
  match l, i with
  | 0, q => rfl

/-- and so is the table of the whole program. -/
theorem defs_eq {F : FTy → Type} [FloatOps F] : Kernel.defs (F := F) = KernelIdeal.defs :=
  congrArg (Pipeline.defs (nD := KernelIdeal.nD) (τ := KernelIdeal.τ) (KernelIdeal.pcfgs (F := F))) bodies_eq

/-- The frame of the kernel as written, run on words. -/
theorem frame_kernel : Cert.quiescent_Kernel := fun m ρ _ =>
  (congrArg (fun D => θ_run D (onTc (τ := KernelIdeal.τ) (KernelIdeal.main (F := Bits))) ⟨m, fun _ => 0, ρ⟩ (fun r =>
      (∀ c : Dev KernelIdeal.nD,
        r.2.mem ((c.tc : Thread KernelIdeal.nD KernelIdeal.τ).loc KernelIdeal.main_arg0) = m ((c.tc : Thread KernelIdeal.nD KernelIdeal.τ).loc KernelIdeal.main_arg0)
        ∧ r.2.mem ((c.tc : Thread KernelIdeal.nD KernelIdeal.τ).loc KernelIdeal.main_arg1) = m ((c.tc : Thread KernelIdeal.nD KernelIdeal.τ).loc KernelIdeal.main_arg1)
        ∧ r.2.mem ((c.tc : Thread KernelIdeal.nD KernelIdeal.τ).loc KernelIdeal.main_arg2) = m ((c.tc : Thread KernelIdeal.nD KernelIdeal.τ).loc KernelIdeal.main_arg2)
        ∧ r.2.mem ((c.tc : Thread KernelIdeal.nD KernelIdeal.τ).loc KernelIdeal.main_arg3) = m ((c.tc : Thread KernelIdeal.nD KernelIdeal.τ).loc KernelIdeal.main_arg3))
      ∧ r.2.sem = fun _ => 0)) (defs_eq (F := Bits))).mpr
    ((θ_run Cert.KernelIdeal.defs _ _).mono (fun _ h => ⟨fun c => (h.1 c).2, h.2⟩) (run_named (F := Bits) m ρ))

/-- The frame of the reference, which has no counter. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Ref.run (F := Ideal) m ρ)

end Cert.Moe

end
-- ==== Proof.Prefix.lean ====
/-
  The running counts of the kernel as sums of words.

  The kernel counts, for every token and every expert, the tokens up to it that chose the expert, by adding to an
  array of counts the same array moved down by 1, 2, 4, …, 1024 rows.  Counting is done in 32-bit words, which form a
  commutative ring, so that all sums here are sums of words and nothing has to be said about overflow.
-/
module

public import proofs.«01_k».proof.Proof.Common
public import Idealize.ShloMosaic.Lib.WordSum
public import Idealize.ShloMosaic.Lib.ValueIdx
public import Idealize.ShloMosaic.Lib.Pipeline.Value

@[expose] public section

set_option maxRecDepth 16384

noncomputable section

namespace Cert.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Pipeline (Dat Cfg Window BodyObligation cellOf)
open Cert.KernelIdeal Cert.KernelIdeal.Gen

open Idealize.ShloMosaic.ValueIdx
open Finset

/-- The sum of the `k` values of `f` that end at `t`, those before the start counting as 0. -/
def win (f : ℕ → BitVec 32) (k t : ℕ) : BitVec 32 := ∑ j ∈ range k, if j ≤ t then f (t - j) else 0

/-- A window of one value is the value. -/
theorem win_one (f : ℕ → BitVec 32) (t : ℕ) : win f 1 t = f t := by simp [win]

/-- A window and the one before it make the window of twice the length. -/
theorem win_double (f : ℕ → BitVec 32) (k t : ℕ) :
    win f k t + (if k ≤ t then win f k (t - k) else 0) = win f (k + k) t := by
  unfold win
  rw [sum_range_add]
  congr 1
  by_cases h : k ≤ t
  · rw [if_pos h]
    refine sum_congr rfl fun j _ => ?_
    by_cases hj : j ≤ t - k
    · rw [if_pos hj, if_pos (by omega), Nat.sub_sub]
    · rw [if_neg hj, if_neg (by omega)]
  · rw [if_neg h]
    exact (sum_eq_zero fun j _ => if_neg (by omega)).symm

/-- A window that reaches past the start is the sum of all values up to `t`. -/
theorem win_all (f : ℕ → BitVec 32) {k t : ℕ} (h : t < k) : win f k t = ∑ i ∈ range (t + 1), f i := by
  unfold win
  rw [← sum_filter, ← sum_range_reflect f (t + 1)]
  refine sum_congr ?_ fun j hj => ?_
  · ext j; simp only [mem_filter, mem_range]; omega
  · simp

/-- An array of counts holds, for every row and lane, the window of `k` values of the lane's sequence. -/
def IsWin (f : Fin 64 → ℕ → BitVec 32) (k : ℕ) (a : IVec ⟨2, ![2048, 64]⟩ 32) : Prop :=
  ∀ (t : Fin 2048) (l : Fin 64), a (ix2 t l) = win (f l) k t.val

/-- One step of the kernel's running count: adding the array moved down by `k` rows doubles the windows. -/
theorem IsWin.step {f : Fin 64 → ℕ → BitVec 32} {k n : ℕ} {a : IVec ⟨2, ![2048, 64]⟩ 32} (ha : IsWin f k a)
    (hk : k + n = 2048) (hs : Shape.Slices ⟨2, ![2048, 64]⟩ ![0, 0] ⟨2, ![n, 64]⟩)
    (hc : Shape.Concatenates [⟨2, ![k, 64]⟩, ⟨2, ![n, 64]⟩] ⟨2, ![2048, 64]⟩ 0) :
    IsWin f (k + k) (addi a (concatenate ⟨2, ![2048, 64]⟩ 0 [⟨⟨2, ![k, 64]⟩, broadcast ⟨2, ![k, 64]⟩ 0#32⟩,
      ⟨⟨2, ![n, 64]⟩, extractStridedSlice ⟨2, ![n, 64]⟩ ![0, 0] a hs⟩] hc)) := by
  intro t l
  rw [← win_double, ← ha t l]
  refine congrArg (a (ix2 t l) + ·) ?_
  by_cases h : k ≤ t.val
  · have hlt : t.val - k < n := by omega
    rw [if_pos h, concatenate_pair_apply_right 0 _ _ hc (ix2 t l) rfl rfl (ix2 ⟨t.val - k, hlt⟩ l)
      (fun b hb => by match b, hb with | ⟨0, _⟩, hb => exact absurd rfl hb | ⟨1, _⟩, _ => rfl)
      (by show t.val - k + k = t.val; omega)]
    rw [extractStridedSlice_apply ![0, 0] a hs _ (ix2 ⟨t.val - k, by omega⟩ l)
      (fun b => by match b with | ⟨0, _⟩ => exact (Nat.zero_add _).symm | ⟨1, _⟩ => exact (Nat.zero_add _).symm)]
    exact ha ⟨t.val - k, by omega⟩ l
  · rw [if_neg h, concatenate_pair_apply_left 0 _ _ hc (ix2 t l) rfl (ix2 ⟨t.val, by omega⟩ l)
      (fun b => by match b with | ⟨0, _⟩ => rfl | ⟨1, _⟩ => rfl)]
    rfl

/-- An integer sum over the rows of a two-axis array, entry by entry. -/
theorem sum_rows {n m : ℕ} (x : IVec ⟨2, ![n, m]⟩ 32) (h : Shape.Reduces ⟨2, ![n, m]⟩ [0] ⟨1, ![m]⟩)
    (e : (0#32 : BitVec 32) = IKind.add.neutral) (l : Fin m) :
    multiReductionI .add [0] ⟨1, ![m]⟩ x 0#32 h e (ix1 l) = ∑ i : Fin n, x (ix2 i l) := by
  rw [multiReductionI_eq_reduceFold]
  show reduceFold h (· + ·) (0#32) x (ix1 l) = _
  rw [reduceFold_add_eq_sum, show (0#32 : BitVec 32) = 0 from rfl, zero_add, h.sum_filter_drop_single]
  refine sum_congr rfl fun i _ => congrArg x ?_
  funext b
  match b with
  | ⟨0, _⟩ => exact Fin.ext rfl
  | ⟨1, _⟩ => exact Fin.ext rfl

/-- An integer sum over the columns of a two-axis array, entry by entry. -/
theorem sum_cols {n m : ℕ} (x : IVec ⟨2, ![n, m]⟩ 32) (h : Shape.Reduces ⟨2, ![n, m]⟩ [1] ⟨1, ![n]⟩)
    (e : (0#32 : BitVec 32) = IKind.add.neutral) (t : Fin n) :
    multiReductionI .add [1] ⟨1, ![n]⟩ x 0#32 h e (ix1 t) = ∑ l : Fin m, x (ix2 t l) := by
  rw [multiReductionI_eq_reduceFold]
  show reduceFold h (· + ·) (0#32) x (ix1 t) = _
  rw [reduceFold_add_eq_sum, show (0#32 : BitVec 32) = 0 from rfl, zero_add, h.sum_filter_drop_single]
  refine sum_congr rfl fun i _ => congrArg x ?_
  funext b
  match b with
  | ⟨0, _⟩ => exact Fin.ext rfl
  | ⟨1, _⟩ => exact Fin.ext rfl

end Cert.Moe

end
-- ==== Proof.Rank.lean ====
/-
  Which tokens the kernel keeps.  A token of device `c` that chose expert `e` is kept when the number of tokens before
  it that chose `e` — those of the devices before `c`, read off the table of counts, and those before it on its own
  device — is below the capacity.
-/
module

public import proofs.«01_k».proof.Proof.Prefix
public import Idealize.ShloMosaic.Lib.ValueLayoutCasts

@[expose] public section

set_option maxRecDepth 16384

noncomputable section

namespace Cert.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Pipeline (Dat Cfg Window BodyObligation cellOf)
open Cert.KernelIdeal Cert.KernelIdeal.Gen

variable {F : FTy → Type} [FloatOps F]

open Idealize.ShloMosaic.ValueIdx
open Finset

/-- Whether the expert chosen by token `i` of a device is `l`, as the word 1 or 0 (0 past the last token). -/
def chose (r : IVec ⟨2, ![2048, 1]⟩ 32) (l : Fin 64) (i : ℕ) : BitVec 32 :=
  if h : i < 2048 then (if r (ix2 ⟨i, h⟩ 0) = BitVec.ofNat 32 l.val then 1 else 0) else 0

/-- The comparison bit of two equal-or-not words. -/
theorem cmpi_eq_bit {w : ℕ} (a b : BitVec w) : IntOp.cmpi .eq a b = if a = b then 1#1 else 0#1 := by
  show BitVec.ofBool (a == b) = _
  by_cases h : a = b
  · rw [if_pos h, beq_iff_eq.mpr h]; rfl
  · rw [if_neg h, beq_eq_false_iff_ne.mpr h]; rfl

/-- The comparison bit of two small naturals written as words. -/
theorem cmpi_slt_bit {a b : ℕ} (ha : a < 2 ^ 31) (hb : b < 2 ^ 31) :
    IntOp.cmpi .slt (BitVec.ofNat 32 a) (BitVec.ofNat 32 b) = if a < b then 1#1 else 0#1 := by
  show BitVec.ofBool (BitVec.slt _ _) = _
  have hn {n : ℕ} (h : n < 2 ^ 31) : (BitVec.ofNat 32 n).toInt = (n : ℤ) := by
    rw [BitVec.toInt_eq_toNat_of_lt] <;> rw [BitVec.toNat_ofNat, Nat.mod_eq_of_lt (by omega)]; omega
  rw [BitVec.slt, hn ha, hn hb]
  by_cases h : a < b
  · rw [if_pos h, decide_eq_true (by omega)]; rfl
  · rw [if_neg h, decide_eq_false (by omega)]; rfl

/-- The kernel's table of choices: row `t`, lane `l` says whether token `t` chose expert `l`. -/
theorem choice_apply (r : Vec F S2048x1 .i32) (t : Fin 2048) (l : Fin 64) :
    k0_pay16 r (ix2 t l) = chose r l t.val := by
  unfold k0_pay16 k0_pay15 chose
  dsimp only
  rw [shapeCast_self, dif_pos t.isLt]
  show (IntOp.cmpi .eq (broadcastTo S2048x64 r _ (ix2 t l)) (iota .tc S2048x64 32 [1] _ (ix2 t l))).setWidth 32 = _
  rw [broadcastTo_apply r _ (ix2 t l) (ix2 t 0) (fun a => by match a with | ⟨0, _⟩ => rfl | ⟨1, _⟩ => rfl),
    show iota .tc S2048x64 32 [1] iota_S2048x64_d1_w32 (ix2 t l) = BitVec.ofNat 32 (0 * 64 + l.val) from rfl,
    Nat.zero_mul, Nat.zero_add, cmpi_eq_bit]
  by_cases h : r (ix2 t 0) = BitVec.ofNat 32 l.val
  · rw [if_pos h, if_pos h]; rfl
  · rw [if_neg h, if_neg h]; rfl

/-- The table of choices is the windows of length one. -/
theorem choice_win (r : Vec F S2048x1 .i32) : IsWin (chose r) 1 (k0_pay16 r) := fun t l => by
  rw [win_one, choice_apply]

/-- After two steps the windows are four long. -/
theorem choice_win4 (r : Vec F S2048x1 .i32) : IsWin (chose r) 4 (k0_pay19 r) :=
  (((choice_win r).step (n := 2047) rfl slices_S2048x64_o0_0_S2047x64 concatenates_S1x64_S2047x64_S2048x64_d0).step
    (n := 2046) rfl slices_S2048x64_o0_0_S2046x64 concatenates_S2x64_S2046x64_S2048x64_d0)

/-- The device's own counts: lane `l` of its row holds how many of its tokens chose expert `l`. -/
theorem counts_apply (r : Vec F S2048x1 .i32) (u : Fin 1) (l : Fin 64) :
    k0_pay17 r (ix2 u l) = ∑ i ∈ range 2048, chose r l i := by
  unfold k0_pay17
  dsimp only
  rw [shapeCast_self]
  refine (shapeCast_a_1a_apply _ _ u l).trans ?_
  refine (sum_rows _ _ _ l).trans ?_
  rw [← Fin.sum_univ_eq_sum_range]
  exact sum_congr rfl fun i _ => choice_apply r i l

/-- The counts of the devices before device `c`, lane by lane. -/
def prior (c : ℕ) (tb : IVec ⟨2, ![16, 64]⟩ 32) (l : Fin 64) : BitVec 32 :=
  ∑ d : Fin 16, if d.val < c then tb (ix2 d l) else 0

/-- The kernel sums the rows of the table that belong to the devices before it. -/
theorem prior_apply (c : ℕ) (hc : c < 16) (tb : Vec F S16x64 .i32) (u : Fin 1) (l : Fin 64) :
    k0_pay18 (BitVec.ofNat 32 c) tb (ix2 u l) = prior c tb l := by
  unfold k0_pay18
  dsimp only
  refine (shapeCast_a_1a_apply _ _ u l).trans ?_
  refine (sum_rows _ _ _ l).trans ?_
  refine sum_congr rfl fun d _ => ?_
  show Scalar.select (IntOp.cmpi .slt (BitVec.ofNat 32 (0 * 16 + d.val)) (BitVec.ofNat 32 c)) (tb (ix2 d l)) 0#32 = _
  rw [Nat.zero_mul, Nat.zero_add, cmpi_slt_bit (by omega) (by omega)]
  by_cases h : d.val < c
  · rw [if_pos h, if_pos h]; rfl
  · rw [if_neg h, if_neg h]; rfl

/-- The windows after all eleven steps, with the lane's own bit taken off again, are the counts of the earlier tokens. -/
theorem win_before (f : ℕ → BitVec 32) {t : ℕ} (h : t < 2048) : win f 2048 t - f t = ∑ i ∈ range t, f i := by
  rw [win_all f h, sum_range_succ, add_sub_cancel_right]

/-- The rank of a token: the words the kernel compares with the capacity, as a sum over the lanes. -/
theorem keep_apply (r : Vec F S2048x1 .i32) (b : IVec S1x64 32) (t : Fin 2048) :
    k0_pay22 (k0_pay16 r) b (k0_pay19 r) k0_pay20 (k0_pay21 r) (ix2 t 0)
      = IntOp.cmpi .slt (∑ l : Fin 64, (b (ix2 0 l) + ∑ i ∈ range t.val, chose r l i) * chose r l t.val) 409#32 := by
  have h8 := (choice_win4 r).step (n := 2044) rfl slices_S2048x64_o0_0_S2044x64 concatenates_S4x64_S2044x64_S2048x64_d0
  have h16 := h8.step (n := 2040) rfl slices_S2048x64_o0_0_S2040x64 concatenates_S8x64_S2040x64_S2048x64_d0
  have h32 := h16.step (n := 2032) rfl slices_S2048x64_o0_0_S2032x64 concatenates_S16x64_S2032x64_S2048x64_d0
  have h64 := h32.step (n := 2016) rfl slices_S2048x64_o0_0_S2016x64 concatenates_S32x64_S2016x64_S2048x64_d0
  have h128 := h64.step (n := 1984) rfl slices_S2048x64_o0_0_S1984x64 concatenates_S64x64_S1984x64_S2048x64_d0
  have h256 := h128.step (n := 1920) rfl slices_S2048x64_o0_0_S1920x64 concatenates_S128x64_S1920x64_S2048x64_d0
  have h512 := h256.step (n := 1792) rfl slices_S2048x64_o0_0_S1792x64 concatenates_S256x64_S1792x64_S2048x64_d0
  have h1024 := h512.step (n := 1536) rfl slices_S2048x64_o0_0_S1536x64 concatenates_S512x64_S1536x64_S2048x64_d0
  have h2048 := h1024.step (n := 1024) rfl slices_S2048x64_o0_0_S1024x64 concatenates_S1024x64_S1024x64_S2048x64_d0
  unfold k0_pay22 k0_pay20 k0_pay21
  dsimp only
  show IntOp.cmpi .slt (shapeCast S2048x1 _ shapeCasts_S2048_S2048x1 (ix2 t 0)) 409#32 = _
  refine congrArg (fun z => IntOp.cmpi .slt z 409#32) ?_
  refine (shapeCast_a_a1_apply _ _ t 0).trans ?_
  refine (sum_cols _ _ _ t).trans ?_
  refine sum_congr rfl fun l _ => ?_
  have hw := h2048 t l
  have hb : broadcastTo S2048x64 b broadcasts_S1x64_S2048x64 (ix2 t l) = b (ix2 0 l) :=
    broadcastTo_apply b _ (ix2 t l) (ix2 0 l) (fun a => by match a with | ⟨0, _⟩ => rfl | ⟨1, _⟩ => rfl)
  rw [← win_before (chose r l) t.isLt, ← choice_apply r t l, ← hb]
  exact congrArg (fun z => (_ + (z - _)) * _) hw

/-- The lane sum picks the lane the token chose. -/
theorem rank_sum (r : IVec ⟨2, ![2048, 1]⟩ 32) (g : Fin 64 → BitVec 32) (t : Fin 2048) (e : Fin 64)
    (he : r (ix2 t 0) = BitVec.ofNat 32 e.val) : (∑ l : Fin 64, g l * chose r l t.val) = g e := by
  have hc (l : Fin 64) : chose r l t.val = if l = e then 1 else 0 := by
    unfold chose
    rw [dif_pos t.isLt]
    by_cases h : l = e
    · rw [if_pos h, if_pos (by rw [h]; exact he)]
    · rw [if_neg h, if_neg]
      intro h'
      have := congrArg BitVec.toNat (he.symm.trans h')
      rw [BitVec.toNat_ofNat, BitVec.toNat_ofNat, Nat.mod_eq_of_lt (by omega), Nat.mod_eq_of_lt (by omega)] at this
      exact h (Fin.ext this.symm)
  rw [sum_congr rfl fun l _ => by rw [hc l], sum_eq_single e]
  · rw [if_pos rfl, mul_one]
  · intro l _ h; rw [if_neg h, mul_zero]
  · intro h; exact absurd (mem_univ e) h

end Cert.Moe

end
-- ==== Proof.Expert.lean ====
/-
  The products of the kernel, entry by entry.  A device goes through the 64 experts four at a time, and adds to its output
  the product of its tokens, with every row that is not kept or did not choose the expert multiplied by zero, and the
  expert's weights.  Over the extended reals a row multiplied by zero adds nothing, so that each token's entry is the product
  with the weights of the one expert it chose, or zero.
-/
module

public import proofs.«01_k».proof.Proof.Body
public import proofs.«01_k».proof.Proof.Rank
public import Idealize.ShloMosaic.Lib.MatmulPlain
public import Idealize.ShloMosaic.Lib.IdealHost

@[expose] public section

set_option maxRecDepth 16384

noncomputable section

namespace Cert.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Pipeline (Dat Cfg Window BodyObligation cellOf)
open Cert.KernelIdeal Cert.KernelIdeal.Gen

open Idealize.ShloMosaic.ValueIdx
open Finset

/-- The product of one token's row with one matrix, at one column. -/
def rowMat (x : FVec Ideal S2048x512 .f32) (w : (⟨2, ![512, 1024]⟩ : Shape).Idx → EReal) (t : Fin 2048) (h : Fin 1024) : EReal :=
  ∑ d : Fin 512, x (ix2 t d) * w (ix2 d h)

/-- One expert's addition to the output: the tokens that are kept and chose expert `e`, times the expert's matrix. -/
def addE (v35 : IVec S2048x1 32) (v106 : IVec S2048x1 1) (v108 : FVec Ideal S2048x512 .f32) (e : BitVec 32)
    (w : S1x1x512x1024.Idx → Elt Ideal .f32) (acc : FVec Ideal S2048x1024 .f32) : FVec Ideal S2048x1024 .f32 :=
  addf (shapeCast S2048x1024 acc shapeCasts_S2048x1024_S2048x1024)
    (matmul dot_S2048x512_S512x1024_S2048x1024_1_0_0_1_n_n none
      (mulf v108 (broadcastTo S2048x512 (select (andi v106 (cmpi .eq v35 (broadcast S2048x1 e)))
        (broadcast S2048x1 (Scalar.ofBits .f32 0x3F800000#32 : Ideal .f32)) (broadcast S2048x1 (Scalar.ofBits .f32 0x00000000#32 : Ideal .f32)))
        broadcasts_S2048x1_S2048x512))
      (shapeCast S512x1024 w shapeCasts_S1x1x512x1024_S512x1024 : FVec Ideal S512x1024 .f32) (constant S2048x1024 .f32 0x00000000#32))

/-- One step of the kernel is four experts' additions. -/
theorem accE_eq (v35 : IVec S2048x1 32) (v106 : IVec S2048x1 1) (v108 : FVec Ideal S2048x512 .f32) (v122 : BitVec 32)
    (w : Fin 4 → S1x1x512x1024.Idx → Elt Ideal .f32) (acc : FVec Ideal S2048x1024 .f32) :
    accE v35 v106 v108 v122 w acc = addE v35 v106 v108 (v122 * 4#32 + 3#32) (w 3) (addE v35 v106 v108 (v122 * 4#32 + 2#32) (w 2)
      (addE v35 v106 v108 (v122 * 4#32 + 1#32) (w 1) (addE v35 v106 v108 (v122 * 4#32 + 0#32) (w 0) acc))) := rfl

/-- Entry `(t, h)` of one expert's addition. -/
theorem addE_apply (v35 : IVec S2048x1 32) (v106 : IVec S2048x1 1) (v108 : FVec Ideal S2048x512 .f32) (e : BitVec 32)
    (w : S1x1x512x1024.Idx → Elt Ideal .f32) (acc : FVec Ideal S2048x1024 .f32) (t : Fin 2048) (h : Fin 1024) :
    addE v35 v106 v108 e w acc (ix2 t h) = acc (ix2 t h)
      + if v106 (ix2 t 0) = 1#1 ∧ v35 (ix2 t 0) = e then rowMat v108 (fun i => w (ix4 0 0 (i 0) (i 1))) t h else 0 := by
  unfold addE rowMat
  rw [shapeCast_self, addf_apply]
  refine congrArg (acc (ix2 t h) + ·) ?_
  refine (Ideal.matmul_plain_apply (M := 2048) (K := 512) (N := 1024) none _ _ _ t h).trans ?_
  have hw (d : Fin 512) : shapeCast S512x1024 w shapeCasts_S1x1x512x1024_S512x1024 (ix2 d h) = w (ix4 0 0 d h) :=
    shapeCast_apply w _ _ _ (by
      rw [Shape.rowMajor_val_four, Shape.rowMajor_val_two]
      show ((0 * 1 + 0) * 512 + d.val) * 1024 + h.val = d.val * 1024 + h.val
      omega)
  have hx (d : Fin 512) : mulf v108 (broadcastTo S2048x512 (select (andi v106 (cmpi .eq v35 (broadcast S2048x1 e)))
        (broadcast S2048x1 (Scalar.ofBits .f32 0x3F800000#32 : Ideal .f32)) (broadcast S2048x1 (Scalar.ofBits .f32 0x00000000#32 : Ideal .f32)))
        broadcasts_S2048x1_S2048x512) (ix2 t d)
      = v108 (ix2 t d) * if v106 (ix2 t 0) = 1#1 ∧ v35 (ix2 t 0) = e then 1 else 0 := by
    rw [mulf_apply]
    refine congrArg (v108 (ix2 t d) * ·) ?_
    rw [broadcastTo_apply _ broadcasts_S2048x1_S2048x512 (ix2 t d) (ix2 t 0) (fun a => by match a with | ⟨0, _⟩ => rfl | ⟨1, _⟩ => rfl)]
    show Scalar.select (IntOp.andi (v106 (ix2 t 0)) (IntOp.cmpi .eq (v35 (ix2 t 0)) e)) (Ideal.ofBits .f32 0x3F800000#32)
      (Ideal.ofBits .f32 0x00000000#32) = _
    rw [Ideal.ofBits_zero_f32, Ideal.ofBits_one_f32, cmpi_eq_bit]
    by_cases h1 : v106 (ix2 t 0) = 1#1
    · by_cases h2 : v35 (ix2 t 0) = e
      · rw [if_pos h2, if_pos ⟨h1, h2⟩, h1]; rfl
      · rw [if_neg h2, if_neg (fun h => h2 h.2), h1]; rfl
    · have hn : ¬(v106 (ix2 t 0) = 1#1 ∧ v35 (ix2 t 0) = e) := fun h => h1 h.1
      by_cases h2 : v35 (ix2 t 0) = e
      · rw [if_neg hn, if_pos h2, eq_zero_of_ne_one h1]; rfl
      · rw [if_neg hn, if_neg h2, eq_zero_of_ne_one h1]; rfl
  rw [sum_congr rfl fun d _ => by rw [hx d, hw d]]
  show Ideal.ofBits .f32 0x00000000#32 + _ = _
  rw [Ideal.ofBits_zero_f32, zero_add]
  by_cases hc : v106 (ix2 t 0) = 1#1 ∧ v35 (ix2 t 0) = e
  · simp only [if_pos hc, mul_one]
  · simp only [if_neg hc, mul_zero, zero_mul, sum_const_zero]

/-- What expert `j` of device `d` adds to entry `(t, h)` of device `c`'s output. -/
def share (m : (ℓ : Loc nD τ sig) → Buf (Elt Ideal) ℓ) (v35 : IVec S2048x1 32) (v106 : IVec S2048x1 1) (v108 : FVec Ideal S2048x512 .f32)
    (t : Fin 2048) (h : Fin 1024) (d : Dev nD) (j : Fin 4) : EReal :=
  if v106 (ix2 t 0) = 1#1 ∧ v35 (ix2 t 0) = BitVec.ofNat 32 (d.val * 4 + j.val)
    then rowMat v108 (fun i => ewB m d (ix3 j (i 0) (i 1))) t h else 0

/-- After `k` steps the output holds what the experts of the last `k` devices add. -/
theorem accW_apply (m : (ℓ : Loc nD τ sig) → Buf (Elt Ideal) ℓ) (c : Dev nD) (v35 : IVec S2048x1 32) (v106 : IVec S2048x1 1)
    (v108 : FVec Ideal S2048x512 .f32) (k : ℕ) (t : Fin 2048) (h : Fin 1024) :
    accW m c v35 v106 v108 k (ix2 t h) = ∑ i ∈ range k, ∑ j : Fin 4, share m v35 v106 v108 t h (bk c i) j := by
  have hj (d : Dev nD) (j : Fin 4) : BitVec.ofNat 32 d.val * 4#32 + BitVec.ofNat 32 j.val = BitVec.ofNat 32 (d.val * 4 + j.val) := by
    rw [BitVec.ofNat_add, BitVec.ofNat_mul]
  induction k with
  | zero =>
    show Ideal.ofBits .f32 0x00000000#32 = _
    rw [Ideal.ofBits_zero_f32, range_zero, sum_empty]
  | succ k ih =>
    rw [sum_range_succ, ← ih, Fin.sum_univ_four]
    show accE v35 v106 v108 (BitVec.ofNat 32 (bk c k).val) (wJ m (bk c k)) (accW m c v35 v106 v108 k) (ix2 t h) = _
    rw [accE_eq, addE_apply, addE_apply, addE_apply, addE_apply, add_assoc, add_assoc, add_assoc]
    refine congrArg (accW m c v35 v106 v108 k (ix2 t h) + ·) ?_
    rw [add_assoc, add_assoc]
    unfold share
    rw [← hj (bk c k) 0, ← hj (bk c k) 1, ← hj (bk c k) 2, ← hj (bk c k) 3]
    rfl

/-- A kept token that chose expert `e` gets the product with the weights of expert `e`. -/
theorem accW_kept (m : (ℓ : Loc nD τ sig) → Buf (Elt Ideal) ℓ) (c : Dev nD) (v35 : IVec S2048x1 32) (v106 : IVec S2048x1 1)
    (v108 : FVec Ideal S2048x512 .f32) (t : Fin 2048) (h : Fin 1024) (d : Dev nD) (j : Fin 4) (hk : v106 (ix2 t 0) = 1#1)
    (he : v35 (ix2 t 0) = BitVec.ofNat 32 (d.val * 4 + j.val)) :
    accW m c v35 v106 v108 16 (ix2 t h) = rowMat v108 (fun i => ewB m d (ix3 j (i 0) (i 1))) t h := by
  have hd : d.val < 16 := d.isLt
  have hc : c.val < 16 := c.isLt
  have key (d' : Dev nD) (j' : Fin 4) (hne : d' ≠ d ∨ j' ≠ j) : share m v35 v106 v108 t h d' j' = 0 := by
    refine if_neg fun hh => ?_
    have hd' : d'.val < 16 := d'.isLt
    have := congrArg BitVec.toNat (he.symm.trans hh.2)
    rw [BitVec.toNat_ofNat, BitVec.toNat_ofNat, Nat.mod_eq_of_lt (by omega), Nat.mod_eq_of_lt (by omega)] at this
    rcases hne with hne | hne
    · exact hne (Fin.ext (by omega))
    · exact hne (Fin.ext (by omega))
  have hb : bk c ((c.val + 16 - d.val) % 16) = d := Fin.ext (by show (c.val + 15 * ((c.val + 16 - d.val) % 16)) % 16 = d.val; omega)
  rw [accW_apply, sum_eq_single ((c.val + 16 - d.val) % 16), sum_eq_single j, hb]
  · exact if_pos ⟨hk, he⟩
  · intro j' _ hne; exact key _ j' (.inr hne)
  · intro hn; exact absurd (mem_univ j) hn
  · intro i hi hne
    have hi := mem_range.mp hi
    refine sum_eq_zero fun j' _ => key _ j' (.inl fun hh => hne ?_)
    have := congrArg Fin.val hh
    have : (c.val + 15 * i) % 16 = d.val := this
    omega
  · intro hn; exact absurd (mem_range.mpr (Nat.mod_lt _ (by decide))) hn

/-- A token that is not kept, or whose expert is none of the 64, gets zero. -/
theorem accW_dropped (m : (ℓ : Loc nD τ sig) → Buf (Elt Ideal) ℓ) (c : Dev nD) (v35 : IVec S2048x1 32) (v106 : IVec S2048x1 1)
    (v108 : FVec Ideal S2048x512 .f32) (t : Fin 2048) (h : Fin 1024)
    (hk : ¬(v106 (ix2 t 0) = 1#1 ∧ ∃ e : Fin 64, v35 (ix2 t 0) = BitVec.ofNat 32 e.val)) :
    accW m c v35 v106 v108 16 (ix2 t h) = 0 := by
  rw [accW_apply]
  refine sum_eq_zero fun i _ => sum_eq_zero fun j _ => if_neg fun hh => hk ⟨hh.1, ⟨(bk c i).val * 4 + j.val, ?_⟩, hh.2⟩
  have : (bk c i).val < 16 := (bk c i).isLt
  omega

end Cert.Moe

end
-- ==== Proof.RefVal.lean ====
/-
  The reference's result entry by entry: token `T`, column `h` is the token's row times its expert's weights when fewer
  than 409 earlier tokens chose the same expert and the expert is one of the 64, and zero otherwise.  The counting is
  stated as a sum of words.
-/
module

public import proofs.«01_k».proof.Proof.RefRun
public import proofs.«01_k».proof.Proof.Rank
public import Idealize.ShloMosaic.Lib.ValueLayout
public import Idealize.ShloMosaic.Lib.IdealHost

@[expose] public section

set_option maxRecDepth 8192

noncomputable section

namespace Cert.Moe.Ref

open Cert.ReferenceIdeal Cert.ReferenceIdeal.Gen
open Idealize.ShloMosaic Idealize.ShloMosaic.TcCoe Idealize.ShloMosaic.ValueIdx
open Finset

/-- A column spread over a square reads its row. -/
theorem col_apply {α : Type} {n m : ℕ} (x : (⟨2, ![n, 1]⟩ : Shape).Idx → α)
    (h : Shape.BroadcastsInDim ⟨2, ![n, 1]⟩ ⟨2, ![n, m]⟩ ![0, 1]) (a : Fin n) (b : Fin m) :
    broadcastInDim ⟨2, ![n, m]⟩ ![0, 1] h x (ix2 a b) = x (ix2 a 0) :=
  broadcastInDim_apply _ h x _ _ fun c => by
    match c with
    | ⟨0, _⟩ =>
      show a.val = if n = 1 then 0 else a.val
      by_cases hn : n = 1
      · rw [if_pos hn]; omega
      · rw [if_neg hn]
    | ⟨1, _⟩ => rfl

/-- A row spread over a square reads its column. -/
theorem row_apply {α : Type} {n m : ℕ} (x : (⟨2, ![1, m]⟩ : Shape).Idx → α)
    (h : Shape.BroadcastsInDim ⟨2, ![1, m]⟩ ⟨2, ![n, m]⟩ ![0, 1]) (a : Fin n) (b : Fin m) :
    broadcastInDim ⟨2, ![n, m]⟩ ![0, 1] h x (ix2 a b) = x (ix2 0 b) :=
  broadcastInDim_apply _ h x _ _ fun c => by
    match c with
    | ⟨0, _⟩ => rfl
    | ⟨1, _⟩ =>
      show b.val = if m = 1 then 0 else b.val
      by_cases hm : m = 1
      · rw [if_pos hm]; omega
      · rw [if_neg hm]

/-- A vector stood up as a column reads its row. -/
theorem stand_apply {α : Type} {n : ℕ} (x : (⟨1, ![n]⟩ : Shape).Idx → α)
    (h : Shape.BroadcastsInDim ⟨1, ![n]⟩ ⟨2, ![n, 1]⟩ ![0]) (a : Fin n) (b : Fin 1) :
    broadcastInDim ⟨2, ![n, 1]⟩ ![0] h x (ix2 a b) = x (ix1 a) :=
  broadcastInDim_apply _ h x _ _ fun c => by
    match c with
    | ⟨0, _⟩ =>
      show a.val = if n = 1 then 0 else a.val
      by_cases hn : n = 1
      · rw [if_pos hn]; omega
      · rw [if_neg hn]

/-- A scalar spread over any shape reads the scalar. -/
theorem scalar_apply {α : Type} {s t : Shape} (hs : s.rank = 0) (x : α) (dims : Fin s.rank → Fin t.rank)
    (h : s.BroadcastsInDim t dims) (j : t.Idx) : broadcastInDim t dims h (fun _ : s.Idx => x) j = x := rfl

/-- A column laid down as a row. -/
theorem lay_apply {α : Type} {n : ℕ} (x : (⟨2, ![n, 1]⟩ : Shape).Idx → α) (h : Shape.ShapeCasts ⟨2, ![n, 1]⟩ ⟨2, ![1, n]⟩)
    (u : Fin 1) (b : Fin n) : shapeCast ⟨2, ![1, n]⟩ x h (ix2 u b) = x (ix2 b 0) :=
  shapeCast_apply x h _ _ (by
    rw [Shape.rowMajor_val_two, Shape.rowMajor_val_two]
    show b.val * 1 + 0 = u.val * n + b.val
    have : u.val = 0 := by omega
    rw [this]; omega)

/-- A column read as a vector. -/
theorem flat_apply {α : Type} {n : ℕ} (x : (⟨2, ![n, 1]⟩ : Shape).Idx → α) (h : Shape.ShapeCasts ⟨2, ![n, 1]⟩ ⟨1, ![n]⟩)
    (b : Fin n) : shapeCast ⟨1, ![n]⟩ x h (ix1 b) = x (ix2 b 0) :=
  shapeCast_apply x h _ _ (by
    rw [Shape.rowMajor_val_two, Shape.rowMajor_val_one]
    show b.val * 1 + 0 = b.val
    omega)

/-- Entry `(a, b)` of `before`: the two tokens chose the same expert and `b` comes first. -/
theorem before_apply (r : IVec S32768x1 32) (a b : Fin 32768) :
    before r (ix2 a b) = if r (ix2 a 0) = r (ix2 b 0) ∧ b.val < a.val then 1#1 else 0#1 := by
  unfold before
  show IntOp.andi (IntOp.cmpi .eq (broadcastInDim S32768x32768 ![0, 1] bcast_S32768x1_S32768x32768_0_1 r (ix2 a b))
      (broadcastInDim S32768x32768 ![0, 1] bcast_S1x32768_S32768x32768_0_1 (shapeCast S1x32768 r shapeCasts_S32768x1_S1x32768) (ix2 a b)))
    (IntOp.cmpi .slt (broadcastInDim S32768x32768 ![0, 1] bcast_S1x32768_S32768x32768_0_1 (shapeCast S1x32768 (iotaInDim S32768 32 0) shapeCasts_S32768_S1x32768) (ix2 a b))
      (broadcastInDim S32768x32768 ![0, 1] bcast_S32768x1_S32768x32768_0_1 (shapeCast S32768x1 (iotaInDim S32768 32 0) shapeCasts_S32768_S32768x1) (ix2 a b))) = _
  rw [col_apply r, row_apply (shapeCast S1x32768 r shapeCasts_S32768x1_S1x32768), lay_apply r,
    row_apply (shapeCast S1x32768 (iotaInDim S32768 32 0) shapeCasts_S32768_S1x32768), shapeCast_a_1a_apply,
    col_apply (shapeCast S32768x1 (iotaInDim S32768 32 0) shapeCasts_S32768_S32768x1), shapeCast_a_a1_apply, cmpi_eq_bit]
  show IntOp.andi _ (IntOp.cmpi .slt (BitVec.ofNat 32 b.val) (BitVec.ofNat 32 a.val)) = _
  rw [cmpi_slt_bit (by omega) (by omega)]
  by_cases h1 : r (ix2 a 0) = r (ix2 b 0) <;> by_cases h2 : b.val < a.val <;> simp [h1, h2, IntOp.andi]

/-- Entry `a` of `count`: the sum of the row's bits. -/
theorem count_apply (q : IVec S32768x32768 1) (a : Fin 32768) :
    count q (ix1 a) = ∑ b : Fin 32768, if q (ix2 a b) = 1#1 then (1 : BitVec 32) else 0 := by
  unfold count
  have hr : Shape.Reduces S32768x32768 [1] S32768 := by decide
  rw [Host.reduce_eq_fold, Shape.ReducesTo.drop_eq_drop _ hr, ← reduceFold_eq_fold]
  show reduceFold hr (· + ·) (0#32) _ (ix1 a) = _
  rw [reduceFold_add_eq_sum, show (0#32 : BitVec 32) = 0 from rfl, zero_add, hr.sum_filter_drop_single]
  refine sum_congr rfl fun b _ => ?_
  have hl : hr.lift (ix1 a) b = ix2 a b := by
    funext c
    match c with
    | ⟨0, _⟩ => exact Fin.ext rfl
    | ⟨1, _⟩ => exact Fin.ext rfl
  rw [hl]
  rfl

/-- A token's expert. -/
theorem expert_apply (r : IVec S32768x1 32) (a : Fin 32768) : expert r (ix1 a) = r (ix2 a 0) := flat_apply r _ a

/-- Entry `a` of `taken`, as its three comparisons. -/
theorem taken_apply (n e : IVec S32768 32) (a : Fin 32768) :
    taken n e (ix1 a) = IntOp.andi (IntOp.andi (IntOp.cmpi .slt (n (ix1 a)) 409#32) (IntOp.cmpi .sge (e (ix1 a)) 0#32))
      (IntOp.cmpi .slt (e (ix1 a)) 64#32) := rfl

/-- Entry `(a, h)` of `masked`. -/
theorem masked_apply (t : IVec S32768 1) (y : FVec Ideal S32768x1024 .f32) (a : Fin 32768) (h : Fin 1024) :
    masked t y (ix2 a h) = if t (ix1 a) = 1#1 then y (ix2 a h) else 0 := by
  unfold masked
  show Scalar.select (broadcastInDim S32768x1024 ![0, 1] bcast_S32768x1_S32768x1024_0_1
    (broadcastInDim S32768x1 ![0] bcast_S32768_S32768x1_0 t) (ix2 a h)) (y (ix2 a h)) (Ideal.ofBits .f32 0x00000000#32) = _
  rw [col_apply (broadcastInDim S32768x1 ![0] bcast_S32768_S32768x1_0 t), stand_apply, Ideal.ofBits_zero_f32]
  rfl

end Cert.Moe.Ref

end
-- ==== Proof.Count.lean ====
/-
  The two counts agree.  The reference counts, among the 32768 tokens, those before a token that chose the same expert; the
  kernel counts them device by device.  Token `t` of device `c` is token `2048 c + t` of the whole.
-/
module

public import proofs.«01_k».proof.Proof.RefVal

@[expose] public section

set_option maxRecDepth 8192

noncomputable section

namespace Cert.Moe

open Idealize.ShloMosaic Idealize.ShloMosaic.TcCoe Idealize.ShloMosaic.ValueIdx
open Finset

/-- Token `t` of device `c` among all tokens. -/
def tok (c : Fin 16) (t : Fin 2048) : Fin 32768 := ⟨c.val * 2048 + t.val, by omega⟩

/-- The tokens, device by device. -/
def tokEquiv : Fin 16 × Fin 2048 ≃ Fin 32768 where
  toFun p := tok p.1 p.2
  invFun b := (⟨b.val / 2048, by omega⟩, ⟨b.val % 2048, by omega⟩)
  left_inv p := by
    obtain ⟨c, t⟩ := p
    refine Prod.ext (Fin.ext ?_) (Fin.ext ?_)
    · show (c.val * 2048 + t.val) / 2048 = c.val; omega
    · show (c.val * 2048 + t.val) % 2048 = t.val; omega
  right_inv b := Fin.ext (by show b.val / 2048 * 2048 + b.val % 2048 = b.val; omega)

/-- A sum over all tokens, device by device. -/
theorem sum_tok (f : Fin 32768 → BitVec 32) : ∑ b, f b = ∑ d : Fin 16, ∑ i : Fin 2048, f (tok d i) := by
  rw [← tokEquiv.sum_comp, Fintype.sum_prod_type]
  rfl

/-- A sum over the first values, as a sum over all with the later ones counting as 0. -/
theorem sum_first (f : ℕ → BitVec 32) {n t : ℕ} (h : t ≤ n) : ∑ i ∈ range t, f i = ∑ i : Fin n, if i.val < t then f i.val else 0 := by
  rw [Fin.sum_univ_eq_sum_range (fun i => if i < t then f i else 0) n, ← sum_filter]
  refine sum_congr ?_ fun _ _ => rfl
  ext i; simp only [mem_filter, mem_range]; omega

/-- The reference's count at a token of device `c` that chose expert `e`: the tokens of the earlier devices, and the earlier
    tokens of its own, that chose `e`. -/
theorem count_eq (r : IVec ⟨2, ![32768, 1]⟩ 32) (rb : Fin 16 → IVec ⟨2, ![2048, 1]⟩ 32)
    (hr : ∀ d i, rb d (ix2 i 0) = r (ix2 (tok d i) 0)) (c : Fin 16) (t : Fin 2048) (e : Fin 64)
    (he : rb c (ix2 t 0) = BitVec.ofNat 32 e.val) :
    Ref.count (Ref.before r) (ix1 (tok c t))
      = (∑ d : Fin 16, if d.val < c.val then ∑ i ∈ range 2048, chose (rb d) e i else 0) + ∑ i ∈ range t.val, chose (rb c) e i := by
  have hx (b : Fin 32768) : (if Ref.before r (ix2 (tok c t) b) = 1#1 then (1 : BitVec 32) else 0)
      = if r (ix2 b 0) = BitVec.ofNat 32 e.val ∧ b.val < (tok c t).val then 1 else 0 := by
    rw [Ref.before_apply, ← hr, he]
    by_cases h : BitVec.ofNat 32 e.val = r (ix2 b 0) ∧ b.val < (tok c t).val
    · rw [if_pos h, if_pos rfl, if_pos ⟨h.1.symm, h.2⟩]
    · rw [if_neg h, if_neg (by decide), if_neg (fun h' => h ⟨h'.1.symm, h'.2⟩)]
  have hd (d : Fin 16) : (∑ i : Fin 2048, if r (ix2 (tok d i) 0) = BitVec.ofNat 32 e.val ∧ (tok d i).val < (tok c t).val then (1 : BitVec 32) else 0)
      = (if d.val < c.val then ∑ i ∈ range 2048, chose (rb d) e i else 0) + if d = c then ∑ i ∈ range t.val, chose (rb d) e i else 0 := by
    rw [sum_first (chose (rb d) e) (le_refl 2048), sum_first (chose (rb d) e) (le_of_lt t.isLt)]
    have hc (i : Fin 2048) : chose (rb d) e i.val = if r (ix2 (tok d i) 0) = BitVec.ofNat 32 e.val then 1 else 0 := by
      unfold chose; rw [dif_pos i.isLt, ← hr]
    rcases lt_trichotomy d.val c.val with h | h | h
    · rw [if_pos h, if_neg (fun h' => by rw [h'] at h; exact lt_irrefl _ h), add_zero]
      refine sum_congr rfl fun i _ => ?_
      rw [if_pos i.isLt, hc]
      have : (tok d i).val < (tok c t).val := by show d.val * 2048 + i.val < c.val * 2048 + t.val; omega
      simp only [this, and_true]
    · rw [if_neg (by omega), if_pos (Fin.ext h), zero_add]
      refine sum_congr rfl fun i _ => ?_
      rw [hc]
      have : (tok d i).val < (tok c t).val ↔ i.val < t.val := by
        show d.val * 2048 + i.val < c.val * 2048 + t.val ↔ _; omega
      by_cases hi : i.val < t.val
      · simp only [this, hi, and_true, if_true]
      · simp only [this, hi, and_false, if_false]
    · rw [if_neg (by omega), if_neg (fun h' => by rw [h'] at h; exact lt_irrefl _ h), add_zero]
      refine sum_eq_zero fun i _ => if_neg fun h' => ?_
      have : d.val * 2048 + i.val < c.val * 2048 + t.val := h'.2
      omega
  rw [Ref.count_apply, sum_congr rfl fun b _ => hx b, sum_tok, sum_congr rfl fun d _ => hd d, sum_add_distrib,
    sum_ite_eq' univ c, if_pos (mem_univ c)]

/-- A word that is at least 0 and below 64 names one of the 64 experts, and those words are. -/
theorem genuine_iff (x : BitVec 32) : (IntOp.cmpi .sge x 0#32 = 1#1 ∧ IntOp.cmpi .slt x 64#32 = 1#1) ↔ ∃ e : Fin 64, x = BitVec.ofNat 32 e.val := by
  constructor
  · rintro ⟨h0, h1⟩
    have h0 : BitVec.ofBool (BitVec.sle 0#32 x) = 1#1 := h0
    have h1 : BitVec.ofBool (BitVec.slt x 64#32) = 1#1 := h1
    have h0 : BitVec.sle 0#32 x = true := by cases hb : BitVec.sle 0#32 x <;> simp_all
    have h1 : BitVec.slt x 64#32 = true := by cases hb : BitVec.slt x 64#32 <;> simp_all
    have h0 := of_decide_eq_true h0
    have h1 := of_decide_eq_true h1
    rw [show (64#32 : BitVec 32).toInt = 64 from rfl] at h1
    rw [show (0#32 : BitVec 32).toInt = 0 from rfl] at h0
    have hn : x.toNat < 64 := by
      rw [BitVec.toInt_eq_toNat_cond] at h0 h1
      have := x.isLt
      split at h0 <;> omega
    exact ⟨⟨x.toNat, hn⟩, (BitVec.ofNat_toNat 32 x).symm.trans (by simp)⟩
  · rintro ⟨e, rfl⟩
    revert e
    decide

end Cert.Moe

end
-- ==== Proof.RefProd.lean ====
/-
  The reference's product entry by entry: token `T`, column `h` is the sum over the 512 features of the token's feature
  times the weight of its expert, for a token whose expert is one of the 64.
-/
module

public import proofs.«01_k».proof.Proof.RefVal
public import Idealize.ShloMosaic.PureOps.Ideal.Laws

@[expose] public section

set_option maxRecDepth 8192

noncomputable section

namespace Cert.Moe.Ref

open Cert.ReferenceIdeal Cert.ReferenceIdeal.Gen
open Idealize.ShloMosaic Idealize.ShloMosaic.TcCoe Idealize.ShloMosaic.ValueIdx
open Finset

/-- The dimension numbers of taking a matrix per token out of a stack of matrices. -/
abbrev takeMat (N B D H : ℕ)
    (wf : GatherDims.WF ⟨3, ![N, D, H]⟩ ⟨2, ![B, 1]⟩ ⟨3, ![B, D, H]⟩ [1, 2] [0] [] [0] [] 1 ![1, D, H]) :
    GatherDims ⟨3, ![N, D, H]⟩ ⟨2, ![B, 1]⟩ ⟨3, ![B, D, H]⟩ where
  offsetDims := [1, 2]
  collapsedSliceDims := [0]
  operandBatchingDims := []
  startIndicesBatchingDims := []
  startIndexMap := [0]
  indexVectorDim := 1
  sliceSizes := ![1, D, H]
  wf := wf

/-- The matrix taken for token `b` is the one its index names, read signed and clamped to the stack. -/
theorem takeMat_apply {α : Type} {N B D H w : ℕ} (hN : 0 < N)
    (wf : GatherDims.WF ⟨3, ![N, D, H]⟩ ⟨2, ![B, 1]⟩ ⟨3, ![B, D, H]⟩ [1, 2] [0] [] [0] [] 1 ![1, D, H])
    (x : (⟨3, ![N, D, H]⟩ : Shape).Idx → α) (idx : IVec ⟨2, ![B, 1]⟩ w) (b : Fin B) (d : Fin D) (h : Fin H) :
    Host.gather (takeMat N B D H wf) x idx (ix3 b d h)
      = x (ix3 ⟨min (idx (ix2 b 0)).toInt.toNat (N - 1), by omega⟩ d h) := by
  unfold Host.gather
  refine congrArg x ?_
  have hsi : (takeMat N B D H wf).siIdx (ix3 b d h) ⟨List.idxOf (0 : Fin 3) (takeMat N B D H wf).startIndexMap,
      List.idxOf_lt_length_iff.2 (List.mem_singleton.mpr rfl)⟩ = ix2 b 0 := by
    funext c; refine Fin.ext ?_
    match c with
    | ⟨0, _⟩ => rfl
    | ⟨1, _⟩ => rfl
  have h0 : (takeMat N B D H wf).start (ix3 b d h) idx 0 = min (idx (ix2 b 0)).toInt.toNat (N - 1) := by
    unfold GatherDims.start
    rw [dif_pos (show (0 : Fin 3) ∈ (takeMat N B D H wf).startIndexMap from List.mem_singleton.mpr rfl), hsi]
    rfl
  have hn (a : Fin 3) (ha : a ≠ 0) : (takeMat N B D H wf).start (ix3 b d h) idx a = 0 := by
    unfold GatherDims.start
    rw [dif_neg (fun hm => ha (List.mem_singleton.mp hm))]
  funext a
  refine Fin.ext ?_
  show (takeMat N B D H wf).start (ix3 b d h) idx a + (takeMat N B D H wf).batchCoord (ix3 b d h) a
    + (takeMat N B D H wf).offCoord (ix3 b d h) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)),
      Nat.add_zero]
    exact h0
  | ⟨1, _⟩ => exact (congrArg (· + _) (hn 1 (by decide))).trans (Nat.zero_add _)
  | ⟨2, _⟩ => exact (congrArg (· + _) (hn 2 (by decide))).trans (Nat.zero_add _)

/-- Entry `(a, h)` of the product of each token's row with its own matrix. -/
theorem prod_apply (x : FVec Ideal S32768x512 .f32) (w : FVec Ideal S64x512x1024 .f32) (e : IVec S32768 32)
    (a : Fin 32768) (h : Fin 1024) (k : Fin 64) (hk : e (ix1 a) = BitVec.ofNat 32 k.val) :
    prod x w e (ix2 a h) = ∑ d : Fin 512, x (ix2 a d) * w (ix3 k d h) := by
  unfold prod
  simp only [Host.dotGeneral]
  rw [Ideal.dotGeneral_apply]
  have hs : dot_S32768x512_S32768x512x1024_S32768x1024_1_1_n_2_0_0.contr.size ⟨0, by decide⟩ = 512 := rfl
  rw [← (contrEquiv1 dot_S32768x512_S32768x512x1024_S32768x1024_1_1_n_2_0_0 512 rfl hs).symm.sum_comp]
  refine sum_congr rfl fun d _ => ?_
  have hl : dot_S32768x512_S32768x512x1024_S32768x1024_1_1_n_2_0_0.lhsIdx (ix2 a h)
      ((contrEquiv1 dot_S32768x512_S32768x512x1024_S32768x1024_1_1_n_2_0_0 512 rfl hs).symm d) = ix2 a d := by
    funext c; refine Fin.ext ?_
    match c with
    | ⟨0, _⟩ => rfl
    | ⟨1, _⟩ => exact contrEquiv1_symm_val _ 512 rfl hs d
  have hr : dot_S32768x512_S32768x512x1024_S32768x1024_1_1_n_2_0_0.rhsIdx (ix2 a h)
      ((contrEquiv1 dot_S32768x512_S32768x512x1024_S32768x1024_1_1_n_2_0_0 512 rfl hs).symm d) = ix3 a d h := by
    funext c; refine Fin.ext ?_
    match c with
    | ⟨0, _⟩ => rfl
    | ⟨1, _⟩ => exact contrEquiv1_symm_val _ 512 rfl hs d
    | ⟨2, _⟩ => rfl
  rw [hl, hr]
  refine congrArg (x (ix2 a d) * ·) ?_
  refine (takeMat_apply (by omega) gather_S64x512x1024_S32768x1_S32768x512x1024_12_0_n_n_0_1_15121024_wf w _ a d h).trans ?_
  refine congrArg (fun n => w (ix3 n d h)) (Fin.ext ?_)
  show min (broadcastInDim S32768x1 ![0] bcast_S32768_S32768x1_0 e (ix2 a 0)).toInt.toNat (64 - 1) = k.val
  rw [stand_apply, hk, BitVec.toInt_eq_toNat_of_lt (by rw [BitVec.toNat_ofNat, Nat.mod_eq_of_lt (by omega)]; omega),
    BitVec.toNat_ofNat, Nat.mod_eq_of_lt (by omega)]
  omega

end Cert.Moe.Ref

end
-- ==== Proof.Value.lean ====
/-
  The value of the kernel against the reference: each device's output is its block of the reference's result.
-/
module

public import proofs.«01_k».proof.Proof.Frames
public import proofs.«01_k».proof.Proof.Expert
public import proofs.«01_k».proof.Proof.Count
public import proofs.«01_k».proof.Proof.RefProd
public import Idealize.ShloMosaic.Lib.Pipeline.ValueKit

@[expose] public section

set_option maxRecDepth 16384

noncomputable section

namespace Cert.Moe

open Idealize.ShloMosaic hiding ix1 ix2 ix3 eq_ix2
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Pipeline (Dat Cfg Window BodyObligation cellOf)
open Cert.KernelIdeal Cert.KernelIdeal.Gen

open Idealize.ShloMosaic.ValueIdx
open Finset

variable (m : (ℓ : Loc nD τ sig) → Buf (Elt Ideal) ℓ)

/-- The window of the tokens is the whole argument, -/
theorem xB_eq (c : Dev nD) : xB m c = m ((c.tc : Thread nD τ).loc main_arg0) := by
  have idx (a : Fin 2) : win0_0.index t0_0 a = 0 := by revert a; decide +kernel
  unfold xB
  funext j
  blk_ext [iblk, V, idx]

/-- that of the tokens' experts likewise, -/
theorem ridxB_eq (c : Dev nD) : ridxB m c = m ((c.tc : Thread nD τ).loc main_arg2) := by
  have idx (a : Fin 2) : win0_1.index t0_0 a = 0 := by revert a; decide +kernel
  unfold ridxB
  funext j
  blk_ext [iblk, V, idx]

/-- and that of the weights. -/
theorem ewB_eq (c : Dev nD) : ewB m c = m ((c.tc : Thread nD τ).loc main_arg3) := by
  have idx (a : Fin 3) : win0_2.index t0_0 a = 0 := by revert a; decide +kernel
  unfold ewB
  funext j
  blk_ext [iblk, V, idx]

/-- The kernel's result array is what its body leaves in the output's window. -/
theorem out_eq (c : Dev nD) : (dats m 0 c).arrAt (3 : Fin 4) cfg0.N = outV m c := by
  have idx (a : Fin 2) : win0_3.index t0_0 a = 0 := by revert a; decide +kernel
  refine (dats m 0 c).arrAt_eq_of_after_last 3 t0_0 (by decide +kernel) _ fun j => ?_
  show outV m c _ = outV m c _
  blk_ext [idx]

variable {X : FVec Ideal ⟨2, ![32768, 512]⟩ .f32} {R : IVec ⟨2, ![32768, 1]⟩ 32} {W : FVec Ideal ⟨3, ![64, 512, 1024]⟩ .f32}

/-- Token `t` of device `c` is kept exactly when the reference counts fewer than 409 earlier tokens on its expert. -/
theorem keep_eq (hR : ∀ d i, ridxB m d (ix2 i 0) = R (ix2 (tok d i) 0)) (c : Dev nD) (t : Fin 2048) (e : Fin 64)
    (he : ridxB m c (ix2 t 0) = BitVec.ofNat 32 e.val) :
    k0_pay22 (k0_pay16 (ridxB m c)) (k0_pay18 (BitVec.ofNat 32 c.val) (tab m)) (k0_pay19 (ridxB m c)) k0_pay20 (k0_pay21 (ridxB m c)) (ix2 t 0)
      = IntOp.cmpi .slt (Ref.count (Ref.before R) (ix1 (tok c t))) 409#32 := by
  rw [keep_apply, rank_sum (ridxB m c) (fun l => k0_pay18 (BitVec.ofNat 32 c.val) (tab m) (ix2 0 l) + ∑ i ∈ range t.val, chose (ridxB m c) l i) t e he,
    count_eq R (ridxB m) hR c t e he, prior_apply c.val c.isLt]
  refine congrArg (fun z => IntOp.cmpi .slt (z + _) 409#32) ?_
  refine sum_congr rfl fun d _ => ?_
  have ht : tab m (ix2 d e) = ∑ i ∈ range 2048, chose (ridxB m d) e i := counts_apply (F := Ideal) (ridxB m d) 0 e
  rw [← ht]

/-- Each device's output is its block of the reference's result. -/
theorem outV_eq (hX : ∀ d i k, xB m d (ix2 i k) = X (ix2 (tok d i) k)) (hR : ∀ d i, ridxB m d (ix2 i 0) = R (ix2 (tok d i) 0))
    (hW : ∀ (d : Dev nD) (j : Fin 4) k h, ewB m d (ix3 j k h) = W (ix3 ⟨d.val * 4 + j.val, by have : d.val < 16 := d.isLt; omega⟩ k h))
    (c : Dev nD) (t : Fin 2048) (h : Fin 1024) : outV m c (ix2 t h) = Ref.refOut X R W (ix2 (tok c t) h) := by
  unfold outV Ref.refOut
  have h35 : k0_pay15 (ridxB m c) = ridxB m c := shapeCast_self _ _
  have h108 : k0_pay23 (xB m c) = xB m c := shapeCast_self _ _
  rw [h35, h108, Ref.masked_apply, Ref.taken_apply, Ref.expert_apply, ← hR c t]
  by_cases hg : ∃ e : Fin 64, ridxB m c (ix2 t 0) = BitVec.ofNat 32 e.val
  · obtain ⟨e, he⟩ := hg
    obtain ⟨h0, h1⟩ := (genuine_iff (ridxB m c (ix2 t 0))).mpr ⟨e, he⟩
    have hk := keep_eq m hR c t e he
    rw [h0, h1, ← hk]
    generalize hv : k0_pay22 (k0_pay16 (ridxB m c)) (k0_pay18 (BitVec.ofNat 32 c.val) (tab m)) (k0_pay19 (ridxB m c)) k0_pay20 (k0_pay21 (ridxB m c)) = v
    by_cases hq : v (ix2 t 0) = 1#1
    · rw [hq, if_pos (by decide), accW_kept m c _ _ _ t h ⟨e.val / 4, by show _ < 16; omega⟩ ⟨e.val % 4, by omega⟩ hq
        (by rw [he]; refine congrArg _ ?_; show e.val = e.val / 4 * 4 + e.val % 4; omega),
        Ref.prod_apply X W _ (tok c t) h e (by rw [Ref.expert_apply, ← hR c t, he])]
      refine sum_congr rfl fun k _ => ?_
      rw [hX]
      refine congrArg (X (ix2 (tok c t) k) * ·) ((hW _ _ k h).trans (congrArg (fun n => W (ix3 n k h)) (Fin.ext ?_)))
      show e.val / 4 * 4 + e.val % 4 = e.val
      omega
    · rw [eq_zero_of_ne_one hq, if_neg (by decide)]
      exact accW_dropped m c _ _ _ t h fun hh => hq hh.1
  · rw [accW_dropped m c _ _ _ t h fun hh => hg hh.2, if_neg]
    intro hh
    refine hg ((genuine_iff _).mp ?_)
    generalize IntOp.cmpi .sge (ridxB m c (ix2 t 0)) 0#32 = a at hh ⊢
    generalize IntOp.cmpi .slt (ridxB m c (ix2 t 0)) 64#32 = b at hh ⊢
    generalize IntOp.cmpi .slt (Ref.count (Ref.before R) (ix1 (tok c t))) 409#32 = d at hh
    revert a b d
    decide

/-- The idealized kernel and the reference, from memories that agree, end with agreeing results. -/
theorem algebraic : Cert.algebraic_KernelIdeal_ReferenceIdeal := by
  intro m g m' g' _ hm
  refine ⟨Ref.refOut (F := Ideal) (m' (((0 : Dev ReferenceIdeal.nD).tc : Thread ReferenceIdeal.nD ReferenceIdeal.τ).loc ReferenceIdeal.main_arg0))
    (m' (((0 : Dev ReferenceIdeal.nD).tc : Thread ReferenceIdeal.nD ReferenceIdeal.τ).loc ReferenceIdeal.main_arg2))
    (m' (((0 : Dev ReferenceIdeal.nD).tc : Thread ReferenceIdeal.nD ReferenceIdeal.τ).loc ReferenceIdeal.main_arg3)), ?_, ?_⟩
  · refine (θ_run KernelIdeal.defs _ _).mono (fun r h c => ⟨(h.1 c).1.trans ((out_eq m c).trans ?_), (h.1 c).2⟩) (run_named (F := Ideal) m g)
    funext j
    obtain ⟨t, k, rfl⟩ : ∃ (t : Fin 2048) (k : Fin 1024), j = ix2 t k := ⟨_, _, eq_ix2 j⟩
    rw [Layout.block_apply]
    refine (outV_eq m (fun d i k => ?_) (fun d i => ?_) (fun d j k h => ?_) c t k).trans (congrArg _ ?_)
    · rw [xB_eq, (hm d).1, Layout.block_apply]
      refine congrArg _ (funext fun a => Fin.ext ?_)
      match a with
      | ⟨0, _⟩ => rfl
      | ⟨1, _⟩ => rfl
    · rw [ridxB_eq, (hm d).2.2.1, Layout.block_apply]
      refine congrArg _ (funext fun a => Fin.ext ?_)
      match a with
      | ⟨0, _⟩ => rfl
      | ⟨1, _⟩ => rfl
    · rw [ewB_eq, (hm d).2.2.2, Layout.block_apply]
      refine congrArg _ (funext fun a => Fin.ext ?_)
      match a with
      | ⟨0, _⟩ => rfl
      | ⟨1, _⟩ => rfl
      | ⟨2, _⟩ => rfl
    · refine funext fun a => Fin.ext ?_
      match a with
      | ⟨0, _⟩ => rfl
      | ⟨1, _⟩ => rfl
  · exact (θ_run ReferenceIdeal.defs _ _).mono (fun r h => h 0) (Ref.run (F := Ideal) m' g')

end Cert.Moe

end
-- ==== Proof.lean ====
/-
  The certificate: each claim from its own module.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Value

@[expose] public section

namespace Cert.Proof

/-- Every claim, the programs' side conditions being the generated ones. -/
theorem claim : Cert.Claim :=
  ⟨Cert.Kernel.Gen.facts, Cert.KernelIdeal.Gen.facts, Cert.ReferenceIdeal.Gen.facts,
    Cert.Moe.frame_kernel, Cert.Moe.frame_ideal, Cert.Moe.frame_reference, trivial, Cert.Moe.algebraic⟩

end Cert.Proof
